-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S4x8192x1024 : Shape := ⟨3, ![4, 8192, 1024]⟩
abbrev S4x8192x128 : Shape := ⟨3, ![4, 8192, 128]⟩
abbrev S8x8x1024 : Shape := ⟨3, ![8, 8, 1024]⟩
abbrev S1x8x1024x7168 : Shape := ⟨4, ![1, 8, 1024, 7168]⟩
abbrev S1x8x3584x1024 : Shape := ⟨4, ![1, 8, 3584, 1024]⟩
abbrev S1024 : Shape := ⟨1, ![1024]⟩
abbrev S4x8192x8 : Shape := ⟨3, ![4, 8192, 8]⟩
abbrev S_ : Shape := ⟨0, ![]⟩

class Facts : Prop where
  slices_S4x8192x128_S4x8192x8_0_0_0 : S4x8192x128.Slices ![0, 0, 0] S4x8192x8
  bcast_S_S4x8192x8 : S_.BroadcastsInDim S4x8192x8 (![] : Fin 0 → Fin S4x8192x8.rank)
  reducesTo_S4x8192x8_S_d0_1_2 : S4x8192x8.ReducesTo [0, 1, 2] S_
  h_S_ : 0 < S_.numel

variable [Facts]

def fn {F : FTy → Type} [FloatOps F] (main_arg0 : FVec F S4x8192x1024 .f32) (main_arg1 : FVec F S4x8192x1024 .bf16) (main_arg2 : FVec F S4x8192x128 .f32) (main_arg3 : FVec F S8x8x1024 .f32) (main_arg4 : FVec F S1x8x1024x7168 .f32) (main_arg5 : FVec F S1x8x3584x1024 .f32) (main_arg6 : FVec F S1024 .f32) : IVec S_ 1 :=
  let main_v0 : FVec F S4x8192x8 .f32 := (extractStridedSlice S4x8192x8 ![0, 0, 0] · slices_S4x8192x128_S4x8192x8_0_0_0) main_arg2
  let main_cst : FVec F S_ .f32 := constant S_ .f32 0x00000000#32
  let main_v1 : FVec F S4x8192x8 .f32 := broadcastInDim S4x8192x8 ![] bcast_S_S4x8192x8 main_cst
  let main_v2 : IVec S4x8192x8 1 := cmpf .oge main_v0 main_v1
  let main_c : IVec S_ 1 := constantI S_ 1 1#1
  let main_v3 : IVec S_ 1 := (fun x v => Host.reduce IntOp.andi x v reducesTo_S4x8192x8_S_d0_1_2 h_S_) main_v2 main_c
  main_v3
-- ==== Kernel.lean ====
abbrev S4x8192x1024 : Shape := ⟨3, ![4, 8192, 1024]⟩
abbrev S4x8192x128 : Shape := ⟨3, ![4, 8192, 128]⟩
abbrev S8x8x1024 : Shape := ⟨3, ![8, 8, 1024]⟩
abbrev S1x8x1024x7168 : Shape := ⟨4, ![1, 8, 1024, 7168]⟩
abbrev S1x8x3584x1024 : Shape := ⟨4, ![1, 8, 3584, 1024]⟩
abbrev S1024 : Shape := ⟨1, ![1024]⟩
abbrev S8x1024x7168 : Shape := ⟨3, ![8, 1024, 7168]⟩
abbrev S8x3584x1024 : Shape := ⟨3, ![8, 3584, 1024]⟩
abbrev S4x8192x8 : Shape := ⟨3, ![4, 8192, 8]⟩
abbrev S_ : Shape := ⟨0, ![]⟩
abbrev S4x8x1024x8 : Shape := ⟨4, ![4, 8, 1024, 8]⟩
abbrev S4x8x8 : Shape := ⟨3, ![4, 8, 8]⟩
abbrev S256 : Shape := ⟨1, ![256]⟩
abbrev S1x1024 : Shape := ⟨2, ![1, 1024]⟩
abbrev S1x1024x1024 : Shape := ⟨3, ![1, 1024, 1024]⟩
abbrev S1x1024x128 : Shape := ⟨3, ![1, 1024, 128]⟩
abbrev S1x8x1024 : Shape := ⟨3, ![1, 8, 1024]⟩
abbrev S1x1024x896 : Shape := ⟨3, ![1, 1024, 896]⟩
abbrev S1x896x1024 : Shape := ⟨3, ![1, 896, 1024]⟩
abbrev S1024x1024 : Shape := ⟨2, ![1024, 1024]⟩
abbrev S1024x128 : Shape := ⟨2, ![1024, 128]⟩
abbrev S128x1024 : Shape := ⟨2, ![128, 1024]⟩
abbrev S1 : Shape := ⟨1, ![1]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩
abbrev S128 : Shape := ⟨1, ![128]⟩
abbrev S256x1024 : Shape := ⟨2, ![256, 1024]⟩
abbrev S64x1024 : Shape := ⟨2, ![64, 1024]⟩
abbrev S192x1024 : Shape := ⟨2, ![192, 1024]⟩
abbrev S320x1024 : Shape := ⟨2, ![320, 1024]⟩
abbrev S1024x896 : Shape := ⟨2, ![1024, 896]⟩
abbrev S256x896 : Shape := ⟨2, ![256, 896]⟩
abbrev S896x1024 : Shape := ⟨2, ![896, 1024]⟩
abbrev S64x896 : Shape := ⟨2, ![64, 896]⟩
abbrev S128x896 : Shape := ⟨2, ![128, 896]⟩
abbrev S192x896 : Shape := ⟨2, ![192, 896]⟩
abbrev S320x896 : Shape := ⟨2, ![320, 896]⟩
abbrev S1024x1 : Shape := ⟨2, ![1024, 1]⟩
abbrev S1024x256 : Shape := ⟨2, ![1024, 256]⟩
abbrev S1024x64 : Shape := ⟨2, ![1024, 64]⟩
abbrev S1024x192 : Shape := ⟨2, ![1024, 192]⟩
abbrev S1024x320 : Shape := ⟨2, ![1024, 320]⟩
abbrev S1x1x1024 : Shape := ⟨3, ![1, 1, 1024]⟩

abbrev nBuf : Space → Nat
  | .hbm => 21
  | .vmem => 22
  | .smem => 1
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x128, .f32⟩
  | .hbm, ⟨3, _⟩ => ⟨S8x8x1024, .f32⟩
  | .hbm, ⟨4, _⟩ => ⟨S1x8x1024x7168, .f32⟩
  | .hbm, ⟨5, _⟩ => ⟨S1x8x3584x1024, .f32⟩
  | .hbm, ⟨6, _⟩ => ⟨S1024, .f32⟩
  | .hbm, ⟨7, _⟩ => ⟨S8x1024x7168, .f32⟩
  | .hbm, ⟨8, _⟩ => ⟨S8x1024x7168, .bf16⟩
  | .hbm, ⟨9, _⟩ => ⟨S8x3584x1024, .f32⟩
  | .hbm, ⟨10, _⟩ => ⟨S8x3584x1024, .bf16⟩
  | .hbm, ⟨11, _⟩ => ⟨S4x8192x8, .f32⟩
  | .hbm, ⟨12, _⟩ => ⟨S_, .f32⟩
  | .hbm, ⟨13, _⟩ => ⟨S4x8192x8, .f32⟩
  | .hbm, ⟨14, _⟩ => ⟨S4x8192x8, .i1⟩
  | .hbm, ⟨15, _⟩ => ⟨S4x8x1024x8, .i1⟩
  | .hbm, ⟨16, _⟩ => ⟨S4x8x1024x8, .i32⟩
  | .hbm, ⟨17, _⟩ => ⟨S_, .i32⟩
  | .hbm, ⟨18, _⟩ => ⟨S4x8x8, .i32⟩
  | .hbm, ⟨19, _⟩ => ⟨S1x1024, .f32⟩
  | .hbm, ⟨20, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x8x1024, .f32⟩
  | .local _ .vmem, ⟨7, _⟩ => ⟨S1x8x1024, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .f32⟩
  | .local _ .vmem, ⟨20, _⟩ => ⟨S1024x128, .f32⟩
  | .local _ .vmem, ⟨21, _⟩ => ⟨S128x1024, .f32⟩
  | .local _ .smem, ⟨0, _⟩ => ⟨S256, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v11 : Ref sig .tc := ⟨.hbm, 19, rfl⟩
abbrev main_v12 : Ref sig .tc := ⟨.hbm, 20, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨4, ![4, 8, 8, 4], ![false, false, false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_0 : BitVec 32 := 8#32
  let v2 : BitVec 32 := Scalar.muli v1 c8_i32_0
  let arg2 : BitVec 32 := BitVec.ofNat 32 (i 2).val
  let v3 : BitVec 32 := Scalar.addi v2 arg2
  let v4 : Index := Scalar.indexCast v3
  ![v4.toNat]
def k0_cond2 (i : grid0.Coords) : BitVec 1 :=
  let arg3 : BitVec 32 := BitVec.ofNat 32 (i 3).val
  let c0_i32_10 : BitVec 32 := 0#32
  let v30 : BitVec 1 := Scalar.cmpi .eq arg3 c0_i32_10
  let v31 : BitVec 32 := Scalar.extui v30
  let c0_i32_11 : BitVec 32 := 0#32
  let v32 : BitVec 1 := Scalar.cmpi .ne v31 c0_i32_11
  v32

def k0_off2 (i : grid0.Coords) : Fin 2 → Nat :=
  let arg2 : BitVec 32 := BitVec.ofNat 32 (i 2).val
  let v89 : Index := Scalar.indexCast arg2
  let c0 : Index := 0#32
  ![v89.toNat, 0]
@[reducible] def k0_t1_loop (v5 : BitVec 32) : Scf.Loop 32 :=
  let c0_i32_55 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let v123 : BitVec 32 := Scalar.subi v111 c0_i32_55
  let c1_i32_56 : BitVec 32 := 1#32
  let v125 : BitVec 32 := Scalar.divsi v123 c1_i32_56
  let v126 : BitVec 32 := Scalar.muli v125 c1_i32_56
  let v127 : BitVec 32 := Scalar.addi c0_i32_55 v126
  let c1_i32_57 : BitVec 32 := 1#32
  ⟨c0_i32_55, v127, c1_i32_57⟩

def k0_mult1 (v5 : BitVec 32) (k0_t1 : Fin (k0_t1_loop v5).trips) : BitVec 32 :=
  let c0_i32_55 : BitVec 32 := 0#32
  let c1_i32_57 : BitVec 32 := 1#32
  let arg19 : BitVec 32 := Scf.iv c0_i32_55 c1_i32_57 k0_t1
  let c256_i32 : BitVec 32 := 256#32
  let v139 : BitVec 32 := Scalar.muli arg19 c256_i32
  v139
def k0_off3 (v5 : BitVec 32) (k0_t1 : Fin (k0_t1_loop v5).trips) : Fin 2 → Nat :=
  let c0_i32_55 : BitVec 32 := 0#32
  let c1_i32_57 : BitVec 32 := 1#32
  let arg19 : BitVec 32 := Scf.iv c0_i32_55 c1_i32_57 k0_t1
  let c256_i32 : BitVec 32 := 256#32
  let v139 : BitVec 32 := Scalar.muli arg19 c256_i32
  let v140 : BitVec 32 := v139
  let v154 : Index := Scalar.indexCast v140
  let c0_69 : Index := 0#32
  ![v154.toNat, 0]
@[reducible] def k0_t2_loop (v5 : BitVec 32) : Scf.Loop 32 :=
  let c0_i32_55 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let v123 : BitVec 32 := Scalar.subi v111 c0_i32_55
  let c1_i32_56 : BitVec 32 := 1#32
  let v125 : BitVec 32 := Scalar.divsi v123 c1_i32_56
  let v126 : BitVec 32 := Scalar.muli v125 c1_i32_56
  let v127 : BitVec 32 := Scalar.addi c0_i32_55 v126
  let v124 : BitVec 32 := Scalar.addi c0_i32_55 v123
  let c1_i32_58 : BitVec 32 := 1#32
  ⟨v127, v124, c1_i32_58⟩
def k0_mult2 (v5 : BitVec 32) (k0_t2 : Fin (k0_t2_loop v5).trips) : BitVec 32 :=
  let c0_i32_55 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let v123 : BitVec 32 := Scalar.subi v111 c0_i32_55
  let c1_i32_56 : BitVec 32 := 1#32
  let v125 : BitVec 32 := Scalar.divsi v123 c1_i32_56
  let v126 : BitVec 32 := Scalar.muli v125 c1_i32_56
  let v127 : BitVec 32 := Scalar.addi c0_i32_55 v126
  let c1_i32_58 : BitVec 32 := 1#32
  let arg19 : BitVec 32 := Scf.iv v127 c1_i32_58 k0_t2
  let c256_i32 : BitVec 32 := 256#32
  let v139 : BitVec 32 := Scalar.muli arg19 c256_i32
  v139
def k0_off4 (v5 : BitVec 32) (k0_t2 : Fin (k0_t2_loop v5).trips) : Fin 2 → Nat :=
  let c0_i32_55 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let v123 : BitVec 32 := Scalar.subi v111 c0_i32_55
  let c1_i32_56 : BitVec 32 := 1#32
  let v125 : BitVec 32 := Scalar.divsi v123 c1_i32_56
  let v126 : BitVec 32 := Scalar.muli v125 c1_i32_56
  let v127 : BitVec 32 := Scalar.addi c0_i32_55 v126
  let c1_i32_58 : BitVec 32 := 1#32
  let arg19 : BitVec 32 := Scf.iv v127 c1_i32_58 k0_t2
  let c256_i32 : BitVec 32 := 256#32
  let v139 : BitVec 32 := Scalar.muli arg19 c256_i32
  let v140 : BitVec 32 := v139
  let v154 : Index := Scalar.indexCast v140
  let c0_69 : Index := 0#32
  ![v154.toNat, 0]
def k0_mult3 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  v139
def k0_cond3 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_48 : BitVec 32 := 4#32
  let c0_i32_49 : BitVec 32 := 0#32
  let v112 : BitVec 1 := Scalar.cmpi .eq c4_i32_48 c0_i32_49
  let c1_i32_50 : BitVec 32 := 1#32
  let v113 : BitVec 32 := Scalar.select v112 c1_i32_50 c4_i32_48
  let v114 : BitVec 32 := Scalar.remsi v24 v113
  let c0_i32_52 : BitVec 32 := 0#32
  let v116 : BitVec 1 := Scalar.cmpi .slt v114 c0_i32_52
  let c0_i32_53 : BitVec 32 := 0#32
  let v117 : BitVec 1 := Scalar.cmpi .slt v113 c0_i32_53
  let v118 : BitVec 1 := Scalar.xori v116 v117
  let c0_i32_51 : BitVec 32 := 0#32
  let v115 : BitVec 1 := Scalar.cmpi .ne v114 c0_i32_51
  let v119 : BitVec 1 := Scalar.andi v118 v115
  let v120 : BitVec 32 := Scalar.addi v114 v113
  let v121 : BitVec 32 := Scalar.select v119 v120 v114
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v122 : BitVec 32 := Scalar.muli v121 v93
  let c1_i32_59 : BitVec 32 := 1#32
  let v128 : BitVec 1 := Scalar.cmpi .eq v122 c1_i32_59
  let v129 : BitVec 32 := Scalar.extui v128
  let c0_i32_60 : BitVec 32 := 0#32
  let v130 : BitVec 1 := Scalar.cmpi .ne v129 c0_i32_60
  v130

def k0_off5 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  let v140 : BitVec 32 := v139
  let v154 : Index := Scalar.indexCast v140
  let c0_69 : Index := 0#32
  ![v154.toNat, 0]
def k0_mult4 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  v139
def k0_cond4 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_48 : BitVec 32 := 4#32
  let c0_i32_49 : BitVec 32 := 0#32
  let v112 : BitVec 1 := Scalar.cmpi .eq c4_i32_48 c0_i32_49
  let c1_i32_50 : BitVec 32 := 1#32
  let v113 : BitVec 32 := Scalar.select v112 c1_i32_50 c4_i32_48
  let v114 : BitVec 32 := Scalar.remsi v24 v113
  let c0_i32_52 : BitVec 32 := 0#32
  let v116 : BitVec 1 := Scalar.cmpi .slt v114 c0_i32_52
  let c0_i32_53 : BitVec 32 := 0#32
  let v117 : BitVec 1 := Scalar.cmpi .slt v113 c0_i32_53
  let v118 : BitVec 1 := Scalar.xori v116 v117
  let c0_i32_51 : BitVec 32 := 0#32
  let v115 : BitVec 1 := Scalar.cmpi .ne v114 c0_i32_51
  let v119 : BitVec 1 := Scalar.andi v118 v115
  let v120 : BitVec 32 := Scalar.addi v114 v113
  let v121 : BitVec 32 := Scalar.select v119 v120 v114
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v122 : BitVec 32 := Scalar.muli v121 v93
  let c2_i32_61 : BitVec 32 := 2#32
  let v131 : BitVec 1 := Scalar.cmpi .eq v122 c2_i32_61
  let v132 : BitVec 32 := Scalar.extui v131
  let c0_i32_62 : BitVec 32 := 0#32
  let v133 : BitVec 1 := Scalar.cmpi .ne v132 c0_i32_62
  v133

def k0_off6 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  let v140 : BitVec 32 := v139
  let v154 : Index := Scalar.indexCast v140
  let c0_69 : Index := 0#32
  ![v154.toNat, 0]
def k0_mult5 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  v139
def k0_cond5 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_48 : BitVec 32 := 4#32
  let c0_i32_49 : BitVec 32 := 0#32
  let v112 : BitVec 1 := Scalar.cmpi .eq c4_i32_48 c0_i32_49
  let c1_i32_50 : BitVec 32 := 1#32
  let v113 : BitVec 32 := Scalar.select v112 c1_i32_50 c4_i32_48
  let v114 : BitVec 32 := Scalar.remsi v24 v113
  let c0_i32_52 : BitVec 32 := 0#32
  let v116 : BitVec 1 := Scalar.cmpi .slt v114 c0_i32_52
  let c0_i32_53 : BitVec 32 := 0#32
  let v117 : BitVec 1 := Scalar.cmpi .slt v113 c0_i32_53
  let v118 : BitVec 1 := Scalar.xori v116 v117
  let c0_i32_51 : BitVec 32 := 0#32
  let v115 : BitVec 1 := Scalar.cmpi .ne v114 c0_i32_51
  let v119 : BitVec 1 := Scalar.andi v118 v115
  let v120 : BitVec 32 := Scalar.addi v114 v113
  let v121 : BitVec 32 := Scalar.select v119 v120 v114
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v122 : BitVec 32 := Scalar.muli v121 v93
  let c3_i32_63 : BitVec 32 := 3#32
  let v134 : BitVec 1 := Scalar.cmpi .eq v122 c3_i32_63
  let v135 : BitVec 32 := Scalar.extui v134
  let c0_i32_64 : BitVec 32 := 0#32
  let v136 : BitVec 1 := Scalar.cmpi .ne v135 c0_i32_64
  v136

def k0_off7 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_42 : BitVec 32 := 0#32
  let v95 : BitVec 1 := Scalar.cmpi .sgt v24 c0_i32_42
  let v96 : BitVec 32 := Scalar.extui v95
  let c0_i32_43 : BitVec 32 := 0#32
  let v97 : BitVec 1 := Scalar.cmpi .slt v24 c0_i32_43
  let v98 : BitVec 32 := Scalar.extui v97
  let v99 : BitVec 32 := Scalar.subi v96 v98
  let c4_i32_41 : BitVec 32 := 4#32
  let c0_i32_44 : BitVec 32 := 0#32
  let v100 : BitVec 1 := Scalar.cmpi .sgt c4_i32_41 c0_i32_44
  let v101 : BitVec 32 := Scalar.extui v100
  let c0_i32_45 : BitVec 32 := 0#32
  let v102 : BitVec 1 := Scalar.cmpi .slt c4_i32_41 c0_i32_45
  let v103 : BitVec 32 := Scalar.extui v102
  let v104 : BitVec 32 := Scalar.subi v101 v103
  let v105 : BitVec 1 := Scalar.cmpi .ne v99 v104
  let v106 : BitVec 32 := Scalar.remsi v24 c4_i32_41
  let c0_i32_46 : BitVec 32 := 0#32
  let v107 : BitVec 1 := Scalar.cmpi .ne v106 c0_i32_46
  let v108 : BitVec 1 := Scalar.andi v105 v107
  let v94 : BitVec 32 := Scalar.divsi v24 c4_i32_41
  let c1_i32_47 : BitVec 32 := 1#32
  let v109 : BitVec 32 := Scalar.subi v94 c1_i32_47
  let v110 : BitVec 32 := Scalar.select v108 v109 v94
  let c1_i32_40 : BitVec 32 := 1#32
  let c5_i32_39 : BitVec 32 := 5#32
  let v91 : BitVec 1 := Scalar.cmpi .eq v24 c5_i32_39
  let v92 : BitVec 32 := Scalar.extui v91
  let v93 : BitVec 32 := Scalar.subi c1_i32_40 v92
  let v111 : BitVec 32 := Scalar.muli v110 v93
  let c256_i32 : BitVec 32 := 256#32
  let v139 : BitVec 32 := Scalar.muli v111 c256_i32
  let v140 : BitVec 32 := v139
  let v154 : Index := Scalar.indexCast v140
  let c0_69 : Index := 0#32
  ![v154.toNat, 0]
@[reducible] def k0_t3_loop (v5 : BitVec 32) : Scf.Loop 32 :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let c1_i32_28 : BitVec 32 := 1#32
  ⟨c0_i32_26, v69, c1_i32_28⟩
def k0_mult6 (v5 : BitVec 32) (k0_t3 : Fin (k0_t3_loop v5).trips) : BitVec 32 :=
  let c0_i32_26 : BitVec 32 := 0#32
  let c1_i32_28 : BitVec 32 := 1#32
  let arg19 : BitVec 32 := Scf.iv c0_i32_26 c1_i32_28 k0_t3
  let c256_i32 : BitVec 32 := 256#32
  let v89 : BitVec 32 := Scalar.muli arg19 c256_i32
  v89
def k0_off8 (v5 : BitVec 32) (k0_t3 : Fin (k0_t3_loop v5).trips) : Fin 2 → Nat :=
  let c0_i32_26 : BitVec 32 := 0#32
  let c1_i32_28 : BitVec 32 := 1#32
  let arg19 : BitVec 32 := Scf.iv c0_i32_26 c1_i32_28 k0_t3
  let c256_i32 : BitVec 32 := 256#32
  let v89 : BitVec 32 := Scalar.muli arg19 c256_i32
  let v90 : BitVec 32 := v89
  let v91 : Index := Scalar.indexCast v90
  let c0 : Index := 0#32
  ![v91.toNat, 0]
def k0_cond7 (i : grid0.Coords) : BitVec 1 :=
  let arg3 : BitVec 32 := BitVec.ofNat 32 (i 3).val
  let c0_i32_53 : BitVec 32 := 0#32
  let v112 : BitVec 1 := Scalar.cmpi .eq arg3 c0_i32_53
  let v113 : BitVec 32 := Scalar.extui v112
  let c0_i32_54 : BitVec 32 := 0#32
  let v114 : BitVec 1 := Scalar.cmpi .ne v113 c0_i32_54
  v114

def k0_off9 (v5 : BitVec 32) (k0_t3 : Fin (k0_t3_loop v5).trips) : Fin 2 → Nat :=
  let c0_i32_26 : BitVec 32 := 0#32
  let c1_i32_28 : BitVec 32 := 1#32
  let arg19 : BitVec 32 := Scf.iv c0_i32_26 c1_i32_28 k0_t3
  let c256_i32 : BitVec 32 := 256#32
  let v89 : BitVec 32 := Scalar.muli arg19 c256_i32
  let v90 : BitVec 32 := v89
  let v118 : Index := Scalar.indexCast v90
  let c0_57 : Index := 0#32
  ![v118.toNat, 0]
def k0_cond8 (i : grid0.Coords) : BitVec 1 :=
  let arg3 : BitVec 32 := BitVec.ofNat 32 (i 3).val
  let c0_i32_55 : BitVec 32 := 0#32
  let v115 : BitVec 1 := Scalar.cmpi .sgt arg3 c0_i32_55
  let v116 : BitVec 32 := Scalar.extui v115
  let c0_i32_56 : BitVec 32 := 0#32
  let v117 : BitVec 1 := Scalar.cmpi .ne v116 c0_i32_56
  v117

def k0_off10 (v5 : BitVec 32) (k0_t3 : Fin (k0_t3_loop v5).trips) : Fin 2 → Nat :=
  let c0_i32_26 : BitVec 32 := 0#32
  let c1_i32_28 : BitVec 32 := 1#32
  let arg19 : BitVec 32 := Scf.iv c0_i32_26 c1_i32_28 k0_t3
  let c256_i32 : BitVec 32 := 256#32
  let v89 : BitVec 32 := Scalar.muli arg19 c256_i32
  let v90 : BitVec 32 := v89
  let v118 : Index := Scalar.indexCast v90
  let c0_57 : Index := 0#32
  ![v118.toNat, 0]
@[reducible] def k0_t4_loop (v5 : BitVec 32) : Scf.Loop 32 :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let v66 : BitVec 32 := Scalar.addi c0_i32_26 v65
  let c1_i32_29 : BitVec 32 := 1#32
  ⟨v69, v66, c1_i32_29⟩
def k0_mult7 (v5 : BitVec 32) (k0_t4 : Fin (k0_t4_loop v5).trips) : BitVec 32 :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let c1_i32_29 : BitVec 32 := 1#32
  let arg19 : BitVec 32 := Scf.iv v69 c1_i32_29 k0_t4
  let c256_i32 : BitVec 32 := 256#32
  let v89 : BitVec 32 := Scalar.muli arg19 c256_i32
  v89
def k0_off11 (v5 : BitVec 32) (k0_t4 : Fin (k0_t4_loop v5).trips) : Fin 2 → Nat :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let c1_i32_29 : BitVec 32 := 1#32
  let arg19 : BitVec 32 := Scf.iv v69 c1_i32_29 k0_t4
  let c256_i32 : BitVec 32 := 256#32
  let v89 : BitVec 32 := Scalar.muli arg19 c256_i32
  let v90 : BitVec 32 := v89
  let v91 : Index := Scalar.indexCast v90
  let c0 : Index := 0#32
  ![v91.toNat, 0]
def k0_cond9 (i : grid0.Coords) : BitVec 1 :=
  let arg3 : BitVec 32 := BitVec.ofNat 32 (i 3).val
  let c0_i32_53 : BitVec 32 := 0#32
  let v112 : BitVec 1 := Scalar.cmpi .eq arg3 c0_i32_53
  let v113 : BitVec 32 := Scalar.extui v112
  let c0_i32_54 : BitVec 32 := 0#32
  let v114 : BitVec 1 := Scalar.cmpi .ne v113 c0_i32_54
  v114

def k0_off12 (v5 : BitVec 32) (k0_t4 : Fin (k0_t4_loop v5).trips) : Fin 2 → Nat :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let c1_i32_29 : BitVec 32 := 1#32
  let arg19 : BitVec 32 := Scf.iv v69 c1_i32_29 k0_t4
  let c256_i32 : BitVec 32 := 256#32
  let v89 : BitVec 32 := Scalar.muli arg19 c256_i32
  let v90 : BitVec 32 := v89
  let v118 : Index := Scalar.indexCast v90
  let c0_57 : Index := 0#32
  ![v118.toNat, 0]
def k0_cond10 (i : grid0.Coords) : BitVec 1 :=
  let arg3 : BitVec 32 := BitVec.ofNat 32 (i 3).val
  let c0_i32_55 : BitVec 32 := 0#32
  let v115 : BitVec 1 := Scalar.cmpi .sgt arg3 c0_i32_55
  let v116 : BitVec 32 := Scalar.extui v115
  let c0_i32_56 : BitVec 32 := 0#32
  let v117 : BitVec 1 := Scalar.cmpi .ne v116 c0_i32_56
  v117

def k0_off13 (v5 : BitVec 32) (k0_t4 : Fin (k0_t4_loop v5).trips) : Fin 2 → Nat :=
  let c0_i32_26 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let v65 : BitVec 32 := Scalar.subi v53 c0_i32_26
  let c1_i32_27 : BitVec 32 := 1#32
  let v67 : BitVec 32 := Scalar.divsi v65 c1_i32_27
  let v68 : BitVec 32 := Scalar.muli v67 c1_i32_27
  let v69 : BitVec 32 := Scalar.addi c0_i32_26 v68
  let c1_i32_29 : BitVec 32 := 1#32
  let arg19 : BitVec 32 := Scf.iv v69 c1_i32_29 k0_t4
  let c256_i32 : BitVec 32 := 256#32
  let v89 : BitVec 32 := Scalar.muli arg19 c256_i32
  let v90 : BitVec 32 := v89
  let v118 : Index := Scalar.indexCast v90
  let c0_57 : Index := 0#32
  ![v118.toNat, 0]
def k0_mult8 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  v89
def k0_cond11 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_19 : BitVec 32 := 4#32
  let c0_i32_20 : BitVec 32 := 0#32
  let v54 : BitVec 1 := Scalar.cmpi .eq c4_i32_19 c0_i32_20
  let c1_i32_21 : BitVec 32 := 1#32
  let v55 : BitVec 32 := Scalar.select v54 c1_i32_21 c4_i32_19
  let v56 : BitVec 32 := Scalar.remsi v24 v55
  let c0_i32_23 : BitVec 32 := 0#32
  let v58 : BitVec 1 := Scalar.cmpi .slt v56 c0_i32_23
  let c0_i32_24 : BitVec 32 := 0#32
  let v59 : BitVec 1 := Scalar.cmpi .slt v55 c0_i32_24
  let v60 : BitVec 1 := Scalar.xori v58 v59
  let c0_i32_22 : BitVec 32 := 0#32
  let v57 : BitVec 1 := Scalar.cmpi .ne v56 c0_i32_22
  let v61 : BitVec 1 := Scalar.andi v60 v57
  let v62 : BitVec 32 := Scalar.addi v56 v55
  let v63 : BitVec 32 := Scalar.select v61 v62 v56
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v64 : BitVec 32 := Scalar.muli v63 v35
  let c1_i32_30 : BitVec 32 := 1#32
  let v70 : BitVec 1 := Scalar.cmpi .eq v64 c1_i32_30
  let v71 : BitVec 32 := Scalar.extui v70
  let c0_i32_31 : BitVec 32 := 0#32
  let v72 : BitVec 1 := Scalar.cmpi .ne v71 c0_i32_31
  v72

def k0_off14 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v91 : Index := Scalar.indexCast v90
  let c0 : Index := 0#32
  ![v91.toNat, 0]
def k0_cond12 (i : grid0.Coords) : BitVec 1 :=
  let arg3 : BitVec 32 := BitVec.ofNat 32 (i 3).val
  let c0_i32_53 : BitVec 32 := 0#32
  let v112 : BitVec 1 := Scalar.cmpi .eq arg3 c0_i32_53
  let v113 : BitVec 32 := Scalar.extui v112
  let c0_i32_54 : BitVec 32 := 0#32
  let v114 : BitVec 1 := Scalar.cmpi .ne v113 c0_i32_54
  v114

def k0_off15 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_cond13 (i : grid0.Coords) : BitVec 1 :=
  let arg3 : BitVec 32 := BitVec.ofNat 32 (i 3).val
  let c0_i32_55 : BitVec 32 := 0#32
  let v115 : BitVec 1 := Scalar.cmpi .sgt arg3 c0_i32_55
  let v116 : BitVec 32 := Scalar.extui v115
  let c0_i32_56 : BitVec 32 := 0#32
  let v117 : BitVec 1 := Scalar.cmpi .ne v116 c0_i32_56
  v117

def k0_off16 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_mult9 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  v89
def k0_cond14 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_19 : BitVec 32 := 4#32
  let c0_i32_20 : BitVec 32 := 0#32
  let v54 : BitVec 1 := Scalar.cmpi .eq c4_i32_19 c0_i32_20
  let c1_i32_21 : BitVec 32 := 1#32
  let v55 : BitVec 32 := Scalar.select v54 c1_i32_21 c4_i32_19
  let v56 : BitVec 32 := Scalar.remsi v24 v55
  let c0_i32_23 : BitVec 32 := 0#32
  let v58 : BitVec 1 := Scalar.cmpi .slt v56 c0_i32_23
  let c0_i32_24 : BitVec 32 := 0#32
  let v59 : BitVec 1 := Scalar.cmpi .slt v55 c0_i32_24
  let v60 : BitVec 1 := Scalar.xori v58 v59
  let c0_i32_22 : BitVec 32 := 0#32
  let v57 : BitVec 1 := Scalar.cmpi .ne v56 c0_i32_22
  let v61 : BitVec 1 := Scalar.andi v60 v57
  let v62 : BitVec 32 := Scalar.addi v56 v55
  let v63 : BitVec 32 := Scalar.select v61 v62 v56
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v64 : BitVec 32 := Scalar.muli v63 v35
  let c2_i32 : BitVec 32 := 2#32
  let v73 : BitVec 1 := Scalar.cmpi .eq v64 c2_i32
  let v74 : BitVec 32 := Scalar.extui v73
  let c0_i32_32 : BitVec 32 := 0#32
  let v75 : BitVec 1 := Scalar.cmpi .ne v74 c0_i32_32
  v75

def k0_off17 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v91 : Index := Scalar.indexCast v90
  let c0 : Index := 0#32
  ![v91.toNat, 0]
def k0_cond15 (i : grid0.Coords) : BitVec 1 :=
  let arg3 : BitVec 32 := BitVec.ofNat 32 (i 3).val
  let c0_i32_53 : BitVec 32 := 0#32
  let v112 : BitVec 1 := Scalar.cmpi .eq arg3 c0_i32_53
  let v113 : BitVec 32 := Scalar.extui v112
  let c0_i32_54 : BitVec 32 := 0#32
  let v114 : BitVec 1 := Scalar.cmpi .ne v113 c0_i32_54
  v114

def k0_off18 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_cond16 (i : grid0.Coords) : BitVec 1 :=
  let arg3 : BitVec 32 := BitVec.ofNat 32 (i 3).val
  let c0_i32_55 : BitVec 32 := 0#32
  let v115 : BitVec 1 := Scalar.cmpi .sgt arg3 c0_i32_55
  let v116 : BitVec 32 := Scalar.extui v115
  let c0_i32_56 : BitVec 32 := 0#32
  let v117 : BitVec 1 := Scalar.cmpi .ne v116 c0_i32_56
  v117

def k0_off19 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_mult10 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  v89
def k0_cond17 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_19 : BitVec 32 := 4#32
  let c0_i32_20 : BitVec 32 := 0#32
  let v54 : BitVec 1 := Scalar.cmpi .eq c4_i32_19 c0_i32_20
  let c1_i32_21 : BitVec 32 := 1#32
  let v55 : BitVec 32 := Scalar.select v54 c1_i32_21 c4_i32_19
  let v56 : BitVec 32 := Scalar.remsi v24 v55
  let c0_i32_23 : BitVec 32 := 0#32
  let v58 : BitVec 1 := Scalar.cmpi .slt v56 c0_i32_23
  let c0_i32_24 : BitVec 32 := 0#32
  let v59 : BitVec 1 := Scalar.cmpi .slt v55 c0_i32_24
  let v60 : BitVec 1 := Scalar.xori v58 v59
  let c0_i32_22 : BitVec 32 := 0#32
  let v57 : BitVec 1 := Scalar.cmpi .ne v56 c0_i32_22
  let v61 : BitVec 1 := Scalar.andi v60 v57
  let v62 : BitVec 32 := Scalar.addi v56 v55
  let v63 : BitVec 32 := Scalar.select v61 v62 v56
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v64 : BitVec 32 := Scalar.muli v63 v35
  let c3_i32 : BitVec 32 := 3#32
  let v76 : BitVec 1 := Scalar.cmpi .eq v64 c3_i32
  let v77 : BitVec 32 := Scalar.extui v76
  let c0_i32_33 : BitVec 32 := 0#32
  let v78 : BitVec 1 := Scalar.cmpi .ne v77 c0_i32_33
  v78

def k0_off20 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v91 : Index := Scalar.indexCast v90
  let c0 : Index := 0#32
  ![v91.toNat, 0]
def k0_cond18 (i : grid0.Coords) : BitVec 1 :=
  let arg3 : BitVec 32 := BitVec.ofNat 32 (i 3).val
  let c0_i32_53 : BitVec 32 := 0#32
  let v112 : BitVec 1 := Scalar.cmpi .eq arg3 c0_i32_53
  let v113 : BitVec 32 := Scalar.extui v112
  let c0_i32_54 : BitVec 32 := 0#32
  let v114 : BitVec 1 := Scalar.cmpi .ne v113 c0_i32_54
  v114

def k0_off21 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_cond19 (i : grid0.Coords) : BitVec 1 :=
  let arg3 : BitVec 32 := BitVec.ofNat 32 (i 3).val
  let c0_i32_55 : BitVec 32 := 0#32
  let v115 : BitVec 1 := Scalar.cmpi .sgt arg3 c0_i32_55
  let v116 : BitVec 32 := Scalar.extui v115
  let c0_i32_56 : BitVec 32 := 0#32
  let v117 : BitVec 1 := Scalar.cmpi .ne v116 c0_i32_56
  v117

def k0_off22 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_13 : BitVec 32 := 0#32
  let v37 : BitVec 1 := Scalar.cmpi .sgt v24 c0_i32_13
  let v38 : BitVec 32 := Scalar.extui v37
  let c0_i32_14 : BitVec 32 := 0#32
  let v39 : BitVec 1 := Scalar.cmpi .slt v24 c0_i32_14
  let v40 : BitVec 32 := Scalar.extui v39
  let v41 : BitVec 32 := Scalar.subi v38 v40
  let c4_i32 : BitVec 32 := 4#32
  let c0_i32_15 : BitVec 32 := 0#32
  let v42 : BitVec 1 := Scalar.cmpi .sgt c4_i32 c0_i32_15
  let v43 : BitVec 32 := Scalar.extui v42
  let c0_i32_16 : BitVec 32 := 0#32
  let v44 : BitVec 1 := Scalar.cmpi .slt c4_i32 c0_i32_16
  let v45 : BitVec 32 := Scalar.extui v44
  let v46 : BitVec 32 := Scalar.subi v43 v45
  let v47 : BitVec 1 := Scalar.cmpi .ne v41 v46
  let v48 : BitVec 32 := Scalar.remsi v24 c4_i32
  let c0_i32_17 : BitVec 32 := 0#32
  let v49 : BitVec 1 := Scalar.cmpi .ne v48 c0_i32_17
  let v50 : BitVec 1 := Scalar.andi v47 v49
  let v36 : BitVec 32 := Scalar.divsi v24 c4_i32
  let c1_i32_18 : BitVec 32 := 1#32
  let v51 : BitVec 32 := Scalar.subi v36 c1_i32_18
  let v52 : BitVec 32 := Scalar.select v50 v51 v36
  let c1_i32_12 : BitVec 32 := 1#32
  let c5_i32 : BitVec 32 := 5#32
  let v33 : BitVec 1 := Scalar.cmpi .eq v24 c5_i32
  let v34 : BitVec 32 := Scalar.extui v33
  let v35 : BitVec 32 := Scalar.subi c1_i32_12 v34
  let v53 : BitVec 32 := Scalar.muli v52 v35
  let c256_i32 : BitVec 32 := 256#32
  let v89 : BitVec 32 := Scalar.muli v53 c256_i32
  let v90 : BitVec 32 := v89
  let v118 : Index := Scalar.indexCast v90
  let c0_57 : Index := 0#32
  ![v118.toNat, 0]
def k0_cond23 (i : grid0.Coords) : BitVec 1 :=
  let arg3 : BitVec 32 := BitVec.ofNat 32 (i 3).val
  let c3_i32_35 : BitVec 32 := 3#32
  let v81 : BitVec 1 := Scalar.cmpi .eq arg3 c3_i32_35
  let v82 : BitVec 32 := Scalar.extui v81
  let c0_i32_36 : BitVec 32 := 0#32
  let v83 : BitVec 1 := Scalar.cmpi .ne v82 c0_i32_36
  v83

@[reducible] def k0_t5_loop (v5 : BitVec 32) : Scf.Loop 32 :=
  let c0_i32_62 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let v137 : BitVec 32 := Scalar.subi v125 c0_i32_62
  let c1_i32_63 : BitVec 32 := 1#32
  let v139 : BitVec 32 := Scalar.divsi v137 c1_i32_63
  let v140 : BitVec 32 := Scalar.muli v139 c1_i32_63
  let v141 : BitVec 32 := Scalar.addi c0_i32_62 v140
  let c1_i32_64 : BitVec 32 := 1#32
  ⟨c0_i32_62, v141, c1_i32_64⟩
def k0_mult11 (v5 : BitVec 32) (k0_t5 : Fin (k0_t5_loop v5).trips) : BitVec 32 :=
  let c0_i32_62 : BitVec 32 := 0#32
  let c1_i32_64 : BitVec 32 := 1#32
  let arg19 : BitVec 32 := Scf.iv c0_i32_62 c1_i32_64 k0_t5
  let c256_i32 : BitVec 32 := 256#32
  let v153 : BitVec 32 := Scalar.muli arg19 c256_i32
  v153
def k0_off23 (v5 : BitVec 32) (k0_t5 : Fin (k0_t5_loop v5).trips) : Fin 2 → Nat :=
  let c0_i32_62 : BitVec 32 := 0#32
  let c1_i32_64 : BitVec 32 := 1#32
  let arg19 : BitVec 32 := Scf.iv c0_i32_62 c1_i32_64 k0_t5
  let c256_i32 : BitVec 32 := 256#32
  let v153 : BitVec 32 := Scalar.muli arg19 c256_i32
  let v154 : BitVec 32 := v153
  let v164 : Index := Scalar.indexCast v154
  let c0_73 : Index := 0#32
  ![v164.toNat, 0]
@[reducible] def k0_t6_loop (v5 : BitVec 32) : Scf.Loop 32 :=
  let c0_i32_62 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let v137 : BitVec 32 := Scalar.subi v125 c0_i32_62
  let c1_i32_63 : BitVec 32 := 1#32
  let v139 : BitVec 32 := Scalar.divsi v137 c1_i32_63
  let v140 : BitVec 32 := Scalar.muli v139 c1_i32_63
  let v141 : BitVec 32 := Scalar.addi c0_i32_62 v140
  let v138 : BitVec 32 := Scalar.addi c0_i32_62 v137
  let c1_i32_65 : BitVec 32 := 1#32
  ⟨v141, v138, c1_i32_65⟩
def k0_mult12 (v5 : BitVec 32) (k0_t6 : Fin (k0_t6_loop v5).trips) : BitVec 32 :=
  let c0_i32_62 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let v137 : BitVec 32 := Scalar.subi v125 c0_i32_62
  let c1_i32_63 : BitVec 32 := 1#32
  let v139 : BitVec 32 := Scalar.divsi v137 c1_i32_63
  let v140 : BitVec 32 := Scalar.muli v139 c1_i32_63
  let v141 : BitVec 32 := Scalar.addi c0_i32_62 v140
  let c1_i32_65 : BitVec 32 := 1#32
  let arg19 : BitVec 32 := Scf.iv v141 c1_i32_65 k0_t6
  let c256_i32 : BitVec 32 := 256#32
  let v153 : BitVec 32 := Scalar.muli arg19 c256_i32
  v153
def k0_off24 (v5 : BitVec 32) (k0_t6 : Fin (k0_t6_loop v5).trips) : Fin 2 → Nat :=
  let c0_i32_62 : BitVec 32 := 0#32
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let v137 : BitVec 32 := Scalar.subi v125 c0_i32_62
  let c1_i32_63 : BitVec 32 := 1#32
  let v139 : BitVec 32 := Scalar.divsi v137 c1_i32_63
  let v140 : BitVec 32 := Scalar.muli v139 c1_i32_63
  let v141 : BitVec 32 := Scalar.addi c0_i32_62 v140
  let c1_i32_65 : BitVec 32 := 1#32
  let arg19 : BitVec 32 := Scf.iv v141 c1_i32_65 k0_t6
  let c256_i32 : BitVec 32 := 256#32
  let v153 : BitVec 32 := Scalar.muli arg19 c256_i32
  let v154 : BitVec 32 := v153
  let v164 : Index := Scalar.indexCast v154
  let c0_73 : Index := 0#32
  ![v164.toNat, 0]
def k0_mult13 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  v153
def k0_cond24 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_55 : BitVec 32 := 4#32
  let c0_i32_56 : BitVec 32 := 0#32
  let v126 : BitVec 1 := Scalar.cmpi .eq c4_i32_55 c0_i32_56
  let c1_i32_57 : BitVec 32 := 1#32
  let v127 : BitVec 32 := Scalar.select v126 c1_i32_57 c4_i32_55
  let v128 : BitVec 32 := Scalar.remsi v24 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v136 : BitVec 32 := Scalar.muli v135 v107
  let c1_i32_66 : BitVec 32 := 1#32
  let v142 : BitVec 1 := Scalar.cmpi .eq v136 c1_i32_66
  let v143 : BitVec 32 := Scalar.extui v142
  let c0_i32_67 : BitVec 32 := 0#32
  let v144 : BitVec 1 := Scalar.cmpi .ne v143 c0_i32_67
  v144

def k0_off25 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  let v154 : BitVec 32 := v153
  let v164 : Index := Scalar.indexCast v154
  let c0_73 : Index := 0#32
  ![v164.toNat, 0]
def k0_mult14 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  v153
def k0_cond25 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_55 : BitVec 32 := 4#32
  let c0_i32_56 : BitVec 32 := 0#32
  let v126 : BitVec 1 := Scalar.cmpi .eq c4_i32_55 c0_i32_56
  let c1_i32_57 : BitVec 32 := 1#32
  let v127 : BitVec 32 := Scalar.select v126 c1_i32_57 c4_i32_55
  let v128 : BitVec 32 := Scalar.remsi v24 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v136 : BitVec 32 := Scalar.muli v135 v107
  let c2_i32_68 : BitVec 32 := 2#32
  let v145 : BitVec 1 := Scalar.cmpi .eq v136 c2_i32_68
  let v146 : BitVec 32 := Scalar.extui v145
  let c0_i32_69 : BitVec 32 := 0#32
  let v147 : BitVec 1 := Scalar.cmpi .ne v146 c0_i32_69
  v147

def k0_off26 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  let v154 : BitVec 32 := v153
  let v164 : Index := Scalar.indexCast v154
  let c0_73 : Index := 0#32
  ![v164.toNat, 0]
def k0_mult15 (v5 : BitVec 32) : BitVec 32 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  v153
def k0_cond26 (v5 : BitVec 32) : BitVec 1 :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c4_i32_55 : BitVec 32 := 4#32
  let c0_i32_56 : BitVec 32 := 0#32
  let v126 : BitVec 1 := Scalar.cmpi .eq c4_i32_55 c0_i32_56
  let c1_i32_57 : BitVec 32 := 1#32
  let v127 : BitVec 32 := Scalar.select v126 c1_i32_57 c4_i32_55
  let v128 : BitVec 32 := Scalar.remsi v24 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v136 : BitVec 32 := Scalar.muli v135 v107
  let c3_i32_70 : BitVec 32 := 3#32
  let v148 : BitVec 1 := Scalar.cmpi .eq v136 c3_i32_70
  let v149 : BitVec 32 := Scalar.extui v148
  let c0_i32_71 : BitVec 32 := 0#32
  let v150 : BitVec 1 := Scalar.cmpi .ne v149 c0_i32_71
  v150

def k0_off27 (v5 : BitVec 32) : Fin 2 → Nat :=
  let c64_i32 : BitVec 32 := 64#32
  let v6 : BitVec 32 := Scalar.addi v5 c64_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c64_i32_1 : BitVec 32 := 64#32
  let c0_i32_3 : BitVec 32 := 0#32
  let v14 : BitVec 1 := Scalar.cmpi .sgt c64_i32_1 c0_i32_3
  let v15 : BitVec 32 := Scalar.extui v14
  let c0_i32_4 : BitVec 32 := 0#32
  let v16 : BitVec 1 := Scalar.cmpi .slt c64_i32_1 c0_i32_4
  let v17 : BitVec 32 := Scalar.extui v16
  let v18 : BitVec 32 := Scalar.subi v15 v17
  let v19 : BitVec 1 := Scalar.cmpi .ne v13 v18
  let v20 : BitVec 32 := Scalar.remsi v7 c64_i32_1
  let c0_i32_5 : BitVec 32 := 0#32
  let v21 : BitVec 1 := Scalar.cmpi .ne v20 c0_i32_5
  let v22 : BitVec 1 := Scalar.andi v19 v21
  let v8 : BitVec 32 := Scalar.divsi v7 c64_i32_1
  let c1_i32_6 : BitVec 32 := 1#32
  let v23 : BitVec 32 := Scalar.subi v8 c1_i32_6
  let v24 : BitVec 32 := Scalar.select v22 v23 v8
  let c0_i32_49 : BitVec 32 := 0#32
  let v109 : BitVec 1 := Scalar.cmpi .sgt v24 c0_i32_49
  let v110 : BitVec 32 := Scalar.extui v109
  let c0_i32_50 : BitVec 32 := 0#32
  let v111 : BitVec 1 := Scalar.cmpi .slt v24 c0_i32_50
  let v112 : BitVec 32 := Scalar.extui v111
  let v113 : BitVec 32 := Scalar.subi v110 v112
  let c4_i32_48 : BitVec 32 := 4#32
  let c0_i32_51 : BitVec 32 := 0#32
  let v114 : BitVec 1 := Scalar.cmpi .sgt c4_i32_48 c0_i32_51
  let v115 : BitVec 32 := Scalar.extui v114
  let c0_i32_52 : BitVec 32 := 0#32
  let v116 : BitVec 1 := Scalar.cmpi .slt c4_i32_48 c0_i32_52
  let v117 : BitVec 32 := Scalar.extui v116
  let v118 : BitVec 32 := Scalar.subi v115 v117
  let v119 : BitVec 1 := Scalar.cmpi .ne v113 v118
  let v120 : BitVec 32 := Scalar.remsi v24 c4_i32_48
  let c0_i32_53 : BitVec 32 := 0#32
  let v121 : BitVec 1 := Scalar.cmpi .ne v120 c0_i32_53
  let v122 : BitVec 1 := Scalar.andi v119 v121
  let v108 : BitVec 32 := Scalar.divsi v24 c4_i32_48
  let c1_i32_54 : BitVec 32 := 1#32
  let v123 : BitVec 32 := Scalar.subi v108 c1_i32_54
  let v124 : BitVec 32 := Scalar.select v122 v123 v108
  let c1_i32_47 : BitVec 32 := 1#32
  let c5_i32_46 : BitVec 32 := 5#32
  let v105 : BitVec 1 := Scalar.cmpi .eq v24 c5_i32_46
  let v106 : BitVec 32 := Scalar.extui v105
  let v107 : BitVec 32 := Scalar.subi c1_i32_47 v106
  let v125 : BitVec 32 := Scalar.muli v124 v107
  let c256_i32 : BitVec 32 := 256#32
  let v153 : BitVec 32 := Scalar.muli v125 c256_i32
  let v154 : BitVec 32 := v153
  let v164 : Index := Scalar.indexCast v154
  let c0_73 : Index := 0#32
  ![v164.toNat, 0]

def k0_chk1_0 (i : grid0.Coords) (v5 : BitVec 32) : Prop :=
  (∀ (k0_h2 : k0_cond2 i = 1#1), (k0_t1_loop v5).OK) ∧
  (∀ k0_t1 : Fin (k0_t1_loop v5).trips, ∀ (k0_h2 : k0_cond2 i = 1#1), 256 ∣ (k0_mult1 v5 k0_t1).toNat) ∧
  (∀ k0_t1 : Fin (k0_t1_loop v5).trips, ∀ (k0_h2 : k0_cond2 i = 1#1), ∀ a, (k0_off3 v5 k0_t1) a + S256x1024.size a ≤ S1024x1024.size a) ∧
  (∀ k0_t1 : Fin (k0_t1_loop v5).trips, ∀ (k0_h2 : k0_cond2 i = 1#1), ∀ (hinb : ∀ a, (k0_off3 v5 k0_t1) a + S256x1024.size a ≤ S1024x1024.size a), (Rect.unit (s := S1024x1024) (k0_off3 v5 k0_t1) S256x1024.size hinb).PackedRows (EltTy.packing .bf16)) ∧
  (∀ (k0_h2 : k0_cond2 i = 1#1), (k0_t2_loop v5).OK) ∧
  (∀ k0_t2 : Fin (k0_t2_loop v5).trips, ∀ (k0_h2 : k0_cond2 i = 1#1), 256 ∣ (k0_mult2 v5 k0_t2).toNat) ∧
  (∀ k0_t2 : Fin (k0_t2_loop v5).trips, ∀ (k0_h2 : k0_cond2 i = 1#1), ∀ a, (k0_off4 v5 k0_t2) a + S256x1024.size a ≤ S1024x1024.size a) ∧
  (∀ k0_t2 : Fin (k0_t2_loop v5).trips, ∀ (k0_h2 : k0_cond2 i = 1#1), ∀ (hinb : ∀ a, (k0_off4 v5 k0_t2) a + S256x1024.size a ≤ S1024x1024.size a), (Rect.unit (s := S1024x1024) (k0_off4 v5 k0_t2) S256x1024.size hinb).PackedRows (EltTy.packing .bf16)) ∧
  (∀ (k0_h2 : k0_cond2 i = 1#1), ∀ (k0_h3 : k0_cond3 v5 = 1#1), 256 ∣ (k0_mult3 v5).toNat) ∧
  (∀ (k0_h2 : k0_cond2 i = 1#1), ∀ (k0_h3 : k0_cond3 v5 = 1#1), ∀ a, (k0_off5 v5) a + S64x1024.size a ≤ S1024x1024.size a) ∧
  (∀ (k0_h2 : k0_cond2 i = 1#1), ∀ (k0_h3 : k0_cond3 v5 = 1#1), ∀ (hinb : ∀ a, (k0_off5 v5) a + S64x1024.size a ≤ S1024x1024.size a), (Rect.unit (s := S1024x1024) (k0_off5 v5) S64x1024.size hinb).PackedRows (EltTy.packing .bf16)) ∧
  (∀ (k0_h2 : k0_cond2 i = 1#1), ∀ (k0_h4 : k0_cond4 v5 = 1#1), 256 ∣ (k0_mult4 v5).toNat) ∧
  (∀ (k0_h2 : k0_cond2 i = 1#1), ∀ (k0_h4 : k0_cond4 v5 = 1#1), ∀ a, (k0_off6 v5) a + S128x1024.size a ≤ S1024x1024.size a) ∧
  (∀ (k0_h2 : k0_cond2 i = 1#1), ∀ (k0_h4 : k0_cond4 v5 = 1#1), ∀ (hinb : ∀ a, (k0_off6 v5) a + S128x1024.size a ≤ S1024x1024.size a), (Rect.unit (s := S1024x1024) (k0_off6 v5) S128x1024.size hinb).PackedRows (EltTy.packing .bf16)) ∧
  (∀ (k0_h2 : k0_cond2 i = 1#1), ∀ (k0_h5 : k0_cond5 v5 = 1#1), 256 ∣ (k0_mult5 v5).toNat) ∧
  (∀ (k0_h2 : k0_cond2 i = 1#1), ∀ (k0_h5 : k0_cond5 v5 = 1#1), ∀ a, (k0_off7 v5) a + S192x1024.size a ≤ S1024x1024.size a) ∧
  (∀ (k0_h2 : k0_cond2 i = 1#1), ∀ (k0_h5 : k0_cond5 v5 = 1#1), ∀ (hinb : ∀ a, (k0_off7 v5) a + S192x1024.size a ≤ S1024x1024.size a), (Rect.unit (s := S1024x1024) (k0_off7 v5) S192x1024.size hinb).PackedRows (EltTy.packing .bf16)) ∧
  ((k0_t3_loop v5).OK) ∧
  (∀ k0_t3 : Fin (k0_t3_loop v5).trips, 256 ∣ (k0_mult6 v5 k0_t3).toNat) ∧
  (∀ k0_t3 : Fin (k0_t3_loop v5).trips, ∀ a, (k0_off8 v5 k0_t3) a + S256x1024.size a ≤ S1024x1024.size a) ∧
  (∀ k0_t3 : Fin (k0_t3_loop v5).trips, ∀ (k0_h7 : k0_cond7 i = 1#1), ∀ a, (k0_off9 v5 k0_t3) a + S256x1024.size a ≤ S1024x1024.size a) ∧
  (∀ k0_t3 : Fin (k0_t3_loop v5).trips, ∀ (k0_h8 : k0_cond8 i = 1#1), ∀ a, (k0_off10 v5 k0_t3) a + S256x1024.size a ≤ S1024x1024.size a) ∧
  ((k0_t4_loop v5).OK) ∧
  (∀ k0_t4 : Fin (k0_t4_loop v5).trips, 256 ∣ (k0_mult7 v5 k0_t4).toNat) ∧
  (∀ k0_t4 : Fin (k0_t4_loop v5).trips, ∀ a, (k0_off11 v5 k0_t4) a + S256x1024.size a ≤ S1024x1024.size a) ∧
  (∀ k0_t4 : Fin (k0_t4_loop v5).trips, ∀ (k0_h9 : k0_cond9 i = 1#1), ∀ a, (k0_off12 v5 k0_t4) a + S256x1024.size a ≤ S1024x1024.size a) ∧
  (∀ k0_t4 : Fin (k0_t4_loop v5).trips, ∀ (k0_h10 : k0_cond10 i = 1#1), ∀ a, (k0_off13 v5 k0_t4) a + S256x1024.size a ≤ S1024x1024.size a) ∧
  (∀ (k0_h11 : k0_cond11 v5 = 1#1), 256 ∣ (k0_mult8 v5).toNat) ∧
  (∀ (k0_h11 : k0_cond11 v5 = 1#1), ∀ a, (k0_off14 v5) a + S64x1024.size a ≤ S1024x1024.size a) ∧
  (∀ (k0_h11 : k0_cond11 v5 = 1#1), ∀ (k0_h12 : k0_cond12 i = 1#1), ∀ a, (k0_off15 v5) a + S64x1024.size a ≤ S1024x1024.size a) ∧
  (∀ (k0_h11 : k0_cond11 v5 = 1#1), ∀ (k0_h13 : k0_cond13 i = 1#1), ∀ a, (k0_off16 v5) a + S64x1024.size a ≤ S1024x1024.size a) ∧
  (∀ (k0_h14 : k0_cond14 v5 = 1#1), 256 ∣ (k0_mult9 v5).toNat)
def k0_chk1_1 (i : grid0.Coords) (v5 : BitVec 32) : Prop :=
  (∀ (k0_h14 : k0_cond14 v5 = 1#1), ∀ a, (k0_off17 v5) a + S128x1024.size a ≤ S1024x1024.size a) ∧
  (∀ (k0_h14 : k0_cond14 v5 = 1#1), ∀ (k0_h15 : k0_cond15 i = 1#1), ∀ a, (k0_off18 v5) a + S128x1024.size a ≤ S1024x1024.size a) ∧
  (∀ (k0_h14 : k0_cond14 v5 = 1#1), ∀ (k0_h16 : k0_cond16 i = 1#1), ∀ a, (k0_off19 v5) a + S128x1024.size a ≤ S1024x1024.size a) ∧
  (∀ (k0_h17 : k0_cond17 v5 = 1#1), 256 ∣ (k0_mult10 v5).toNat) ∧
  (∀ (k0_h17 : k0_cond17 v5 = 1#1), ∀ a, (k0_off20 v5) a + S192x1024.size a ≤ S1024x1024.size a) ∧
  (∀ (k0_h17 : k0_cond17 v5 = 1#1), ∀ (k0_h18 : k0_cond18 i = 1#1), ∀ a, (k0_off21 v5) a + S192x1024.size a ≤ S1024x1024.size a) ∧
  (∀ (k0_h17 : k0_cond17 v5 = 1#1), ∀ (k0_h19 : k0_cond19 i = 1#1), ∀ a, (k0_off22 v5) a + S192x1024.size a ≤ S1024x1024.size a) ∧
  (∀ (k0_h23 : k0_cond23 i = 1#1), (k0_t5_loop v5).OK) ∧
  (∀ k0_t5 : Fin (k0_t5_loop v5).trips, ∀ (k0_h23 : k0_cond23 i = 1#1), 256 ∣ (k0_mult11 v5 k0_t5).toNat) ∧
  (∀ k0_t5 : Fin (k0_t5_loop v5).trips, ∀ (k0_h23 : k0_cond23 i = 1#1), ∀ a, (k0_off23 v5 k0_t5) a + S256x1024.size a ≤ S1024x1024.size a) ∧
  (∀ (k0_h23 : k0_cond23 i = 1#1), (k0_t6_loop v5).OK) ∧
  (∀ k0_t6 : Fin (k0_t6_loop v5).trips, ∀ (k0_h23 : k0_cond23 i = 1#1), 256 ∣ (k0_mult12 v5 k0_t6).toNat) ∧
  (∀ k0_t6 : Fin (k0_t6_loop v5).trips, ∀ (k0_h23 : k0_cond23 i = 1#1), ∀ a, (k0_off24 v5 k0_t6) a + S256x1024.size a ≤ S1024x1024.size a) ∧
  (∀ (k0_h23 : k0_cond23 i = 1#1), ∀ (k0_h24 : k0_cond24 v5 = 1#1), 256 ∣ (k0_mult13 v5).toNat) ∧
  (∀ (k0_h23 : k0_cond23 i = 1#1), ∀ (k0_h24 : k0_cond24 v5 = 1#1), ∀ a, (k0_off25 v5) a + S64x1024.size a ≤ S1024x1024.size a) ∧
  (∀ (k0_h23 : k0_cond23 i = 1#1), ∀ (k0_h25 : k0_cond25 v5 = 1#1), 256 ∣ (k0_mult14 v5).toNat) ∧
  (∀ (k0_h23 : k0_cond23 i = 1#1), ∀ (k0_h25 : k0_cond25 v5 = 1#1), ∀ a, (k0_off26 v5) a + S128x1024.size a ≤ S1024x1024.size a) ∧
  (∀ (k0_h23 : k0_cond23 i = 1#1), ∀ (k0_h26 : k0_cond26 v5 = 1#1), 256 ∣ (k0_mult15 v5).toNat) ∧
  (∀ (k0_h23 : k0_cond23 i = 1#1), ∀ (k0_h26 : k0_cond26 v5 = 1#1), ∀ a, (k0_off27 v5) a + S192x1024.size a ≤ S1024x1024.size a)
def k0_chk1 (i : grid0.Coords) (v5 : BitVec 32) : Prop :=
  k0_chk1_0 i v5 ∧
  k0_chk1_1 i v5
theorem k0_t1_ok : ∀ (i : grid0.Coords) (v5 : BitVec 32) (k0_hw1 : k0_chk1 i v5), ∀ (k0_h2 : k0_cond2 i = 1#1), (k0_t1_loop v5).OK := fun i v5 k0_hw1 k0_h2 => k0_hw1.1.1 k0_h2
theorem k0_mult1_dvd : ∀ (i : grid0.Coords) (v5 : BitVec 32) (k0_hw1 : k0_chk1 i v5) (k0_t1 : Fin (k0_t1_loop v5).trips), ∀ (k0_h2 : k0_cond2 i = 1#1), 256 ∣ (k0_mult1 v5 k0_t1).toNat := fun i v5 k0_hw1 k0_t1 k0_h2 => k0_hw1.1.2.1 k0_t1 k0_h2
theorem k0_off3_inb : ∀ (i : grid0.Coords) (v5 : BitVec 32) (k0_hw1 : k0_chk1 i v5) (k0_t1 : Fin (k0_t1_loop v5).trips), ∀ (k0_h2 : k0_cond2 i = 1#1), ∀ a, (k0_off3 v5 k0_t1) a + S256x1024.size a ≤ S1024x1024.size a := fun i v5 k0_hw1 k0_t1 k0_h2 => k0_hw1.1.2.2.1 k0_t1 k0_h2
theorem k0_off3_packedbf16 : ∀ (i : grid0.Coords) (v5 : BitVec 32) (k0_hw1 : k0_chk1 i v5) (k0_t1 : Fin (k0_t1_loop v5).trips), ∀ (k0_h2 : k0_cond2 i = 1#1), (Rect.unit (s := S1024x1024) (k0_off3 v5 k0_t1) S256x1024.size (k0_off3_inb i v5 k0_hw1 k0_t1 k0_h2)).PackedRows (EltTy.packing .bf16) := fun i v5 k0_hw1 k0_t1 k0_h2 => k0_hw1.1.2.2.2.1 k0_t1 k0_h2 (k0_off3_inb i v5 k0_hw1 k0_t1 k0_h2)
theorem k0_t2_ok : ∀ (i : grid0.Coords) (v5 : BitVec 32) (k0_hw1 : k0_chk1 i v5), ∀ (k0_h2 : k0_cond2 i = 1#1), (k0_t2_loop v5).OK := fun i v5 k0_hw1 k0_h2 => k0_hw1.1.2.2.2.2.1 k0_h2
theorem k0_mult2_dvd : ∀ (i : grid0.Coords) (v5 : BitVec 32) (k0_hw1 : k0_chk1 i v5) (k0_t2 : Fin (k0_t2_loop v5).trips), ∀ (k0_h2 : k0_cond2 i = 1#1), 256 ∣ (k0_mult2 v5 k0_t2).toNat := fun i v5 k0_hw1 k0_t2 k0_h2 => k0_hw1.1.2.2.2.2.2.1 k0_t2 k0_h2
theorem k0_off4_inb : ∀ (i : grid0.Coords) (v5 : BitVec 32) (k0_hw1 : k0_chk1 i v5) (k0_t2 : Fin (k0_t2_loop v5).trips), ∀ (k0_h2 : k0_cond2 i = 1#1), ∀ a, (k0_off4 v5 k0_t2) a + S256x1024.size a ≤ S1024x1024.size a := fun i v5 k0_hw1 k0_t2 k0_h2 => k0_hw1.1.2.2.2.2.2.2.1 k0_t2 k0_h2
theorem k0_off4_packedbf16 : ∀ (i : grid0.Coords) (v5 : BitVec 32) (k0_hw1 : k0_chk1 i v5) (k0_t2 : Fin (k0_t2_loop v5).trips), ∀ (k0_h2 : k0_cond2 i = 1#1), (Rect.unit (s := S1024x1024) (k0_off4 v5 k0_t2) S256x1024.size (k0_off4_inb i v5 k0_hw1 k0_t2 k0_h2)).PackedRows (EltTy.packing .bf16) := fun i v5 k0_hw1 k0_t2 k0_h2 => k0_hw1.1.2.2.2.2.2.2.2.1 k0_t2 k0_h2 (k0_off4_inb i v5 k0_hw1 k0_t2 k0_h2)
theorem k0_mult3_dvd : ∀ (i : grid0.Coords) (v5 : BitVec 32) (k0_hw1 : k0_chk1 i v5), ∀ (k0_h2 : k0_cond2 i = 1#1), ∀ (k0_h3 : k0_cond3 v5 = 1#1), 256 ∣ (k0_mult3 v5).toNat := fun i v5 k0_hw1 k0_h2 k0_h3 => k0_hw1.1.2.2.2.2.2.2.2.2.1 k0_h2 k0_h3
theorem k0_off5_inb : ∀ (i : grid0.Coords) (v5 : BitVec 32) (k0_hw1 : k0_chk1 i v5), ∀ (k0_h2 : k0_cond2 i = 1#1), ∀ (k0_h3 : k0_cond3 v5 = 1#1), ∀ a, (k0_off5 v5) a + S64x1024.size a ≤ S1024x1024.size a := fun i v5 k0_hw1 k0_h2 k0_h3 => k0_hw1.1.2.2.2.2.2.2.2.2.2.1 k0_h2 k0_h3
theorem k0_off5_packedbf16 : ∀ (i : grid0.Coords) (v5 : BitVec 32) (k0_hw1 : k0_chk1 i v5), ∀ (k0_h2 : k0_cond2 i = 1#1), ∀ (k0_h3 : k0_cond3 v5 = 1#1), (Rect.unit (s := S1024x1024) (k0_off5 v5) S64x1024.size (k0_off5_inb i v5 k0_hw1 k0_h2 k0_h3)).PackedRows (EltTy.packing .bf16) := fun i v5 k0_hw1 k0_h2 k0_h3 => k0_hw1.1.2.2.2.2.2.2.2.2.2.2.1 k0_h2 k0_h3 (k0_off5_inb i v5 k0_hw1 k0_h2 k0_h3)
theorem k0_mult4_dvd : ∀ (i : grid0.Coords) (v5 : BitVec 32) (k0_hw1 : k0_chk1 i v5), ∀ (k0_h2 : k0_cond2 i = 1#1), ∀ (k0_h4 : k0_cond4 v5 = 1#1), 256 ∣ (k0_mult4 v5).toNat := fun i v5 k0_hw1 k0_h2 k0_h4 => k0_hw1.1.2.2.2.2.2.2.2.2.2.2.2.1 k0_h2 k0_h4
theorem k0_off6_inb : ∀ (i : grid0.Coords) (v5 : BitVec 32) (k0_hw1 : k0_chk1 i v5), ∀ (k0_h2 : k0_cond2 i = 1#1), ∀ (k0_h4 : k0_cond4 v5 = 1#1), ∀ a, (k0_off6 v5) a + S128x1024.size a ≤ S1024x1024.size a := fun i v5 k0_hw1 k0_h2 k0_h4 => k0_hw1.1.2.2.2.2.2.2.2.2.2.2.2.2.1 k0_h2 k0_h4
theorem k0_off6_packedbf16 : ∀ (i : grid0.Coords) (v5 : BitVec 32) (k0_hw1 : k0_chk1 i v5), ∀ (k0_h2 : k0_cond2 i = 1#1), ∀ (k0_h4 : k0_cond4 v5 = 1#1), (Rect.unit (s := S1024x1024) (k0_off6 v5) S128x1024.size (k0_off6_inb i v5 k0_hw1 k0_h2 k0_h4)).PackedRows (EltTy.packing .bf16) := fun i v5 k0_hw1 k0_h2 k0_h4 => k0_hw1.1.2.2.2.2.2.2.2.2.2.2.2.2.2.1 k0_h2 k0_h4 (k0_off6_inb i v5 k0_hw1 k0_h2 k0_h4)
theorem k0_mult5_dvd : ∀ (i : grid0.Coords) (v5 : BitVec 32) (k0_hw1 : k0_chk1 i v5), ∀ (k0_h2 : k0_cond2 i = 1#1), ∀ (k0_h5 : k0_cond5 v5 = 1#1), 256 ∣ (k0_mult5 v5).toNat := fun i v5 k0_hw1 k0_h2 k0_h5 => k0_hw1.1.2.2.2.2.2.2.2.2.2.2.2.2.2.2.1 k0_h2 k0_h5
theorem k0_off7_inb : ∀ (i : grid0.Coords) (v5 : BitVec 32) (k0_hw1 : k0_chk1 i v5), ∀ (k0_h2 : k0_cond2 i = 1#1), ∀ (k0_h5 : k0_cond5 v5 = 1#1), ∀ a, (k0_off7 v5) a + S192x1024.size a ≤ S1024x1024.size a := fun i v5 k0_hw1 k0_h2 k0_h5 => k0_hw1.1.2.2.2.2.2.2.2.2.2.2.2.2.2.2.2.1 k0_h2 k0_h5
theorem k0_off7_packedbf16 : ∀ (i : grid0.Coords) (v5 : BitVec 32) (k0_hw1 : k0_chk1 i v5), ∀ (k0_h2 : k0_cond2 i = 1#1), ∀ (k0_h5 : k0_cond5 v5 = 1#1), (Rect.unit (s := S1024x1024) (k0_off7 v5) S192x1024.size (k0_off7_inb i v5 k0_hw1 k0_h2 k0_h5)).PackedRows (EltTy.packing .bf16) := fun i v5 k0_hw1 k0_h2 k0_h5 => k0_hw1.1.2.2.2.2.2.2.2.2.2.2.2.2.2.2.2.2.1 k0_h2 k0_h5 (k0_off7_inb i v5 k0_hw1 k0_h2 k0_h5)
theorem k0_t3_ok : ∀ (i : grid0.Coords) (v5 : BitVec 32) (k0_hw1 : k0_chk1 i v5), (k0_t3_loop v5).OK := fun i v5 k0_hw1 => k0_hw1.1.2.2.2.2.2.2.2.2.2.2.2.2.2.2.2.2.2.1
theorem k0_mult6_dvd : ∀ (i : grid0.Coords) (v5 : BitVec 32) (k0_hw1 : k0_chk1 i v5) (k0_t3 : Fin (k0_t3_loop v5).trips), 256 ∣ (k0_mult6 v5 k0_t3).toNat := fun i v5 k0_hw1 k0_t3 => k0_hw1.1.2.2.2.2.2.2.2.2.2.2.2.2.2.2.2.2.2.2.1 k0_t3
theorem k0_off8_inb : ∀ (i : grid0.Coords) (v5 : BitVec 32) (k0_hw1 : k0_chk1 i v5) (k0_t3 : Fin (k0_t3_loop v5).trips), ∀ a, (k0_off8 v5 k0_t3) a + S256x1024.size a ≤ S1024x1024.size a := fun i v5 k0_hw1 k0_t3 => k0_hw1.1.2.2.2.2.2.2.2.2.2.2.2.2.2.2.2.2.2.2.2.1 k0_t3
theorem k0_off9_inb : ∀ (i : grid0.Coords) (v5 : BitVec 32) (k0_hw1 : k0_chk1 i v5) (k0_t3 : Fin (k0_t3_loop v5).trips), ∀ (k0_h7 : k0_cond7 i = 1#1), ∀ a, (k0_off9 v5 k0_t3) a + S256x1024.size a ≤ S1024x1024.size a := fun i v5 k0_hw1 k0_t3 k0_h7 => k0_hw1.1.2.2.2.2.2.2.2.2.2.2.2.2.2.2.2.2.2.2.2.2.1 k0_t3 k0_h7
theorem k0_off10_inb : ∀ (i : grid0.Coords) (v5 : BitVec 32) (k0_hw1 : k0_chk1 i v5) (k0_t3 : Fin (k0_t3_loop v5).trips), ∀ (k0_h8 : k0_cond8 i = 1#1), ∀ a, (k0_off10 v5 k0_t3) a + S256x1024.size a ≤ S1024x1024.size a := fun i v5 k0_hw1 k0_t3 k0_h8 => k0_hw1.1.2.2.2.2.2.2.2.2.2.2.2.2.2.2.2.2.2.2.2.2.2.1 k0_t3 k0_h8
theorem k0_t4_ok : ∀ (i : grid0.Coords) (v5 : BitVec 32) (k0_hw1 : k0_chk1 i v5), (k0_t4_loop v5).OK := fun i v5 k0_hw1 => k0_hw1.1.2.2.2.2.2.2.2.2.2.2.2.2.2.2.2.2.2.2.2.2.2.2.1
theorem k0_mult7_dvd : ∀ (i : grid0.Coords) (v5 : BitVec 32) (k0_hw1 : k0_chk1 i v5) (k0_t4 : Fin (k0_t4_loop v5).trips), 256 ∣ (k0_mult7 v5 k0_t4).toNat := fun i v5 k0_hw1 k0_t4 => k0_hw1.1.2.2.2.2.2.2.2.2.2.2.2.2.2.2.2.2.2.2.2.2.2.2.2.1 k0_t4
theorem k0_off11_inb : ∀ (i : grid0.Coords) (v5 : BitVec 32) (k0_hw1 : k0_chk1 i v5) (k0_t4 : Fin (k0_t4_loop v5).trips), ∀ a, (k0_off11 v5 k0_t4) a + S256x1024.size a ≤ S1024x1024.size a := fun i v5 k0_hw1 k0_t4 => k0_hw1.1.2.2.2.2.2.2.2.2.2.2.2.2.2.2.2.2.2.2.2.2.2.2.2.2.1 k0_t4
theorem k0_off12_inb : ∀ (i : grid0.Coords) (v5 : BitVec 32) (k0_hw1 : k0_chk1 i v5) (k0_t4 : Fin (k0_t4_loop v5).trips), ∀ (k0_h9 : k0_cond9 i = 1#1), ∀ a, (k0_off12 v5 k0_t4) a + S256x1024.size a ≤ S1024x1024.size a := fun i v5 k0_hw1 k0_t4 k0_h9 => k0_hw1.1.2.2.2.2.2.2.2.2.2.2.2.2.2.2.2.2.2.2.2.2.2.2.2.2.2.1 k0_t4 k0_h9
theorem k0_off13_inb : ∀ (i : grid0.Coords) (v5 : BitVec 32) (k0_hw1 : k0_chk1 i v5) (k0_t4 : Fin (k0_t4_loop v5).trips), ∀ (k0_h10 : k0_cond10 i = 1#1), ∀ a, (k0_off13 v5 k0_t4) a + S256x1024.size a ≤ S1024x1024.size a := fun i v5 k0_hw1 k0_t4 k0_h10 => k0_hw1.1.2.2.2.2.2.2.2.2.2.2.2.2.2.2.2.2.2.2.2.2.2.2.2.2.2.2.1 k0_t4 k0_h10
theorem k0_mult8_dvd : ∀ (i : grid0.Coords) (v5 : BitVec 32) (k0_hw1 : k0_chk1 i v5), ∀ (k0_h11 : k0_cond11 v5 = 1#1), 256 ∣ (k0_mult8 v5).toNat := fun i v5 k0_hw1 k0_h11 => k0_hw1.1.2.2.2.2.2.2.2.2.2.2.2.2.2.2.2.2.2.2.2.2.2.2.2.2.2.2.2.1 k0_h11
theorem k0_off14_inb : ∀ (i : grid0.Coords) (v5 : BitVec 32) (k0_hw1 : k0_chk1 i v5), ∀ (k0_h11 : k0_cond11 v5 = 1#1), ∀ a, (k0_off14 v5) a + S64x1024.size a ≤ S1024x1024.size a := fun i v5 k0_hw1 k0_h11 => k0_hw1.1.2.2.2.2.2.2.2.2.2.2.2.2.2.2.2.2.2.2.2.2.2.2.2.2.2.2.2.2.1 k0_h11
theorem k0_off15_inb : ∀ (i : grid0.Coords) (v5 : BitVec 32) (k0_hw1 : k0_chk1 i v5), ∀ (k0_h11 : k0_cond11 v5 = 1#1), ∀ (k0_h12 : k0_cond12 i = 1#1), ∀ a, (k0_off15 v5) a + S64x1024.size a ≤ S1024x1024.size a := fun i v5 k0_hw1 k0_h11 k0_h12 => k0_hw1.1.2.2.2.2.2.2.2.2.2.2.2.2.2.2.2.2.2.2.2.2.2.2.2.2.2.2.2.2.2.1 k0_h11 k0_h12
theorem k0_off16_inb : ∀ (i : grid0.Coords) (v5 : BitVec 32) (k0_hw1 : k0_chk1 i v5), ∀ (k0_h11 : k0_cond11 v5 = 1#1), ∀ (k0_h13 : k0_cond13 i = 1#1), ∀ a, (k0_off16 v5) a + S64x1024.size a ≤ S1024x1024.size a := fun i v5 k0_hw1 k0_h11 k0_h13 => k0_hw1.1.2.2.2.2.2.2.2.2.2.2.2.2.2.2.2.2.2.2.2.2.2.2.2.2.2.2.2.2.2.2.1 k0_h11 k0_h13
theorem k0_mult9_dvd : ∀ (i : grid0.Coords) (v5 : BitVec 32) (k0_hw1 : k0_chk1 i v5), ∀ (k0_h14 : k0_cond14 v5 = 1#1), 256 ∣ (k0_mult9 v5).toNat := fun i v5 k0_hw1 k0_h14 => k0_hw1.1.2.2.2.2.2.2.2.2.2.2.2.2.2.2.2.2.2.2.2.2.2.2.2.2.2.2.2.2.2.2.2 k0_h14
theorem k0_off17_inb : ∀ (i : grid0.Coords) (v5 : BitVec 32) (k0_hw1 : k0_chk1 i v5), ∀ (k0_h14 : k0_cond14 v5 = 1#1), ∀ a, (k0_off17 v5) a + S128x1024.size a ≤ S1024x1024.size a := fun i v5 k0_hw1 k0_h14 => k0_hw1.2.1 k0_h14
theorem k0_off18_inb : ∀ (i : grid0.Coords) (v5 : BitVec 32) (k0_hw1 : k0_chk1 i v5), ∀ (k0_h14 : k0_cond14 v5 = 1#1), ∀ (k0_h15 : k0_cond15 i = 1#1), ∀ a, (k0_off18 v5) a + S128x1024.size a ≤ S1024x1024.size a := fun i v5 k0_hw1 k0_h14 k0_h15 => k0_hw1.2.2.1 k0_h14 k0_h15
theorem k0_off19_inb : ∀ (i : grid0.Coords) (v5 : BitVec 32) (k0_hw1 : k0_chk1 i v5), ∀ (k0_h14 : k0_cond14 v5 = 1#1), ∀ (k0_h16 : k0_cond16 i = 1#1), ∀ a, (k0_off19 v5) a + S128x1024.size a ≤ S1024x1024.size a := fun i v5 k0_hw1 k0_h14 k0_h16 => k0_hw1.2.2.2.1 k0_h14 k0_h16
theorem k0_mult10_dvd : ∀ (i : grid0.Coords) (v5 : BitVec 32) (k0_hw1 : k0_chk1 i v5), ∀ (k0_h17 : k0_cond17 v5 = 1#1), 256 ∣ (k0_mult10 v5).toNat := fun i v5 k0_hw1 k0_h17 => k0_hw1.2.2.2.2.1 k0_h17
theorem k0_off20_inb : ∀ (i : grid0.Coords) (v5 : BitVec 32) (k0_hw1 : k0_chk1 i v5), ∀ (k0_h17 : k0_cond17 v5 = 1#1), ∀ a, (k0_off20 v5) a + S192x1024.size a ≤ S1024x1024.size a := fun i v5 k0_hw1 k0_h17 => k0_hw1.2.2.2.2.2.1 k0_h17
theorem k0_off21_inb : ∀ (i : grid0.Coords) (v5 : BitVec 32) (k0_hw1 : k0_chk1 i v5), ∀ (k0_h17 : k0_cond17 v5 = 1#1), ∀ (k0_h18 : k0_cond18 i = 1#1), ∀ a, (k0_off21 v5) a + S192x1024.size a ≤ S1024x1024.size a := fun i v5 k0_hw1 k0_h17 k0_h18 => k0_hw1.2.2.2.2.2.2.1 k0_h17 k0_h18
theorem k0_off22_inb : ∀ (i : grid0.Coords) (v5 : BitVec 32) (k0_hw1 : k0_chk1 i v5), ∀ (k0_h17 : k0_cond17 v5 = 1#1), ∀ (k0_h19 : k0_cond19 i = 1#1), ∀ a, (k0_off22 v5) a + S192x1024.size a ≤ S1024x1024.size a := fun i v5 k0_hw1 k0_h17 k0_h19 => k0_hw1.2.2.2.2.2.2.2.1 k0_h17 k0_h19
theorem k0_t5_ok : ∀ (i : grid0.Coords) (v5 : BitVec 32) (k0_hw1 : k0_chk1 i v5), ∀ (k0_h23 : k0_cond23 i = 1#1), (k0_t5_loop v5).OK := fun i v5 k0_hw1 k0_h23 => k0_hw1.2.2.2.2.2.2.2.2.1 k0_h23
theorem k0_mult11_dvd : ∀ (i : grid0.Coords) (v5 : BitVec 32) (k0_hw1 : k0_chk1 i v5) (k0_t5 : Fin (k0_t5_loop v5).trips), ∀ (k0_h23 : k0_cond23 i = 1#1), 256 ∣ (k0_mult11 v5 k0_t5).toNat := fun i v5 k0_hw1 k0_t5 k0_h23 => k0_hw1.2.2.2.2.2.2.2.2.2.1 k0_t5 k0_h23
theorem k0_off23_inb : ∀ (i : grid0.Coords) (v5 : BitVec 32) (k0_hw1 : k0_chk1 i v5) (k0_t5 : Fin (k0_t5_loop v5).trips), ∀ (k0_h23 : k0_cond23 i = 1#1), ∀ a, (k0_off23 v5 k0_t5) a + S256x1024.size a ≤ S1024x1024.size a := fun i v5 k0_hw1 k0_t5 k0_h23 => k0_hw1.2.2.2.2.2.2.2.2.2.2.1 k0_t5 k0_h23
theorem k0_t6_ok : ∀ (i : grid0.Coords) (v5 : BitVec 32) (k0_hw1 : k0_chk1 i v5), ∀ (k0_h23 : k0_cond23 i = 1#1), (k0_t6_loop v5).OK := fun i v5 k0_hw1 k0_h23 => k0_hw1.2.2.2.2.2.2.2.2.2.2.2.1 k0_h23
theorem k0_mult12_dvd : ∀ (i : grid0.Coords) (v5 : BitVec 32) (k0_hw1 : k0_chk1 i v5) (k0_t6 : Fin (k0_t6_loop v5).trips), ∀ (k0_h23 : k0_cond23 i = 1#1), 256 ∣ (k0_mult12 v5 k0_t6).toNat := fun i v5 k0_hw1 k0_t6 k0_h23 => k0_hw1.2.2.2.2.2.2.2.2.2.2.2.2.1 k0_t6 k0_h23
theorem k0_off24_inb : ∀ (i : grid0.Coords) (v5 : BitVec 32) (k0_hw1 : k0_chk1 i v5) (k0_t6 : Fin (k0_t6_loop v5).trips), ∀ (k0_h23 : k0_cond23 i = 1#1), ∀ a, (k0_off24 v5 k0_t6) a + S256x1024.size a ≤ S1024x1024.size a := fun i v5 k0_hw1 k0_t6 k0_h23 => k0_hw1.2.2.2.2.2.2.2.2.2.2.2.2.2.1 k0_t6 k0_h23
theorem k0_mult13_dvd : ∀ (i : grid0.Coords) (v5 : BitVec 32) (k0_hw1 : k0_chk1 i v5), ∀ (k0_h23 : k0_cond23 i = 1#1), ∀ (k0_h24 : k0_cond24 v5 = 1#1), 256 ∣ (k0_mult13 v5).toNat := fun i v5 k0_hw1 k0_h23 k0_h24 => k0_hw1.2.2.2.2.2.2.2.2.2.2.2.2.2.2.1 k0_h23 k0_h24
theorem k0_off25_inb : ∀ (i : grid0.Coords) (v5 : BitVec 32) (k0_hw1 : k0_chk1 i v5), ∀ (k0_h23 : k0_cond23 i = 1#1), ∀ (k0_h24 : k0_cond24 v5 = 1#1), ∀ a, (k0_off25 v5) a + S64x1024.size a ≤ S1024x1024.size a := fun i v5 k0_hw1 k0_h23 k0_h24 => k0_hw1.2.2.2.2.2.2.2.2.2.2.2.2.2.2.2.1 k0_h23 k0_h24
theorem k0_mult14_dvd : ∀ (i : grid0.Coords) (v5 : BitVec 32) (k0_hw1 : k0_chk1 i v5), ∀ (k0_h23 : k0_cond23 i = 1#1), ∀ (k0_h25 : k0_cond25 v5 = 1#1), 256 ∣ (k0_mult14 v5).toNat := fun i v5 k0_hw1 k0_h23 k0_h25 => k0_hw1.2.2.2.2.2.2.2.2.2.2.2.2.2.2.2.2.1 k0_h23 k0_h25
theorem k0_off26_inb : ∀ (i : grid0.Coords) (v5 : BitVec 32) (k0_hw1 : k0_chk1 i v5), ∀ (k0_h23 : k0_cond23 i = 1#1), ∀ (k0_h25 : k0_cond25 v5 = 1#1), ∀ a, (k0_off26 v5) a + S128x1024.size a ≤ S1024x1024.size a := fun i v5 k0_hw1 k0_h23 k0_h25 => k0_hw1.2.2.2.2.2.2.2.2.2.2.2.2.2.2.2.2.2.1 k0_h23 k0_h25
theorem k0_mult15_dvd : ∀ (i : grid0.Coords) (v5 : BitVec 32) (k0_hw1 : k0_chk1 i v5), ∀ (k0_h23 : k0_cond23 i = 1#1), ∀ (k0_h26 : k0_cond26 v5 = 1#1), 256 ∣ (k0_mult15 v5).toNat := fun i v5 k0_hw1 k0_h23 k0_h26 => k0_hw1.2.2.2.2.2.2.2.2.2.2.2.2.2.2.2.2.2.2.1 k0_h23 k0_h26
theorem k0_off27_inb : ∀ (i : grid0.Coords) (v5 : BitVec 32) (k0_hw1 : k0_chk1 i v5), ∀ (k0_h23 : k0_cond23 i = 1#1), ∀ (k0_h26 : k0_cond26 v5 = 1#1), ∀ a, (k0_off27 v5) a + S192x1024.size a ≤ S1024x1024.size a := fun i v5 k0_hw1 k0_h23 k0_h26 => k0_hw1.2.2.2.2.2.2.2.2.2.2.2.2.2.2.2.2.2.2.2 k0_h23 k0_h26

def k0_cond28 (i : grid0.Coords) : BitVec 1 :=
  let arg2 : BitVec 32 := BitVec.ofNat 32 (i 2).val
  let c7_i32 : BitVec 32 := 7#32
  let v84 : BitVec 1 := Scalar.cmpi .eq arg2 c7_i32
  let arg3 : BitVec 32 := BitVec.ofNat 32 (i 3).val
  let c3_i32_37 : BitVec 32 := 3#32
  let v85 : BitVec 1 := Scalar.cmpi .eq arg3 c3_i32_37
  let v86 : BitVec 1 := Scalar.andi v84 v85
  let v87 : BitVec 32 := Scalar.extui v86
  let c0_i32_38 : BitVec 32 := 0#32
  let v88 : BitVec 1 := Scalar.cmpi .ne v87 c0_i32_38
  v88

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.addi c4_i32 arg3
  let c0_i32 : BitVec 32 := 0#32
  let c0_i32_0 : BitVec 32 := 0#32
  ![arg2.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== ReferenceIdeal.lean ====
abbrev S4x8192x1024 : Shape := ⟨3, ![4, 8192, 1024]⟩
abbrev S4x8192x128 : Shape := ⟨3, ![4, 8192, 128]⟩
abbrev S8x8x1024 : Shape := ⟨3, ![8, 8, 1024]⟩
abbrev S1x8x1024x7168 : Shape := ⟨4, ![1, 8, 1024, 7168]⟩
abbrev S1x8x3584x1024 : Shape := ⟨4, ![1, 8, 3584, 1024]⟩
abbrev S1024 : Shape := ⟨1, ![1024]⟩
abbrev S_ : Shape := ⟨0, ![]⟩
abbrev S1x1x1024x7168 : Shape := ⟨4, ![1, 1, 1024, 7168]⟩
abbrev S1024x7168 : Shape := ⟨2, ![1024, 7168]⟩
abbrev S4x8192x7168 : Shape := ⟨3, ![4, 8192, 7168]⟩
abbrev S4x8192x3584 : Shape := ⟨3, ![4, 8192, 3584]⟩
abbrev S4x8192x1 : Shape := ⟨3, ![4, 8192, 1]⟩
abbrev S1x1x3584x1024 : Shape := ⟨4, ![1, 1, 3584, 1024]⟩
abbrev S3584x1024 : Shape := ⟨2, ![3584, 1024]⟩
abbrev S4x1x1024 : Shape := ⟨3, ![4, 1, 1024]⟩
abbrev S4x8192 : Shape := ⟨2, ![4, 8192]⟩
abbrev S1x1x1024 : Shape := ⟨3, ![1, 1, 1024]⟩

abbrev nBuf : Space → Nat
  | .hbm => 206
  | .vmem => 0
  | .smem => 0
  | _ => 0

abbrev hbmTy0_0 (i : Nat) : BufTy := match i % 128 with
  | 0 => ⟨S4x8192x1024, .f32⟩
  | 1 => ⟨S4x8192x1024, .bf16⟩
  | 2 => ⟨S4x8192x128, .f32⟩
  | 3 => ⟨S8x8x1024, .f32⟩
  | 4 => ⟨S1x8x1024x7168, .f32⟩
  | 5 => ⟨S1x8x3584x1024, .f32⟩
  | 6 => ⟨S1024, .f32⟩
  | 7 => ⟨S4x8192x1024, .f32⟩
  | 8 => ⟨S_, .f32⟩
  | 9 => ⟨S4x8192x1024, .f32⟩
  | 10 => ⟨S1x1x1024x7168, .f32⟩
  | 11 => ⟨S1024x7168, .f32⟩
  | 12 => ⟨S4x8192x7168, .f32⟩
  | 13 => ⟨S4x8192x3584, .f32⟩
  | 14 => ⟨S4x8192x3584, .f32⟩
  | 15 => ⟨S4x8192x1, .f32⟩
  | 16 => ⟨S4x8192x3584, .f32⟩
  | 17 => ⟨S4x8192x3584, .f32⟩
  | 18 => ⟨S_, .f32⟩
  | 19 => ⟨S4x8192x3584, .f32⟩
  | 20 => ⟨S4x8192x3584, .f32⟩
  | 21 => ⟨S_, .f32⟩
  | 22 => ⟨S4x8192x3584, .f32⟩
  | 23 => ⟨S4x8192x3584, .f32⟩
  | 24 => ⟨S4x8192x3584, .f32⟩
  | 25 => ⟨S4x8192x3584, .f32⟩
  | 26 => ⟨S1x1x3584x1024, .f32⟩
  | 27 => ⟨S3584x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S1x1x1024x7168, .f32⟩
  | 33 => ⟨S1024x7168, .f32⟩
  | 34 => ⟨S4x8192x7168, .f32⟩
  | 35 => ⟨S4x8192x3584, .f32⟩
  | 36 => ⟨S4x8192x3584, .f32⟩
  | 37 => ⟨S4x8192x1, .f32⟩
  | 38 => ⟨S4x8192x3584, .f32⟩
  | 39 => ⟨S4x8192x3584, .f32⟩
  | 40 => ⟨S_, .f32⟩
  | 41 => ⟨S4x8192x3584, .f32⟩
  | 42 => ⟨S4x8192x3584, .f32⟩
  | 43 => ⟨S_, .f32⟩
  | 44 => ⟨S4x8192x3584, .f32⟩
  | 45 => ⟨S4x8192x3584, .f32⟩
  | 46 => ⟨S4x8192x3584, .f32⟩
  | 47 => ⟨S4x8192x3584, .f32⟩
  | 48 => ⟨S1x1x3584x1024, .f32⟩
  | 49 => ⟨S3584x1024, .f32⟩
  | 50 => ⟨S4x8192x1024, .f32⟩
  | 51 => ⟨S4x8192x1024, .f32⟩
  | 52 => ⟨S4x8192x1024, .f32⟩
  | 53 => ⟨S4x8192x1024, .f32⟩
  | 54 => ⟨S1x1x1024x7168, .f32⟩
  | 55 => ⟨S1024x7168, .f32⟩
  | 56 => ⟨S4x8192x7168, .f32⟩
  | 57 => ⟨S4x8192x3584, .f32⟩
  | 58 => ⟨S4x8192x3584, .f32⟩
  | 59 => ⟨S4x8192x1, .f32⟩
  | 60 => ⟨S4x8192x3584, .f32⟩
  | 61 => ⟨S4x8192x3584, .f32⟩
  | 62 => ⟨S_, .f32⟩
  | 63 => ⟨S4x8192x3584, .f32⟩
  | 64 => ⟨S4x8192x3584, .f32⟩
  | 65 => ⟨S_, .f32⟩
  | 66 => ⟨S4x8192x3584, .f32⟩
  | 67 => ⟨S4x8192x3584, .f32⟩
  | 68 => ⟨S4x8192x3584, .f32⟩
  | 69 => ⟨S4x8192x3584, .f32⟩
  | 70 => ⟨S1x1x3584x1024, .f32⟩
  | 71 => ⟨S3584x1024, .f32⟩
  | 72 => ⟨S4x8192x1024, .f32⟩
  | 73 => ⟨S4x8192x1024, .f32⟩
  | 74 => ⟨S4x8192x1024, .f32⟩
  | 75 => ⟨S4x8192x1024, .f32⟩
  | 76 => ⟨S1x1x1024x7168, .f32⟩
  | 77 => ⟨S1024x7168, .f32⟩
  | 78 => ⟨S4x8192x7168, .f32⟩
  | 79 => ⟨S4x8192x3584, .f32⟩
  | 80 => ⟨S4x8192x3584, .f32⟩
  | 81 => ⟨S4x8192x1, .f32⟩
  | 82 => ⟨S4x8192x3584, .f32⟩
  | 83 => ⟨S4x8192x3584, .f32⟩
  | 84 => ⟨S_, .f32⟩
  | 85 => ⟨S4x8192x3584, .f32⟩
  | 86 => ⟨S4x8192x3584, .f32⟩
  | 87 => ⟨S_, .f32⟩
  | 88 => ⟨S4x8192x3584, .f32⟩
  | 89 => ⟨S4x8192x3584, .f32⟩
  | 90 => ⟨S4x8192x3584, .f32⟩
  | 91 => ⟨S4x8192x3584, .f32⟩
  | 92 => ⟨S1x1x3584x1024, .f32⟩
  | 93 => ⟨S3584x1024, .f32⟩
  | 94 => ⟨S4x8192x1024, .f32⟩
  | 95 => ⟨S4x8192x1024, .f32⟩
  | 96 => ⟨S4x8192x1024, .f32⟩
  | 97 => ⟨S4x8192x1024, .f32⟩
  | 98 => ⟨S1x1x1024x7168, .f32⟩
  | 99 => ⟨S1024x7168, .f32⟩
  | 100 => ⟨S4x8192x7168, .f32⟩
  | 101 => ⟨S4x8192x3584, .f32⟩
  | 102 => ⟨S4x8192x3584, .f32⟩
  | 103 => ⟨S4x8192x1, .f32⟩
  | 104 => ⟨S4x8192x3584, .f32⟩
  | 105 => ⟨S4x8192x3584, .f32⟩
  | 106 => ⟨S_, .f32⟩
  | 107 => ⟨S4x8192x3584, .f32⟩
  | 108 => ⟨S4x8192x3584, .f32⟩
  | 109 => ⟨S_, .f32⟩
  | 110 => ⟨S4x8192x3584, .f32⟩
  | 111 => ⟨S4x8192x3584, .f32⟩
  | 112 => ⟨S4x8192x3584, .f32⟩
  | 113 => ⟨S4x8192x3584, .f32⟩
  | 114 => ⟨S1x1x3584x1024, .f32⟩
  | 115 => ⟨S3584x1024, .f32⟩
  | 116 => ⟨S4x8192x1024, .f32⟩
  | 117 => ⟨S4x8192x1024, .f32⟩
  | 118 => ⟨S4x8192x1024, .f32⟩
  | 119 => ⟨S4x8192x1024, .f32⟩
  | 120 => ⟨S1x1x1024x7168, .f32⟩
  | 121 => ⟨S1024x7168, .f32⟩
  | 122 => ⟨S4x8192x7168, .f32⟩
  | 123 => ⟨S4x8192x3584, .f32⟩
  | 124 => ⟨S4x8192x3584, .f32⟩
  | 125 => ⟨S4x8192x1, .f32⟩
  | 126 => ⟨S4x8192x3584, .f32⟩
  | 127 => ⟨S4x8192x3584, .f32⟩
  | _ => ⟨S4x8192x1024, .f32⟩

abbrev hbmTy0_1 (i : Nat) : BufTy := match i % 128 with
  | 0 => ⟨S_, .f32⟩
  | 1 => ⟨S4x8192x3584, .f32⟩
  | 2 => ⟨S4x8192x3584, .f32⟩
  | 3 => ⟨S_, .f32⟩
  | 4 => ⟨S4x8192x3584, .f32⟩
  | 5 => ⟨S4x8192x3584, .f32⟩
  | 6 => ⟨S4x8192x3584, .f32⟩
  | 7 => ⟨S4x8192x3584, .f32⟩
  | 8 => ⟨S1x1x3584x1024, .f32⟩
  | 9 => ⟨S3584x1024, .f32⟩
  | 10 => ⟨S4x8192x1024, .f32⟩
  | 11 => ⟨S4x8192x1024, .f32⟩
  | 12 => ⟨S4x8192x1024, .f32⟩
  | 13 => ⟨S4x8192x1024, .f32⟩
  | 14 => ⟨S1x1x1024x7168, .f32⟩
  | 15 => ⟨S1024x7168, .f32⟩
  | 16 => ⟨S4x8192x7168, .f32⟩
  | 17 => ⟨S4x8192x3584, .f32⟩
  | 18 => ⟨S4x8192x3584, .f32⟩
  | 19 => ⟨S4x8192x1, .f32⟩
  | 20 => ⟨S4x8192x3584, .f32⟩
  | 21 => ⟨S4x8192x3584, .f32⟩
  | 22 => ⟨S_, .f32⟩
  | 23 => ⟨S4x8192x3584, .f32⟩
  | 24 => ⟨S4x8192x3584, .f32⟩
  | 25 => ⟨S_, .f32⟩
  | 26 => ⟨S4x8192x3584, .f32⟩
  | 27 => ⟨S4x8192x3584, .f32⟩
  | 28 => ⟨S4x8192x3584, .f32⟩
  | 29 => ⟨S4x8192x3584, .f32⟩
  | 30 => ⟨S1x1x3584x1024, .f32⟩
  | 31 => ⟨S3584x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S1x1x1024x7168, .f32⟩
  | 37 => ⟨S1024x7168, .f32⟩
  | 38 => ⟨S4x8192x7168, .f32⟩
  | 39 => ⟨S4x8192x3584, .f32⟩
  | 40 => ⟨S4x8192x3584, .f32⟩
  | 41 => ⟨S4x8192x1, .f32⟩
  | 42 => ⟨S4x8192x3584, .f32⟩
  | 43 => ⟨S4x8192x3584, .f32⟩
  | 44 => ⟨S_, .f32⟩
  | 45 => ⟨S4x8192x3584, .f32⟩
  | 46 => ⟨S4x8192x3584, .f32⟩
  | 47 => ⟨S_, .f32⟩
  | 48 => ⟨S4x8192x3584, .f32⟩
  | 49 => ⟨S4x8192x3584, .f32⟩
  | 50 => ⟨S4x8192x3584, .f32⟩
  | 51 => ⟨S4x8192x3584, .f32⟩
  | 52 => ⟨S1x1x3584x1024, .f32⟩
  | 53 => ⟨S3584x1024, .f32⟩
  | 54 => ⟨S4x8192x1024, .f32⟩
  | 55 => ⟨S4x8192x1024, .f32⟩
  | 56 => ⟨S4x8192x1024, .f32⟩
  | 57 => ⟨S4x8192x1024, .f32⟩
  | 58 => ⟨S4x1x1024, .f32⟩
  | 59 => ⟨S4x8192x1024, .f32⟩
  | 60 => ⟨S4x8192x1024, .f32⟩
  | 61 => ⟨S4x8192x1024, .f32⟩
  | 62 => ⟨S4x8192x1024, .f32⟩
  | 63 => ⟨S_, .f32⟩
  | 64 => ⟨S4x8192, .f32⟩
  | 65 => ⟨S4x8192x1, .f32⟩
  | 66 => ⟨S_, .f32⟩
  | 67 => ⟨S4x8192x1, .f32⟩
  | 68 => ⟨S4x8192x1, .f32⟩
  | 69 => ⟨S_, .f32⟩
  | 70 => ⟨S4x8192x1, .f32⟩
  | 71 => ⟨S4x8192x1, .f32⟩
  | 72 => ⟨S4x8192x1, .f32⟩
  | 73 => ⟨S4x8192x1024, .f32⟩
  | 74 => ⟨S4x8192x1024, .f32⟩
  | 75 => ⟨S1x1x1024, .f32⟩
  | 76 => ⟨S4x8192x1024, .f32⟩
  | 77 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_cst_0 : Ref sig .tc := ⟨.hbm, 191, rfl⟩
abbrev main_v119 : Ref sig .tc := ⟨.hbm, 192, rfl⟩
abbrev main_v120 : Ref sig .tc := ⟨.hbm, 193, rfl⟩
abbrev main_cst_1 : Ref sig .tc := ⟨.hbm, 194, rfl⟩
abbrev main_v121 : Ref sig .tc := ⟨.hbm, 195, rfl⟩
abbrev main_v122 : Ref sig .tc := ⟨.hbm, 196, rfl⟩
abbrev main_cst_2 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩

abbrev nD : Nat := 1
abbrev τ : Topo := Topo.v7x

variable {F : FTy → Type} [FloatOps F]
-- ==== Proof.Words.lean ====
/- The kernel's integer chain in closed form: the trip counts, the offsets and the conditions that it computes from the number of tokens
   routed to an expert, for every such number from 0 to 1024. -/
module

public import proofs.«01_k».proof.Proof.Gen.KernelIdeal

@[expose] public section

set_option maxRecDepth 16384
set_option synthInstance.maxSize 1000000
set_option synthInstance.maxHeartbeats 0
set_option maxHeartbeats 4000000

namespace Cert.KernelIdeal.Hand

open Idealize.ShloMosaic Cert.KernelIdeal Cert.KernelIdeal.Gen

/-- A grid point with every coordinate 0 but the last. -/
abbrev pt (f : Fin 4) : grid0.Coords := fun a => match a with | 0 => (0 : Fin 4) | 1 => (0 : Fin 8) | 2 => (0 : Fin 8) | 3 => f

/-- The groups of 256 rows that a count of `n` tokens takes: none at five tiles of 64, which one piece of 320 rows serves. -/
def ngOf (n : Nat) : Nat := if (n + 63) / 64 = 5 then 0 else (n + 63) / 64 / 4
/-- The tiles of 64 rows left after the groups. -/
def restOf (n : Nat) : Nat := if (n + 63) / 64 = 5 then 0 else (n + 63) / 64 % 4

theorem chk_pts : ∀ n : Fin 1025, k0_chk1 (pt 0) (BitVec.ofNat 32 n.val) ∧ k0_chk1 (pt 3) (BitVec.ofNat 32 n.val) := by
  decide +kernel

end Cert.KernelIdeal.Hand
-- ==== Proof.Step.lean ====
/- One grid point's work as functions of what its buffers hold. -/
module

public import proofs.«01_k».proof.Proof.Gen.KernelIdeal.Skeleton
public import Idealize.ShloMosaic.Lib.VecWindow

@[expose] public section

set_option maxRecDepth 16384
set_option maxHeartbeats 4000000

noncomputable section

namespace Cert.KernelIdeal.Hand

open Idealize.ShloMosaic Idealize.ShloMosaic.TcCoe Cert.KernelIdeal Cert.KernelIdeal.Gen

variable {F : FTy → Type} [FloatOps F]

/-- `n` trips of an update that is told its trip's number below `N`. -/
def trips {α : Type} (N : ℕ) (f : Fin N → α → α) : ℕ → α → α
  | 0, x => x
  | k + 1, x => if h : k < N then f ⟨k, h⟩ (trips N f k x) else trips N f k x

theorem trips_succ {α : Type} {N : ℕ} (f : Fin N → α → α) (k : Fin N) (x : α) : trips N f (k.val + 1) x = f k (trips N f k.val x) :=
  dif_pos k.isLt

/-! ### The counts' arithmetic -/

/-- The number of 64-row tiles of a count. -/
def tiles (v5 : BitVec 32) : BitVec 32 :=
  Scalar.select
    (Scalar.andi
      (Scalar.cmpi .ne
        (Scalar.subi (Scalar.extui (Scalar.cmpi .sgt (Scalar.subi (Scalar.addi v5 64#32) 1#32) 0#32) : BitVec 32) (Scalar.extui (Scalar.cmpi .slt (Scalar.subi (Scalar.addi v5 64#32) 1#32) 0#32)))
        (Scalar.subi (Scalar.extui (Scalar.cmpi .sgt 64#32 0#32) : BitVec 32) (Scalar.extui (Scalar.cmpi .slt 64#32 0#32))))
      (Scalar.cmpi .ne (Scalar.remsi (Scalar.subi (Scalar.addi v5 64#32) 1#32) 64#32) 0#32))
    (Scalar.subi (Scalar.divsi (Scalar.subi (Scalar.addi v5 64#32) 1#32) 64#32) 1#32)
    (Scalar.divsi (Scalar.subi (Scalar.addi v5 64#32) 1#32) 64#32)

/-- Whether the count takes the one 320-row pass. -/
def single (v5 : BitVec 32) : BitVec 1 := Scalar.cmpi .eq (tiles v5) 5#32

/-- The number of 256-row passes of a count. -/
def whole (v5 : BitVec 32) : BitVec 32 :=
  Scalar.muli
    (Scalar.select
      (Scalar.andi
        (Scalar.cmpi .ne
          (Scalar.subi (Scalar.extui (Scalar.cmpi .sgt (tiles v5) 0#32) : BitVec 32) (Scalar.extui (Scalar.cmpi .slt (tiles v5) 0#32)))
          (Scalar.subi (Scalar.extui (Scalar.cmpi .sgt 4#32 0#32) : BitVec 32) (Scalar.extui (Scalar.cmpi .slt 4#32 0#32))))
        (Scalar.cmpi .ne (Scalar.remsi (tiles v5) 4#32) 0#32))
      (Scalar.subi (Scalar.divsi (tiles v5) 4#32) 1#32)
      (Scalar.divsi (tiles v5) 4#32))
    (Scalar.subi 1#32 (Scalar.extui (single v5)))

/-- The number of rows left over, in 64-row tiles. -/
def over (v5 : BitVec 32) : BitVec 32 :=
  Scalar.muli
    (Scalar.select
      (Scalar.andi
        (Scalar.xori (Scalar.cmpi .slt (Scalar.remsi (tiles v5) (Scalar.select (Scalar.cmpi .eq 4#32 0#32) 1#32 4#32)) 0#32) (Scalar.cmpi .slt (Scalar.select (Scalar.cmpi .eq 4#32 0#32) 1#32 4#32) 0#32))
        (Scalar.cmpi .ne (Scalar.remsi (tiles v5) (Scalar.select (Scalar.cmpi .eq 4#32 0#32) 1#32 4#32)) 0#32))
      (Scalar.addi (Scalar.remsi (tiles v5) (Scalar.select (Scalar.cmpi .eq 4#32 0#32) 1#32 4#32)) (Scalar.select (Scalar.cmpi .eq 4#32 0#32) 1#32 4#32))
      (Scalar.remsi (tiles v5) (Scalar.select (Scalar.cmpi .eq 4#32 0#32) 1#32 4#32)))
    (Scalar.subi 1#32 (Scalar.extui (single v5)))

/-! ### The ranks -/

def cmbW (CM : FVec F S1x1024x128 .f32) : Fin 4 → FVec F S1x256x128 .f32
  | 0 => VecWindow.window CM ![0, 0, 0] S1x256x128.size inb_S1x1024x128_S1x256x128_0_0_0
  | 1 => VecWindow.window CM ![0, 256, 0] S1x256x128.size inb_S1x1024x128_S1x256x128_0_256_0
  | 2 => VecWindow.window CM ![0, 512, 0] S1x256x128.size inb_S1x1024x128_S1x256x128_0_512_0
  | 3 => VecWindow.window CM ![0, 768, 0] S1x256x128.size inb_S1x1024x128_S1x256x128_0_768_0

def rankCols (CM : FVec F S1x1024x128 .f32) (K : FVec F S1024x128 .f32) : FVec F S1024x128 .f32 :=
  VecWindow.put
    (VecWindow.put
      (VecWindow.put
        (VecWindow.put K ![0, 0] S256x128.size (k0_pay24 (cmbW CM 0)))
        ![256, 0] S256x128.size (k0_pay28 (k0_pay25 (cmbW CM 0)) (k0_pay26 (cmbW CM 1)) (k0_pay27 (cmbW CM 1))))
      ![512, 0] S256x128.size (k0_pay31 (k0_pay21 (F := F)) (k0_pay25 (cmbW CM 0)) (k0_pay26 (cmbW CM 1)) (cmbW CM 2)))
    ![768, 0] S256x128.size (k0_pay38 (k0_pay21 (F := F)) (k0_pay32 (k0_pay25 (cmbW CM 0)) (k0_pay26 (cmbW CM 1)) (cmbW CM 2)) (k0_pay33 (cmbW CM 3)) (k0_pay34 (cmbW CM 3)))

/-- The test for a block's first point. -/
def first (i : grid0.Coords) : BitVec 1 :=
  Scalar.cmpi .ne (Scalar.extui (Scalar.andi (Scalar.cmpi .eq (BitVec.ofNat 32 (i 2).val) 0#32) (Scalar.cmpi .eq (BitVec.ofNat 32 (i 3).val) 0#32)) : BitVec 32) 0#32

/-! ### The rows gathered for one expert -/

section Gather
variable (i : grid0.Coords) (v5 : Elt F .i32) (hw : k0_chk1 i v5)

def rowOf (h2 : k0_cond2 i = 1#1) (KR : FVec F S128x1024 .f32) : FVec F S1x1024 .f32 :=
  VecWindow.window KR (k0_off2 i) S1x1024.size (k0_off2_inb i h2)

def gatherTrip (row : FVec F S1x1024 .f32) (H : FVec F S1x1024x1024 .bf16) (k : Fin (k0_t1_loop v5).trips) (X : FVec F S1024x1024 .bf16) : FVec F S1024x1024 .bf16 :=
  VecWindow.put X (k0_off3 v5 k) S256x1024.size (k0_pay35 v5 row k H)

def gather64 (row : FVec F S1x1024 .f32) (H : FVec F S1x1024x1024 .bf16) (X : FVec F S1024x1024 .bf16) : FVec F S1024x1024 .bf16 :=
  if k0_cond3 v5 = 1#1 then VecWindow.put X (k0_off5 v5) S64x1024.size (k0_pay41 row (whole v5) H) else X

def gather128 (row : FVec F S1x1024 .f32) (H : FVec F S1x1024x1024 .bf16) (X : FVec F S1024x1024 .bf16) : FVec F S1024x1024 .bf16 :=
  if k0_cond4 v5 = 1#1 then VecWindow.put X (k0_off6 v5) S128x1024.size (k0_pay42 row (whole v5) H) else X

def gather192 (row : FVec F S1x1024 .f32) (H : FVec F S1x1024x1024 .bf16) (X : FVec F S1024x1024 .bf16) : FVec F S1024x1024 .bf16 :=
  if k0_cond5 v5 = 1#1 then VecWindow.put X (k0_off7 v5) S192x1024.size (k0_pay43 row (whole v5) H) else X

def gather320 (row : FVec F S1x1024 .f32) (H : FVec F S1x1024x1024 .bf16) (X : FVec F S1024x1024 .bf16) : FVec F S1024x1024 .bf16 :=
  if Scalar.cmpi .ne (Scalar.extui (single v5) : BitVec 32) 0#32 = 1#1 then VecWindow.put X ![0, 0] S320x1024.size (k0_pay44 row H) else X

def gatherRow (row : FVec F S1x1024 .f32) (H : FVec F S1x1024x1024 .bf16) (X : FVec F S1024x1024 .bf16) : FVec F S1024x1024 .bf16 :=
  gather320 v5 row H (gather192 v5 row H (gather128 v5 row H (gather64 v5 row H
    (trips (k0_t1_loop v5).trips (gatherTrip v5 row H) (k0_t1_loop v5).trips X))))

def gather (KR : FVec F S128x1024 .f32) (H : FVec F S1x1024x1024 .bf16) (X : FVec F S1024x1024 .bf16) : FVec F S1024x1024 .bf16 :=
  if h2 : k0_cond2 i = 1#1 then gatherRow v5 (rowOf i h2 KR) H X else X

end Gather

/-! ### One tile of the expert's rows -/

section Expert
variable (i : grid0.Coords) (v5 : Elt F .i32) (hw : k0_chk1 i v5)
variable (G U : FVec F S1x1024x896 .bf16) (D : FVec F S1x896x1024 .bf16) (X : FVec F S1024x1024 .bf16)

def expertTrip (k : Fin (k0_t3_loop v5).trips) (Y : FVec F S1024x1024 .f32) : FVec F S1024x1024 .f32 :=
  let x := VecWindow.window X (k0_off8 v5 k) S256x1024.size (k0_off8_inb i v5 hw k)
  let Y1 := if k0_cond7 i = 1#1 then VecWindow.put Y (k0_off9 v5 k) S256x1024.size (k0_pay46 x G U D) else Y
  if h8 : k0_cond8 i = 1#1 then VecWindow.put Y1 (k0_off10 v5 k) S256x1024.size (k0_pay47 x G U D (VecWindow.window Y1 (k0_off10 v5 k) S256x1024.size (k0_off10_inb i v5 hw k h8))) else Y1

def expert256 (Y : FVec F S1024x1024 .f32) : FVec F S1024x1024 .f32 :=
  trips (k0_t3_loop v5).trips (expertTrip i v5 hw G U D X) (k0_t3_loop v5).trips Y

def expert64 (Y : FVec F S1024x1024 .f32) : FVec F S1024x1024 .f32 :=
  if h : k0_cond11 v5 = 1#1 then
    let x := VecWindow.window X (k0_off14 v5) S64x1024.size (k0_off14_inb i v5 hw h)
    let Y1 := if k0_cond12 i = 1#1 then VecWindow.put Y (k0_off15 v5) S64x1024.size (k0_pay2 x G U D) else Y
    if h1 : k0_cond13 i = 1#1 then VecWindow.put Y1 (k0_off16 v5) S64x1024.size (k0_pay3 x G U D (VecWindow.window Y1 (k0_off16 v5) S64x1024.size (k0_off16_inb i v5 hw h h1))) else Y1
  else Y

def expert128 (Y : FVec F S1024x1024 .f32) : FVec F S1024x1024 .f32 :=
  if h : k0_cond14 v5 = 1#1 then
    let x := VecWindow.window X (k0_off17 v5) S128x1024.size (k0_off17_inb i v5 hw h)
    let Y1 := if k0_cond15 i = 1#1 then VecWindow.put Y (k0_off18 v5) S128x1024.size (k0_pay5 x G U D) else Y
    if h1 : k0_cond16 i = 1#1 then VecWindow.put Y1 (k0_off19 v5) S128x1024.size (k0_pay6 x G U D (VecWindow.window Y1 (k0_off19 v5) S128x1024.size (k0_off19_inb i v5 hw h h1))) else Y1
  else Y

def expert192 (Y : FVec F S1024x1024 .f32) : FVec F S1024x1024 .f32 :=
  if h : k0_cond17 v5 = 1#1 then
    let x := VecWindow.window X (k0_off20 v5) S192x1024.size (k0_off20_inb i v5 hw h)
    let Y1 := if k0_cond18 i = 1#1 then VecWindow.put Y (k0_off21 v5) S192x1024.size (k0_pay8 x G U D) else Y
    if h1 : k0_cond19 i = 1#1 then VecWindow.put Y1 (k0_off22 v5) S192x1024.size (k0_pay9 x G U D (VecWindow.window Y1 (k0_off22 v5) S192x1024.size (k0_off22_inb i v5 hw h h1))) else Y1
  else Y

def expert320 (Y : FVec F S1024x1024 .f32) : FVec F S1024x1024 .f32 :=
  if Scalar.cmpi .ne (Scalar.extui (single v5) : BitVec 32) 0#32 = 1#1 then
    let x := VecWindow.window X ![0, 0] S320x1024.size inb_S1024x1024_S320x1024_0_0
    let Y1 := if Scalar.cmpi .ne (Scalar.extui (Scalar.cmpi .eq (BitVec.ofNat 32 (i 3).val) 0#32) : BitVec 32) 0#32 = 1#1 then VecWindow.put Y ![0, 0] S320x1024.size (k0_pay11 x G U D) else Y
    if Scalar.cmpi .ne (Scalar.extui (Scalar.cmpi .sgt (BitVec.ofNat 32 (i 3).val) 0#32) : BitVec 32) 0#32 = 1#1 then
      VecWindow.put Y1 ![0, 0] S320x1024.size (k0_pay12 x G U D (VecWindow.window Y1 ![0, 0] S320x1024.size inb_S1024x1024_S320x1024_0_0)) else Y1
  else Y

def expertTail (Y : FVec F S1024x1024 .f32) : FVec F S1024x1024 .f32 :=
  expert320 i v5 G U D X (expert192 i v5 hw G U D X (expert128 i v5 hw G U D X (expert64 i v5 hw G U D X Y)))

end Expert

/-! ### The expert's rows added to their tokens -/

section Scatter
variable (i : grid0.Coords) (v5 : Elt F .i32) (hw : k0_chk1 i v5) (h23 : k0_cond23 i = 1#1)
variable (r w : FVec F S1024x1 .f32) (Y : FVec F S1024x1024 .f32)

def scatterTrip (k : Fin (k0_t5_loop v5).trips) (A : FVec F S1024x1024 .f32) : FVec F S1024x1024 .f32 :=
  k0_pay13 v5 r w k (VecWindow.window Y (k0_off23 v5 k) S256x1024.size (k0_off23_inb i v5 hw k h23)) A

def scatter64 (A : FVec F S1024x1024 .f32) : FVec F S1024x1024 .f32 :=
  if h : k0_cond24 v5 = 1#1 then k0_pay15 r w (whole v5) (VecWindow.window Y (k0_off25 v5) S64x1024.size (k0_off25_inb i v5 hw h23 h)) A else A

def scatter128 (A : FVec F S1024x1024 .f32) : FVec F S1024x1024 .f32 :=
  if h : k0_cond25 v5 = 1#1 then k0_pay16 r w (whole v5) (VecWindow.window Y (k0_off26 v5) S128x1024.size (k0_off26_inb i v5 hw h23 h)) A else A

def scatter192 (A : FVec F S1024x1024 .f32) : FVec F S1024x1024 .f32 :=
  if h : k0_cond26 v5 = 1#1 then k0_pay17 r w (whole v5) (VecWindow.window Y (k0_off27 v5) S192x1024.size (k0_off27_inb i v5 hw h23 h)) A else A

def scatter320 (A : FVec F S1024x1024 .f32) : FVec F S1024x1024 .f32 :=
  if Scalar.cmpi .ne (Scalar.extui (single v5) : BitVec 32) 0#32 = 1#1 then k0_pay18 r w (VecWindow.window Y ![0, 0] S320x1024.size inb_S1024x1024_S320x1024_0_0) A else A

def scatterAll (A : FVec F S1024x1024 .f32) : FVec F S1024x1024 .f32 :=
  scatter320 v5 r w Y (scatter192 i v5 hw h23 r w Y (scatter128 i v5 hw h23 r w Y (scatter64 i v5 hw h23 r w Y
    (trips (k0_t5_loop v5).trips (scatterTrip i v5 hw h23 r w Y) (k0_t5_loop v5).trips A))))

end Scatter

/-- The accumulator after a point whose buffers hold the ranks `K`, the block's weights `CM` and the expert's rows `Y`. -/
def scatter (i : grid0.Coords) (v5 : Elt F .i32) (hw : k0_chk1 i v5) (K : FVec F S1024x128 .f32) (CM : FVec F S1x1024x128 .f32)
    (Y A : FVec F S1024x1024 .f32) : FVec F S1024x1024 .f32 :=
  if h23 : k0_cond23 i = 1#1 then
    scatterAll i v5 hw h23 (k0_pay36 (BitVec.ofNat 32 (i 2).val) K) (k0_pay37 (BitVec.ofNat 32 (i 2).val) CM) Y A
  else A

def gateRow (M : FVec F S1x8x1024 .f32) : FVec F S1x1x1024 .f32 :=
  VecWindow.window M ![0, 5, 0] S1x1x1024.size inb_S1x8x1024_S1x1x1024_0_5_0

/-- The result's block after a point. -/
def result (i : grid0.Coords) (X5 : FVec F S1x1024x1024 .f32) (M : FVec F S1x8x1024 .f32) (FG : FVec F S1x1024 .f32)
    (A : FVec F S1024x1024 .f32) (O : FVec F S1x1024x1024 .f32) : FVec F S1x1024x1024 .f32 :=
  if k0_cond28 i = 1#1 then k0_pay19 X5 (gateRow M) A FG else O

/-- What the scratch buffers hold: the accumulator, the gathered rows, the expert's rows, the ranks by column and by row. -/
structure St (F : FTy → Type) where
  acc : FVec F S1024x1024 .f32
  xe : FVec F S1024x1024 .bf16
  ye : FVec F S1024x1024 .f32
  rc : FVec F S1024x128 .f32
  rr : FVec F S128x1024 .f32

/-- The ranks set at a block's first point. -/
def stepA (i : grid0.Coords) (CM : FVec F S1x1024x128 .f32) (S : St F) : St F :=
  if first i = 1#1 then { S with acc := k0_pay20 (F := F), rc := rankCols CM S.rc, rr := k0_pay39 (rankCols CM S.rc) } else S

/-- What the scratch buffers hold after a point. -/
def step (i : grid0.Coords) (v5 : Elt F .i32) (hw : k0_chk1 i v5) (H : FVec F S1x1024x1024 .bf16) (CM : FVec F S1x1024x128 .f32)
    (G U : FVec F S1x1024x896 .bf16) (D : FVec F S1x896x1024 .bf16) (S : St F) : St F :=
  let S1 := stepA i CM S
  let xe := gather i v5 S1.rr H S1.xe
  let ye := expertTail i v5 hw G U D xe (expert256 i v5 hw G U D xe S1.ye)
  { acc := scatter i v5 hw S1.rc CM ye S1.acc, xe := xe, ye := ye, rc := S1.rc, rr := S1.rr }

end Cert.KernelIdeal.Hand
-- ==== Proof.Cut.lean ====
/- The body's chain cut at its phases. -/
module

public import proofs.«01_k».proof.Proof.Step
public import Idealize.ShloMosaic.Lib.Tactic.Stretches

@[expose] public section

set_option maxRecDepth 65536
set_option maxHeartbeats 8000000

noncomputable section

namespace Cert.KernelIdeal.Hand

open Idealize.ShloMosaic Idealize.ShloMosaic.TcCoe Cert.KernelIdeal Cert.KernelIdeal.Gen

cut_chain p := k0_part5_skel at 3, 4
cut_chain g := k0_part5_skel / 4 then at 2, 3, 4, 5, 6
cut_chain q := cc0_moe_skel at 2, 3, 4, 5, 6, 7, 8
cut_chain s := cc0_moe_skel / 7 then at 2, 3, 4, 5, 6, 7

end Cert.KernelIdeal.Hand
-- ==== Proof.Body.lean ====
/- What each phase of the body does to the buffers. -/
module

public import proofs.«01_k».proof.Proof.Cut
public import Idealize.ShloMosaic.Lib.Tactic

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A memref held whole, its elements the vector `X`. -/
abbrev hold (c : Dev nD) {sp : Space} {s : Shape} {e : EltTy} (m : Memref sig .tc sp s e) (X : s.Idx → Elt F e) : sProp 𝕄 :=
  m.view.loc (c : Thread nD τ) ↦[m.view.set]{fullShare} m.view.rep X

theorem hold_of (c : Dev nD) {sp : Space} {s : Shape} {e : EltTy} (m : Memref sig .tc sp s e) (f : Buf (Elt F) (m.view.loc (c : Thread nD τ))) (X : s.Idx → Elt F e)
    (h : m.view.read (Elt F) f = X) : (m.view.loc (c : Thread nD τ) ↦[m.view.set]{fullShare} f : sProp 𝕄) ⊢ hold c m X :=
  pointsTo_rep_of_read (c : Thread nD τ) m f fullShare X h

/-- A store of a window, read back as a vector. -/
theorem hold_put (c : Dev nD) {sp : Space} {s : Shape} {e : EltTy} (m : Memref sig .tc sp s e) (X : s.Idx → Elt F e) {off size : Fin s.rank → ℕ}
    (inb : ∀ a, off a + size a ≤ s.size a) (w w' : (Rect.unit off size inb).shape.Idx → Elt F e) (h : w = w') :
    (m.view.loc (c : Thread nD τ) ↦[m.view.set]{fullShare} m.view.writes (Elt F) (m.view.rep X) [⟨Rect.unit off size inb, w⟩] : sProp 𝕄)
      ⊢ hold c m (VecWindow.put X off size w') := by
  subst h
  exact hold_of c m _ _ (View.read_writes_rep_unit m.view X inb w rfl)

/-- A store of the whole, read back as a vector. -/
theorem hold_full (c : Dev nD) {sp : Space} {s : Shape} {e : EltTy} (m : Memref sig .tc sp s e) (f : Buf (Elt F) (m.view.loc (c : Thread nD τ))) {off : Fin s.rank → ℕ}
    (inb : ∀ a, off a + s.size a ≤ s.size a) (w w' : s.Idx → Elt F e) (h : w = w') :
    (m.view.loc (c : Thread nD τ) ↦[m.view.set]{fullShare} m.view.writes (Elt F) f [⟨Rect.unit off s.size inb, w⟩] : sProp 𝕄)
      ⊢ hold c m w' := by
  subst h
  exact hold_of c m _ _ (View.read_writes_full m.view _ inb w [])

section Args
variable (c : Dev nD) (i : grid0.Coords)
  (arg4 : Memref sig .tc .smem S256 .i32) (harg4 : arg4.IsWhole)
  (arg5 : Memref sig .tc .vmem S1x1024x1024 .f32) (harg5 : arg5.IsWhole)
  (arg6 : Memref sig .tc .vmem S1x1024x1024 .bf16) (harg6 : arg6.IsWhole)
  (arg7 : Memref sig .tc .vmem S1x1024x128 .f32) (harg7 : arg7.IsWhole)
  (arg8 : Memref sig .tc .vmem S1x8x1024 .f32) (harg8 : arg8.IsWhole)
  (arg9 : Memref sig .tc .vmem S1x1024x896 .bf16) (harg9 : arg9.IsWhole)
  (arg10 : Memref sig .tc .vmem S1x1024x896 .bf16) (harg10 : arg10.IsWhole)
  (arg11 : Memref sig .tc .vmem S1x896x1024 .bf16) (harg11 : arg11.IsWhole)
  (arg12 : Memref sig .tc .vmem S1x1024 .f32) (harg12 : arg12.IsWhole)
  (arg13 : Memref sig .tc .vmem S1x1024x1024 .f32) (harg13 : arg13.IsWhole)
  (arg14 : Memref sig .tc .vmem S1024x1024 .f32) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x128 .f32) (harg17 : arg17.IsWhole)
  (arg18 : Memref sig .tc .vmem S128x1024 .f32) (harg18 : arg18.IsWhole)

/-- One 256-row trip of the expert's tile. -/
theorem t3_trip (arg3 : BitVec 32) (v5 : Elt F .i32) (hw : k0_chk1 i v5) (v24 v34 c1 : BitVec 32) (k : Fin (k0_t3_loop v5).trips)
    (G U : FVec F S1x1024x896 .bf16) (D : FVec F S1x896x1024 .bf16) (X : FVec F S1024x1024 .bf16) (Y : FVec F S1024x1024 .f32)
    (hx : ¬ (k0_cond7 i = 1#1 ∧ k0_cond8 i = 1#1)) :
    iprop(hold c arg9 G ∗ hold c arg10 U ∗ hold c arg11 D ∗ hold c arg15 X ∗ hold c arg16 Y)
      ⊢ wp frame (wpE (defs₀ (F := F)) Variants.none (c : Thread nD τ) none) Set.univ (k0_t3_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v5 hw v24 v34 c1 k ())
          (fun _ => iprop(hold c arg9 G ∗ hold c arg10 U ∗ hold c arg11 D ∗ hold c arg15 X ∗ hold c arg16 (expertTrip i v5 hw G U D X k Y))) := by
  by_cases h0 : k0_cond7 i = 1#1 <;> by_cases h1 : k0_cond8 i = 1#1
  · exact absurd ⟨h0, h1⟩ hx
  · have e : expertTrip i v5 hw G U D X k Y = VecWindow.put Y (k0_off9 v5 k) S256x1024.size (k0_pay46 (VecWindow.window X (k0_off8 v5 k) S256x1024.size (k0_off8_inb i v5 hw k)) G U D) :=
      (dif_neg h1).trans (if_pos h0)
    rw [e]
    iintro ⟨H9, H10, H11, H15, H16⟩
    unfold k0_t3_body
    sl_exec
    sl_step
    isplitl [H9]; · iexact H9
    isplitl [H10]; · iexact H10
    isplitl [H11]; · iexact H11
    isplitl [H15]; · iexact H15
    iapply (hold_put c arg16 Y _ _ _ ?_) $$ H16
    congr 1
    all_goals first
    | exact View.readAt_rep_full _ _ _
    | exact View.readAt_rep_unit _ _ _ rfl _
  · have e : expertTrip i v5 hw G U D X k Y = VecWindow.put Y (k0_off10 v5 k) S256x1024.size (k0_pay47 (VecWindow.window X (k0_off8 v5 k) S256x1024.size (k0_off8_inb i v5 hw k)) G U D (VecWindow.window Y (k0_off10 v5 k) S256x1024.size (k0_off10_inb i v5 hw k h1))) :=
      (dif_pos h1).trans (by rw [if_neg h0])
    rw [e]
    iintro ⟨H9, H10, H11, H15, H16⟩
    unfold k0_t3_body
    sl_exec
    sl_step
    isplitl [H9]; · iexact H9
    isplitl [H10]; · iexact H10
    isplitl [H11]; · iexact H11
    isplitl [H15]; · iexact H15
    iapply (hold_put c arg16 Y _ _ _ ?_) $$ H16
    congr 1
    all_goals first
    | exact View.readAt_rep_full _ _ _
    | exact View.readAt_rep_unit _ _ _ rfl _
  · have e : expertTrip i v5 hw G U D X k Y = Y :=
      (dif_neg h1).trans (if_neg h0)
    rw [e]
    iintro ⟨H9, H10, H11, H15, H16⟩
    unfold k0_t3_body
    sl_exec
    sl_step
    isplitl [H9]; · iexact H9
    isplitl [H10]; · iexact H10
    isplitl [H11]; · iexact H11
    isplitl [H15]; · iexact H15
    iexact H16

/-- The expert's tile over the rows of the whole passes. -/
theorem q2_spec (arg3 : BitVec 32) (v5 : Elt F .i32) (hw : k0_chk1 i v5) (v24 v34 c1 : BitVec 32)
    (G U : FVec F S1x1024x896 .bf16) (D : FVec F S1x896x1024 .bf16) (X : FVec F S1024x1024 .bf16) (Y : FVec F S1024x1024 .f32)
    (hx : ¬ (k0_cond7 i = 1#1 ∧ k0_cond8 i = 1#1)) (ht : (k0_t4_loop v5).trips = 0) {R : Type} {κ : Prog (TpuEff nD τ sig (Elt F) Λ₀ .tc) R} {Q : R → sProp 𝕄} :
    iprop(hold c arg9 G ∗ hold c arg10 U ∗ hold c arg11 D ∗ hold c arg15 X ∗ hold c arg16 Y)
      ⊢ iprop((hold c arg9 G ∗ hold c arg10 U ∗ hold c arg11 D ∗ hold c arg15 X ∗ hold c arg16 (expert256 i v5 hw G U D X Y)
            -∗ wp frame (wpE (defs₀ (F := F)) Variants.none (c : Thread nD τ) none) Set.univ κ Q)
          -∗ wp frame (wpE (defs₀ (F := F)) Variants.none (c : Thread nD τ) none) Set.univ
              (q2 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v5 hw v24 v34 c1 κ) Q) := by
  iintro ⟨H9, H10, H11, H15, H16⟩ Hκ
  unfold q2
  sl_exec
  sl_for (fun k _ => iprop(hold c arg9 G ∗ hold c arg10 U ∗ hold c arg11 D ∗ hold c arg15 X ∗ hold c arg16 (trips (k0_t3_loop v5).trips (expertTrip i v5 hw G U D X) k Y))) $$ [H9 H10 H11 H15 H16]
  · intro k acc
    rw [trips_succ]
    exact t3_trip c i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v5 hw v24 v34 c1 k G U D X _ hx
  · isplitl [H9]; · iexact H9
    isplitl [H10]; · iexact H10
    isplitl [H11]; · iexact H11
    isplitl [H15]; · iexact H15
    iexact H16
  iintro %acc ⟨H9, H10, H11, H15, H16⟩
  sl_exec
  iapply Hκ
  isplitl [H9]; · iexact H9
  isplitl [H10]; · iexact H10
  isplitl [H11]; · iexact H11
  isplitl [H15]; · iexact H15
  iexact H16

/-- The expert's tile over 64 rows left over. -/
theorem q3_spec (v5 : Elt F .i32) (hw : k0_chk1 i v5)
    (G U : FVec F S1x1024x896 .bf16) (D : FVec F S1x896x1024 .bf16) (X : FVec F S1024x1024 .bf16) (Y : FVec F S1024x1024 .f32)
    (hx : ¬ (k0_cond12 i = 1#1 ∧ k0_cond13 i = 1#1)) {R : Type} {κ : Prog (TpuEff nD τ sig (Elt F) Λ₀ .tc) R} {Q : R → sProp 𝕄} :
    iprop(hold c arg9 G ∗ hold c arg10 U ∗ hold c arg11 D ∗ hold c arg15 X ∗ hold c arg16 Y)
      ⊢ iprop((hold c arg9 G ∗ hold c arg10 U ∗ hold c arg11 D ∗ hold c arg15 X ∗ hold c arg16 (expert64 i v5 hw G U D X Y) -∗ wp frame (wpE (defs₀ (F := F)) Variants.none (c : Thread nD τ) none) Set.univ κ Q)
          -∗ wp frame (wpE (defs₀ (F := F)) Variants.none (c : Thread nD τ) none) Set.univ (q3 i arg9 arg10 arg11 arg15 arg16 v5 hw κ) Q) := by
  by_cases h : k0_cond11 v5 = 1#1
  · by_cases h0 : k0_cond12 i = 1#1 <;> by_cases h1 : k0_cond13 i = 1#1
    · exact absurd ⟨h0, h1⟩ hx
    · have e : expert64 i v5 hw G U D X Y = VecWindow.put Y (k0_off15 v5) S64x1024.size (k0_pay2 (VecWindow.window X (k0_off14 v5) S64x1024.size (k0_off14_inb i v5 hw h)) G U D) :=
        (dif_pos h).trans ((dif_neg h1).trans (if_pos h0))
      rw [e]
      iintro ⟨H9, H10, H11, H15, H16⟩ Hκ
      unfold q3
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert64 i v5 hw G U D X Y = VecWindow.put Y (k0_off16 v5) S64x1024.size (k0_pay3 (VecWindow.window X (k0_off14 v5) S64x1024.size (k0_off14_inb i v5 hw h)) G U D (VecWindow.window Y (k0_off16 v5) S64x1024.size (k0_off16_inb i v5 hw h h1))) :=
        (dif_pos h).trans ((dif_pos h1).trans (by rw [if_neg h0]))
      rw [e]
      iintro ⟨H9, H10, H11, H15, H16⟩ Hκ
      unfold q3
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert64 i v5 hw G U D X Y = Y :=
        (dif_pos h).trans ((dif_neg h1).trans (if_neg h0))
      rw [e]
      iintro ⟨H9, H10, H11, H15, H16⟩ Hκ
      unfold q3
      sl_exec
      iapply Hκ
      isplitl [H9]; · iexact H9
      isplitl [H10]; · iexact H10
      isplitl [H11]; · iexact H11
      isplitl [H15]; · iexact H15
      iexact H16
  · have e : expert64 i v5 hw G U D X Y = Y :=
      dif_neg h
    rw [e]
    iintro ⟨H9, H10, H11, H15, H16⟩ Hκ
    unfold q3
    sl_exec
    iapply Hκ
    isplitl [H9]; · iexact H9
    isplitl [H10]; · iexact H10
    isplitl [H11]; · iexact H11
    isplitl [H15]; · iexact H15
    iexact H16

/-- The expert's tile over 128 rows left over. -/
theorem q4_spec (v5 : Elt F .i32) (hw : k0_chk1 i v5)
    (G U : FVec F S1x1024x896 .bf16) (D : FVec F S1x896x1024 .bf16) (X : FVec F S1024x1024 .bf16) (Y : FVec F S1024x1024 .f32)
    (hx : ¬ (k0_cond15 i = 1#1 ∧ k0_cond16 i = 1#1)) {R : Type} {κ : Prog (TpuEff nD τ sig (Elt F) Λ₀ .tc) R} {Q : R → sProp 𝕄} :
    iprop(hold c arg9 G ∗ hold c arg10 U ∗ hold c arg11 D ∗ hold c arg15 X ∗ hold c arg16 Y)
      ⊢ iprop((hold c arg9 G ∗ hold c arg10 U ∗ hold c arg11 D ∗ hold c arg15 X ∗ hold c arg16 (expert128 i v5 hw G U D X Y) -∗ wp frame (wpE (defs₀ (F := F)) Variants.none (c : Thread nD τ) none) Set.univ κ Q)
          -∗ wp frame (wpE (defs₀ (F := F)) Variants.none (c : Thread nD τ) none) Set.univ (q4 i arg9 arg10 arg11 arg15 arg16 v5 hw κ) Q) := by
  by_cases h : k0_cond14 v5 = 1#1
  · by_cases h0 : k0_cond15 i = 1#1 <;> by_cases h1 : k0_cond16 i = 1#1
    · exact absurd ⟨h0, h1⟩ hx
    · have e : expert128 i v5 hw G U D X Y = VecWindow.put Y (k0_off18 v5) S128x1024.size (k0_pay5 (VecWindow.window X (k0_off17 v5) S128x1024.size (k0_off17_inb i v5 hw h)) G U D) :=
        (dif_pos h).trans ((dif_neg h1).trans (if_pos h0))
      rw [e]
      iintro ⟨H9, H10, H11, H15, H16⟩ Hκ
      unfold q4
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert128 i v5 hw G U D X Y = VecWindow.put Y (k0_off19 v5) S128x1024.size (k0_pay6 (VecWindow.window X (k0_off17 v5) S128x1024.size (k0_off17_inb i v5 hw h)) G U D (VecWindow.window Y (k0_off19 v5) S128x1024.size (k0_off19_inb i v5 hw h h1))) :=
        (dif_pos h).trans ((dif_pos h1).trans (by rw [if_neg h0]))
      rw [e]
      iintro ⟨H9, H10, H11, H15, H16⟩ Hκ
      unfold q4
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert128 i v5 hw G U D X Y = Y :=
        (dif_pos h).trans ((dif_neg h1).trans (if_neg h0))
      rw [e]
      iintro ⟨H9, H10, H11, H15, H16⟩ Hκ
      unfold q4
      sl_exec
      iapply Hκ
      isplitl [H9]; · iexact H9
      isplitl [H10]; · iexact H10
      isplitl [H11]; · iexact H11
      isplitl [H15]; · iexact H15
      iexact H16
  · have e : expert128 i v5 hw G U D X Y = Y :=
      dif_neg h
    rw [e]
    iintro ⟨H9, H10, H11, H15, H16⟩ Hκ
    unfold q4
    sl_exec
    iapply Hκ
    isplitl [H9]; · iexact H9
    isplitl [H10]; · iexact H10
    isplitl [H11]; · iexact H11
    isplitl [H15]; · iexact H15
    iexact H16

/-- The expert's tile over 192 rows left over. -/
theorem q5_spec (v5 : Elt F .i32) (hw : k0_chk1 i v5)
    (G U : FVec F S1x1024x896 .bf16) (D : FVec F S1x896x1024 .bf16) (X : FVec F S1024x1024 .bf16) (Y : FVec F S1024x1024 .f32)
    (hx : ¬ (k0_cond18 i = 1#1 ∧ k0_cond19 i = 1#1)) {R : Type} {κ : Prog (TpuEff nD τ sig (Elt F) Λ₀ .tc) R} {Q : R → sProp 𝕄} :
    iprop(hold c arg9 G ∗ hold c arg10 U ∗ hold c arg11 D ∗ hold c arg15 X ∗ hold c arg16 Y)
      ⊢ iprop((hold c arg9 G ∗ hold c arg10 U ∗ hold c arg11 D ∗ hold c arg15 X ∗ hold c arg16 (expert192 i v5 hw G U D X Y) -∗ wp frame (wpE (defs₀ (F := F)) Variants.none (c : Thread nD τ) none) Set.univ κ Q)
          -∗ wp frame (wpE (defs₀ (F := F)) Variants.none (c : Thread nD τ) none) Set.univ (q5 i arg9 arg10 arg11 arg15 arg16 v5 hw κ) Q) := by
  by_cases h : k0_cond17 v5 = 1#1
  · by_cases h0 : k0_cond18 i = 1#1 <;> by_cases h1 : k0_cond19 i = 1#1
    · exact absurd ⟨h0, h1⟩ hx
    · have e : expert192 i v5 hw G U D X Y = VecWindow.put Y (k0_off21 v5) S192x1024.size (k0_pay8 (VecWindow.window X (k0_off20 v5) S192x1024.size (k0_off20_inb i v5 hw h)) G U D) :=
        (dif_pos h).trans ((dif_neg h1).trans (if_pos h0))
      rw [e]
      iintro ⟨H9, H10, H11, H15, H16⟩ Hκ
      unfold q5
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert192 i v5 hw G U D X Y = VecWindow.put Y (k0_off22 v5) S192x1024.size (k0_pay9 (VecWindow.window X (k0_off20 v5) S192x1024.size (k0_off20_inb i v5 hw h)) G U D (VecWindow.window Y (k0_off22 v5) S192x1024.size (k0_off22_inb i v5 hw h h1))) :=
        (dif_pos h).trans ((dif_pos h1).trans (by rw [if_neg h0]))
      rw [e]
      iintro ⟨H9, H10, H11, H15, H16⟩ Hκ
      unfold q5
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert192 i v5 hw G U D X Y = Y :=
        (dif_pos h).trans ((dif_neg h1).trans (if_neg h0))
      rw [e]
      iintro ⟨H9, H10, H11, H15, H16⟩ Hκ
      unfold q5
      sl_exec
      iapply Hκ
      isplitl [H9]; · iexact H9
      isplitl [H10]; · iexact H10
      isplitl [H11]; · iexact H11
      isplitl [H15]; · iexact H15
      iexact H16
  · have e : expert192 i v5 hw G U D X Y = Y :=
      dif_neg h
    rw [e]
    iintro ⟨H9, H10, H11, H15, H16⟩ Hκ
    unfold q5
    sl_exec
    iapply Hκ
    isplitl [H9]; · iexact H9
    isplitl [H10]; · iexact H10
    isplitl [H11]; · iexact H11
    isplitl [H15]; · iexact H15
    iexact H16

/-- The expert's tile over the one 320-row pass. -/
theorem q6_spec (v5 : Elt F .i32)
    (G U : FVec F S1x1024x896 .bf16) (D : FVec F S1x896x1024 .bf16) (X : FVec F S1024x1024 .bf16) (Y : FVec F S1024x1024 .f32)
    (hx : ¬ (Scalar.cmpi .ne (Scalar.extui (Scalar.cmpi .eq (BitVec.ofNat 32 (i 3).val) 0#32) : BitVec 32) 0#32 = 1#1 ∧ Scalar.cmpi .ne (Scalar.extui (Scalar.cmpi .sgt (BitVec.ofNat 32 (i 3).val) 0#32) : BitVec 32) 0#32 = 1#1)) {R : Type} {κ : Prog (TpuEff nD τ sig (Elt F) Λ₀ .tc) R} {Q : R → sProp 𝕄} :
    iprop(hold c arg9 G ∗ hold c arg10 U ∗ hold c arg11 D ∗ hold c arg15 X ∗ hold c arg16 Y)
      ⊢ iprop((hold c arg9 G ∗ hold c arg10 U ∗ hold c arg11 D ∗ hold c arg15 X ∗ hold c arg16 (expert320 i v5 G U D X Y) -∗ wp frame (wpE (defs₀ (F := F)) Variants.none (c : Thread nD τ) none) Set.univ κ Q)
          -∗ wp frame (wpE (defs₀ (F := F)) Variants.none (c : Thread nD τ) none) Set.univ (q6 arg9 arg10 arg11 arg15 arg16 (BitVec.ofNat 32 (i 3).val) (single v5) κ) Q) := by
  by_cases h : Scalar.cmpi .ne (Scalar.extui (single v5) : BitVec 32) 0#32 = 1#1
  · by_cases h0 : Scalar.cmpi .ne (Scalar.extui (Scalar.cmpi .eq (BitVec.ofNat 32 (i 3).val) 0#32) : BitVec 32) 0#32 = 1#1 <;> by_cases h1 : Scalar.cmpi .ne (Scalar.extui (Scalar.cmpi .sgt (BitVec.ofNat 32 (i 3).val) 0#32) : BitVec 32) 0#32 = 1#1
    · exact absurd ⟨h0, h1⟩ hx
    · have e : expert320 i v5 G U D X Y = VecWindow.put Y ![0, 0] S320x1024.size (k0_pay11 (VecWindow.window X ![0, 0] S320x1024.size inb_S1024x1024_S320x1024_0_0) G U D) :=
        (if_pos h).trans ((if_neg h1).trans (if_pos h0))
      rw [e]
      iintro ⟨H9, H10, H11, H15, H16⟩ Hκ
      unfold q6
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert320 i v5 G U D X Y = VecWindow.put Y ![0, 0] S320x1024.size (k0_pay12 (VecWindow.window X ![0, 0] S320x1024.size inb_S1024x1024_S320x1024_0_0) G U D (VecWindow.window Y ![0, 0] S320x1024.size inb_S1024x1024_S320x1024_0_0)) :=
        (if_pos h).trans ((if_pos h1).trans (by rw [if_neg h0]))
      rw [e]
      iintro ⟨H9, H10, H11, H15, H16⟩ Hκ
      unfold q6
      sl_exec
      iapply Hκ
      isplitl [H9]; · iexact H9
      isplitl [H10]; · iexact H10
      isplitl [H11]; · iexact H11
      isplitl [H15]; · iexact H15
      iapply (hold_put c arg16 Y _ _ _ ?_) $$ H16
      congr 1
      all_goals first
      | exact View.readAt_rep_full _ _ _
      | exact View.readAt_rep_unit _ _ _ rfl _
    · have e : expert320 i v5 G U D X Y = Y :=
        (if_pos h).trans ((if_neg h1).trans (if_neg h0))
      rw [e]
      iintro ⟨H9, H10, H11, H15, H16⟩ Hκ
      unfold q6
      sl_exec
      iapply Hκ
      isplitl [H9]; · iexact H9
      isplitl [H10]; · iexact H10
      isplitl [H11]; · iexact H11
      isplitl [H15]; · iexact H15
      iexact H16
  · have e : expert320 i v5 G U D X Y = Y :=
      if_neg h
    rw [e]
    iintro ⟨H9, H10, H11, H15, H16⟩ Hκ
    unfold q6
    sl_exec
    iapply Hκ
    isplitl [H9]; · iexact H9
    isplitl [H10]; · iexact H10
    isplitl [H11]; · iexact H11
    isplitl [H15]; · iexact H15
    iexact H16

end Args

end Cert.KernelIdeal.Hand
-- ==== Proof.Gather.lean ====
/- What gathering and scattering do to the buffers. -/
module

public import proofs.«01_k».proof.Proof.Body
public import Idealize.ShloMosaic.Lib.Tactic

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (c : Dev nD) (i : grid0.Coords)
  (arg4 : Memref sig .tc .smem S256 .i32) (harg4 : arg4.IsWhole)
  (arg5 : Memref sig .tc .vmem S1x1024x1024 .f32) (harg5 : arg5.IsWhole)
  (arg6 : Memref sig .tc .vmem S1x1024x1024 .bf16) (harg6 : arg6.IsWhole)
  (arg7 : Memref sig .tc .vmem S1x1024x128 .f32) (harg7 : arg7.IsWhole)
  (arg8 : Memref sig .tc .vmem S1x8x1024 .f32) (harg8 : arg8.IsWhole)
  (arg9 : Memref sig .tc .vmem S1x1024x896 .bf16) (harg9 : arg9.IsWhole)
  (arg10 : Memref sig .tc .vmem S1x1024x896 .bf16) (harg10 : arg10.IsWhole)
  (arg11 : Memref sig .tc .vmem S1x896x1024 .bf16) (harg11 : arg11.IsWhole)
  (arg12 : Memref sig .tc .vmem S1x1024 .f32) (harg12 : arg12.IsWhole)
  (arg13 : Memref sig .tc .vmem S1x1024x1024 .f32) (harg13 : arg13.IsWhole)
  (arg14 : Memref sig .tc .vmem S1024x1024 .f32) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x128 .f32) (harg17 : arg17.IsWhole)
  (arg18 : Memref sig .tc .vmem S128x1024 .f32) (harg18 : arg18.IsWhole)

/-- One 256-row trip of gathering. -/
theorem t1_trip (arg2 : BitVec 32) (v5 : Elt F .i32) (hw : k0_chk1 i v5) (v24 : BitVec 32) (h2 : k0_cond2 i = 1#1) (row : FVec F S1x1024 .f32) (k : Fin (k0_t1_loop v5).trips)
    (H : FVec F S1x1024x1024 .bf16) (X : FVec F S1024x1024 .bf16) :
    iprop(hold c arg6 H ∗ hold c arg15 X)
      ⊢ wp frame (wpE (defs₀ (F := F)) Variants.none (c : Thread nD τ) none) Set.univ (k0_t1_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v5 hw v24 h2 row k ())
          (fun _ => iprop(hold c arg6 H ∗ hold c arg15 (gatherTrip v5 row H k X))) := by
  iintro ⟨H6, H15⟩
  unfold k0_t1_body
  sl_exec
  sl_step
  isplitl [H6]; · iexact H6
  iapply (hold_put c arg15 X _ _ _ ?_) $$ H15
  congr 1
  exact View.readAt_rep_full _ _ _

theorem g1_spec (v5 : Elt F .i32) (hw : PLift (k0_chk1 i v5)) (h2 : k0_cond2 i = 1#1) (H : FVec F S1x1024x1024 .bf16) (X : FVec F S1024x1024 .bf16) (KR : FVec F S128x1024 .f32)
    {R : Type} {κ : Vec F S1x1024 .f32 → BitVec 1 → BitVec 32 → BitVec 32 → Prog (TpuEff nD τ sig (Elt F) Λ₀ .tc) R} {Q : R → sProp 𝕄} :
    iprop(hold c arg6 H ∗ hold c arg15 X ∗ hold c arg18 KR)
      ⊢ iprop((∀ v127, hold c arg6 H ∗ hold c arg15 (trips (k0_t1_loop v5).trips (gatherTrip v5 (rowOf i h2 KR) H) (k0_t1_loop v5).trips X) ∗ hold c arg18 KR
              -∗ wp frame (wpE (defs₀ (F := F)) Variants.none (c : Thread nD τ) none) Set.univ (κ (rowOf i h2 KR) (single v5) (whole v5) v127) Q)
          -∗ wp frame (wpE (defs₀ (F := F)) Variants.none (c : Thread nD τ) none) Set.univ (g1 i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h2 κ) Q) := by
  iintro ⟨H6, H15, H18⟩ Hκ
  have er : View.readAt (Elt F) arg18.view (Rect.unit (s := S128x1024) (k0_off2 i) S1x1024.size (k0_off2_inb i h2)).toLoadRect (arg18.view.rep KR) = rowOf i h2 KR :=
    View.readAt_rep_unit _ _ _ rfl _
  have key : ∀ (b : BitVec 1) (w v : BitVec 32), b = single v5 → w = whole v5 →
      (iprop(hold c arg6 H ∗ hold c arg15 (trips (k0_t1_loop v5).trips (gatherTrip v5 (rowOf i h2 KR) H) (k0_t1_loop v5).trips X) ∗ hold c arg18 KR
          ∗ (∀ v127, hold c arg6 H ∗ hold c arg15 (trips (k0_t1_loop v5).trips (gatherTrip v5 (rowOf i h2 KR) H) (k0_t1_loop v5).trips X) ∗ hold c arg18 KR
              -∗ wp frame (wpE (defs₀ (F := F)) Variants.none (c : Thread nD τ) none) Set.univ (κ (rowOf i h2 KR) (single v5) (whole v5) v127) Q)) ⊢ wp frame (wpE (defs₀ (F := F)) Variants.none (c : Thread nD τ) none) Set.univ (κ (rowOf i h2 KR) b w v) Q) := by
    rintro _ _ v rfl rfl
    iintro ⟨H6, H15, H18, Hκ⟩
    iapply Hκ
    isplitl [H6]; · iexact H6
    isplitl [H15]; · iexact H15
    iexact H18
  unfold g1
  sl_exec
  sl_for (fun k _ => iprop(hold c arg6 H ∗ hold c arg15 (trips (k0_t1_loop v5).trips (gatherTrip v5 (rowOf i h2 KR) H) k X))) $$ [H6 H15]
  · intro k acc
    rw [trips_succ]
    exact t1_trip c i arg4 harg4 arg5 harg5 arg6 harg6 arg7 harg7 arg8 harg8 arg9 harg9 arg10 harg10 arg11 harg11 arg12 harg12 arg13 harg13 arg14 harg14 arg15 harg15 arg16 harg16 arg17 harg17 arg18 harg18 _ v5 _ _ h2 _ k H _
  · isplitl [H6]; · iexact H6
    iexact H15
  iintro %acc ⟨H6, H15⟩
  sl_exec
  iapply (key _ _ _ (by rfl) (by rfl))
  isplitl [H6]; · iexact H6
  isplitl [H15]; · iexact H15
  isplitl [H18]; · iexact H18
  iexact Hκ

theorem g2_spec (v5 : Elt F .i32) (hw : PLift (k0_chk1 i v5)) (h2 : k0_cond2 i = 1#1) (row : FVec F S1x1024 .f32) (v127 : BitVec 32) (ht : (k0_t2_loop v5).trips = 0)
    {R : Type} {κ : Prog (TpuEff nD τ sig (Elt F) Λ₀ .tc) R} {Q : R → sProp 𝕄} :
    (wp frame (wpE (defs₀ (F := F)) Variants.none (c : Thread nD τ) none) Set.univ κ Q) ⊢ wp frame (wpE (defs₀ (F := F)) Variants.none (c : Thread nD τ) none) Set.univ (g2 i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h2 row v127 κ) Q := by
  iintro Hκ
  unfold g2
  sl_exec
  iexact Hκ

theorem g3_spec (v5 : Elt F .i32) (hw : PLift (k0_chk1 i v5)) (h2 : k0_cond2 i = 1#1) (row : FVec F S1x1024 .f32) (H : FVec F S1x1024x1024 .bf16) (X : FVec F S1024x1024 .bf16)
    {R : Type} {κ : Prog (TpuEff nD τ sig (Elt F) Λ₀ .tc) R} {Q : R → sProp 𝕄} :
    iprop(hold c arg6 H ∗ hold c arg15 X)
      ⊢ iprop((hold c arg6 H ∗ hold c arg15 (gather64 v5 row H X) -∗ wp frame (wpE (defs₀ (F := F)) Variants.none (c : Thread nD τ) none) Set.univ κ Q)
          -∗ wp frame (wpE (defs₀ (F := F)) Variants.none (c : Thread nD τ) none) Set.univ (g3 i arg6 arg15 harg15 v5 hw h2 row (whole v5) κ) Q) := by
  by_cases h : k0_cond3 v5 = 1#1
  · rw [show gather64 v5 row H X = VecWindow.put X (k0_off5 v5) S64x1024.size (k0_pay41 row (whole v5) H) from if_pos h]
    iintro ⟨H6, H15⟩ Hκ
    unfold g3
    sl_exec
    iapply Hκ
    isplitl [H6]; · iexact H6
    iapply (hold_put c arg15 X _ _ _ ?_) $$ H15
    congr 1
    exact View.readAt_rep_full _ _ _
  · rw [show gather64 v5 row H X = X from if_neg h]
    iintro ⟨H6, H15⟩ Hκ
    unfold g3
    sl_exec
    iapply Hκ
    isplitl [H6]; · iexact H6
    iexact H15

theorem g4_spec (v5 : Elt F .i32) (hw : PLift (k0_chk1 i v5)) (h2 : k0_cond2 i = 1#1) (row : FVec F S1x1024 .f32) (H : FVec F S1x1024x1024 .bf16) (X : FVec F S1024x1024 .bf16)
    {R : Type} {κ : Prog (TpuEff nD τ sig (Elt F) Λ₀ .tc) R} {Q : R → sProp 𝕄} :
    iprop(hold c arg6 H ∗ hold c arg15 X)
      ⊢ iprop((hold c arg6 H ∗ hold c arg15 (gather128 v5 row H X) -∗ wp frame (wpE (defs₀ (F := F)) Variants.none (c : Thread nD τ) none) Set.univ κ Q)
          -∗ wp frame (wpE (defs₀ (F := F)) Variants.none (c : Thread nD τ) none) Set.univ (g4 i arg6 arg15 harg15 v5 hw h2 row (whole v5) κ) Q) := by
  by_cases h : k0_cond4 v5 = 1#1
  · rw [show gather128 v5 row H X = VecWindow.put X (k0_off6 v5) S128x1024.size (k0_pay42 row (whole v5) H) from if_pos h]
    iintro ⟨H6, H15⟩ Hκ
    unfold g4
    sl_exec
    iapply Hκ
    isplitl [H6]; · iexact H6
    iapply (hold_put c arg15 X _ _ _ ?_) $$ H15
    congr 1
    exact View.readAt_rep_full _ _ _
  · rw [show gather128 v5 row H X = X from if_neg h]
    iintro ⟨H6, H15⟩ Hκ
    unfold g4
    sl_exec
    iapply Hκ
    isplitl [H6]; · iexact H6
    iexact H15

theorem g5_spec (v5 : Elt F .i32) (hw : PLift (k0_chk1 i v5)) (h2 : k0_cond2 i = 1#1) (row : FVec F S1x1024 .f32) (H : FVec F S1x1024x1024 .bf16) (X : FVec F S1024x1024 .bf16)
    {R : Type} {κ : Prog (TpuEff nD τ sig (Elt F) Λ₀ .tc) R} {Q : R → sProp 𝕄} :
    iprop(hold c arg6 H ∗ hold c arg15 X)
      ⊢ iprop((hold c arg6 H ∗ hold c arg15 (gather192 v5 row H X) -∗ wp frame (wpE (defs₀ (F := F)) Variants.none (c : Thread nD τ) none) Set.univ κ Q)
          -∗ wp frame (wpE (defs₀ (F := F)) Variants.none (c : Thread nD τ) none) Set.univ (g5 i arg6 arg15 harg15 v5 hw h2 row (whole v5) κ) Q) := by
  by_cases h : k0_cond5 v5 = 1#1
  · rw [show gather192 v5 row H X = VecWindow.put X (k0_off7 v5) S192x1024.size (k0_pay43 row (whole v5) H) from if_pos h]
    iintro ⟨H6, H15⟩ Hκ
    unfold g5
    sl_exec
    iapply Hκ
    isplitl [H6]; · iexact H6
    iapply (hold_put c arg15 X _ _ _ ?_) $$ H15
    congr 1
    exact View.readAt_rep_full _ _ _
  · rw [show gather192 v5 row H X = X from if_neg h]
    iintro ⟨H6, H15⟩ Hκ
    unfold g5
    sl_exec
    iapply Hκ
    isplitl [H6]; · iexact H6
    iexact H15

theorem g6_spec (v5 : Elt F .i32) (row : FVec F S1x1024 .f32) (H : FVec F S1x1024x1024 .bf16) (X : FVec F S1024x1024 .bf16)
    {R : Type} {κ : Prog (TpuEff nD τ sig (Elt F) Λ₀ .tc) R} {Q : R → sProp 𝕄} :
    iprop(hold c arg6 H ∗ hold c arg15 X)
      ⊢ iprop((hold c arg6 H ∗ hold c arg15 (gather320 v5 row H X) -∗ wp frame (wpE (defs₀ (F := F)) Variants.none (c : Thread nD τ) none) Set.univ κ Q)
          -∗ wp frame (wpE (defs₀ (F := F)) Variants.none (c : Thread nD τ) none) Set.univ (g6 arg6 arg15 harg15 row (single v5) κ) Q) := by
  by_cases h : Scalar.cmpi .ne (Scalar.extui (single v5) : BitVec 32) 0#32 = 1#1
  · rw [show gather320 v5 row H X = VecWindow.put X ![0, 0] S320x1024.size (k0_pay44 row H) from if_pos h]
    iintro ⟨H6, H15⟩ Hκ
    unfold g6
    sl_exec
    iapply Hκ
    isplitl [H6]; · iexact H6
    iapply (hold_put c arg15 X _ _ _ ?_) $$ H15
    congr 1
    exact View.readAt_rep_full _ _ _
  · rw [show gather320 v5 row H X = X from if_neg h]
    iintro ⟨H6, H15⟩ Hκ
    unfold g6
    sl_exec
    iapply Hκ
    isplitl [H6]; · iexact H6
    iexact H15

/-- What the first part hands on. -/
abbrev Out5 (i : grid0.Coords) : Type :=
  Σ' (arg2 : BitVec 32) (arg3 : BitVec 32) (v5 : Elt F .i32) (k0_hw1 : k0_chk1 i v5) (v24 : BitVec 32) (v33 : BitVec 1) (v34 : BitVec 32), BitVec 32

/-- Gathering, at a point that gathers or not. -/
theorem p3_spec (v5 : Elt F .i32) (hw : PLift (k0_chk1 i v5)) (H : FVec F S1x1024x1024 .bf16) (X : FVec F S1024x1024 .bf16) (KR : FVec F S128x1024 .f32)
    (ht : (k0_t2_loop v5).trips = 0)
    {κ : Prog (TpuEff nD τ sig (Elt F) Λ₀ .tc) (Out5 (F := F) i)} {Q : Out5 (F := F) i → sProp 𝕄} :
    iprop(hold c arg6 H ∗ hold c arg15 X ∗ hold c arg18 KR)
      ⊢ iprop((hold c arg6 H ∗ hold c arg15 (gather i v5 KR H X) ∗ hold c arg18 KR -∗ wp frame (wpE (defs₀ (F := F)) Variants.none (c : Thread nD τ) none) Set.univ κ Q)
          -∗ wp frame (wpE (defs₀ (F := F)) Variants.none (c : Thread nD τ) none) Set.univ (p3 i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw κ) Q) := by
  by_cases h2 : k0_cond2 i = 1#1
  · rw [show gather i v5 KR H X = gatherRow v5 (rowOf i h2 KR) H X from dif_pos h2]
    iintro ⟨H6, H15, H18⟩ Hκ
    unfold p3
    rw [dif_pos h2]
    have E := g1.eq (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw (fun _ => κ) h2
    beta_reduce at E
    rw [E]
    iapply (g1_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h2 H X KR) $$ [H6 H15 H18]
    · isplitl [H6]; · iexact H6
      isplitl [H15]; · iexact H15
      iexact H18
    iintro %v127 ⟨H6, H15, H18⟩
    rw [g2.eq]
    iapply (g2_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h2 _ v127 ht)
    rw [g3.eq]
    iapply (g3_spec c i arg6 arg15 harg15 v5 hw h2 _ H _) $$ [H6 H15]
    · isplitl [H6]; · iexact H6
      iexact H15
    iintro ⟨H6, H15⟩
    rw [g4.eq]
    iapply (g4_spec c i arg6 arg15 harg15 v5 hw h2 _ H _) $$ [H6 H15]
    · isplitl [H6]; · iexact H6
      iexact H15
    iintro ⟨H6, H15⟩
    rw [g5.eq]
    iapply (g5_spec c i arg6 arg15 harg15 v5 hw h2 _ H _) $$ [H6 H15]
    · isplitl [H6]; · iexact H6
      iexact H15
    iintro ⟨H6, H15⟩
    rw [g6.eq]
    iapply (g6_spec c arg6 arg15 harg15 v5 _ H _) $$ [H6 H15]
    · isplitl [H6]; · iexact H6
      iexact H15
    iintro ⟨H6, H15⟩
    unfold g6.tail
    iapply Hκ
    isplitl [H6]; · iexact H6
    isplitl [H15]; · iexact H15
    iexact H18
  · rw [show gather i v5 KR H X = X from dif_neg h2]
    iintro ⟨H6, H15, H18⟩ Hκ
    unfold p3
    sl_exec
    iapply Hκ
    isplitl [H6]; · iexact H6
    isplitl [H15]; · iexact H15
    iexact H18

end Args

end Cert.KernelIdeal.Hand
-- ==== Proof.Scatter.lean ====
/- What the ranks, scattering and the result do to the buffers. -/
module

public import proofs.«01_k».proof.Proof.Body
public import Idealize.ShloMosaic.Lib.Tactic

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (c : Dev nD) (i : grid0.Coords)
  (arg4 : Memref sig .tc .smem S256 .i32) (harg4 : arg4.IsWhole)
  (arg5 : Memref sig .tc .vmem S1x1024x1024 .f32) (harg5 : arg5.IsWhole)
  (arg6 : Memref sig .tc .vmem S1x1024x1024 .bf16) (harg6 : arg6.IsWhole)
  (arg7 : Memref sig .tc .vmem S1x1024x128 .f32) (harg7 : arg7.IsWhole)
  (arg8 : Memref sig .tc .vmem S1x8x1024 .f32) (harg8 : arg8.IsWhole)
  (arg9 : Memref sig .tc .vmem S1x1024x896 .bf16) (harg9 : arg9.IsWhole)
  (arg10 : Memref sig .tc .vmem S1x1024x896 .bf16) (harg10 : arg10.IsWhole)
  (arg11 : Memref sig .tc .vmem S1x896x1024 .bf16) (harg11 : arg11.IsWhole)
  (arg12 : Memref sig .tc .vmem S1x1024 .f32) (harg12 : arg12.IsWhole)
  (arg13 : Memref sig .tc .vmem S1x1024x1024 .f32) (harg13 : arg13.IsWhole)
  (arg14 : Memref sig .tc .vmem S1024x1024 .f32) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x128 .f32) (harg17 : arg17.IsWhole)
  (arg18 : Memref sig .tc .vmem S128x1024 .f32) (harg18 : arg18.IsWhole)

/-- One 256-row trip of scattering. -/
theorem t5_trip (v5 : Elt F .i32) (hw : k0_chk1 i v5) (h23 : k0_cond23 i = 1#1) (r w : FVec F S1024x1 .f32) (k : Fin (k0_t5_loop v5).trips)
    (Y A : FVec F S1024x1024 .f32) :
    iprop(hold c arg16 Y ∗ hold c arg14 A)
      ⊢ wp frame (wpE (defs₀ (F := F)) Variants.none (c : Thread nD τ) none) Set.univ (k0_t5_body (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 r w k ())
          (fun _ => iprop(hold c arg16 Y ∗ hold c arg14 (scatterTrip i v5 hw h23 r w Y k A))) := by
  iintro ⟨H16, H14⟩
  unfold k0_t5_body
  sl_exec
  sl_step
  isplitl [H16]; · iexact H16
  iapply (hold_full c arg14 _ _ _ _ ?_) $$ H14
  unfold scatterTrip
  congr 1
  all_goals first
  | exact View.readAt_rep_full _ _ _
  | exact View.readAt_rep_unit _ _ _ rfl _

theorem s1_spec (v5 : Elt F .i32) (K : FVec F S1024x128 .f32) (CM : FVec F S1x1024x128 .f32)
    {R : Type} {κ : FVec F S1024x1 .f32 → FVec F S1024x1 .f32 → BitVec 1 → BitVec 32 → Prog (TpuEff nD τ sig (Elt F) Λ₀ .tc) R} {Q : R → sProp 𝕄} :
    iprop(hold c arg17 K ∗ hold c arg7 CM)
      ⊢ iprop((hold c arg17 K ∗ hold c arg7 CM
              -∗ wp frame (wpE (defs₀ (F := F)) Variants.none (c : Thread nD τ) none) Set.univ (κ (k0_pay36 (BitVec.ofNat 32 (i 2).val) K) (k0_pay37 (BitVec.ofNat 32 (i 2).val) CM) (single v5) (whole v5)) Q)
          -∗ wp frame (wpE (defs₀ (F := F)) Variants.none (c : Thread nD τ) none) Set.univ (s1 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (tiles v5) κ) Q) := by
  iintro ⟨H17, H7⟩ Hκ
  have e1 : View.readAt (Elt F) arg17.view (Rect.unit ![0, 0] S1024x128.size inb_S1024x128_S1024x128_0_0).toLoadRect (arg17.view.rep K) = K := View.readAt_rep_full _ _ _
  have e2 : View.readAt (Elt F) arg7.view (Rect.unit ![0, 0, 0] S1x1024x128.size inb_S1x1024x128_S1x1024x128_0_0_0).toLoadRect (arg7.view.rep CM) = CM := View.readAt_rep_full _ _ _
  unfold s1
  sl_exec
  sl_open_run
  iapply Hκ
  isplitl [H17]; · iexact H17
  iexact H7

theorem s2_spec (v5 : Elt F .i32) (hw : k0_chk1 i v5) (h23 : k0_cond23 i = 1#1) (r w : FVec F S1024x1 .f32) (Y A : FVec F S1024x1024 .f32)
    {R : Type} {κ : Prog (TpuEff nD τ sig (Elt F) Λ₀ .tc) R} {Q : R → sProp 𝕄} :
    iprop(hold c arg16 Y ∗ hold c arg14 A)
      ⊢ iprop((hold c arg16 Y ∗ hold c arg14 (trips (k0_t5_loop v5).trips (scatterTrip i v5 hw h23 r w Y) (k0_t5_loop v5).trips A) -∗ wp frame (wpE (defs₀ (F := F)) Variants.none (c : Thread nD τ) none) Set.univ κ Q)
          -∗ wp frame (wpE (defs₀ (F := F)) Variants.none (c : Thread nD τ) none) Set.univ (s2 i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 r w κ) Q) := by
  iintro ⟨H16, H14⟩ Hκ
  unfold s2
  sl_for (fun k _ => iprop(hold c arg16 Y ∗ hold c arg14 (trips (k0_t5_loop v5).trips (scatterTrip i v5 hw h23 r w Y) k A))) $$ [H16 H14]
  · intro k acc
    rw [trips_succ]
    exact t5_trip c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 r w k Y _
  · isplitl [H16]; · iexact H16
    iexact H14
  iintro %acc ⟨H16, H14⟩
  iapply Hκ
  isplitl [H16]; · iexact H16
  iexact H14

theorem s3_spec (v5 : Elt F .i32) (hw : k0_chk1 i v5) (h23 : k0_cond23 i = 1#1) (r w : FVec F S1024x1 .f32) (v125 : BitVec 32) (ht : (k0_t6_loop v5).trips = 0)
    {R : Type} {κ : Prog (TpuEff nD τ sig (Elt F) Λ₀ .tc) R} {Q : R → sProp 𝕄} :
    (wp frame (wpE (defs₀ (F := F)) Variants.none (c : Thread nD τ) none) Set.univ κ Q) ⊢ wp frame (wpE (defs₀ (F := F)) Variants.none (c : Thread nD τ) none) Set.univ (s3 i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 r w v125 κ) Q := by
  iintro Hκ
  unfold s3
  sl_exec
  iexact Hκ

theorem s4_spec (v5 : Elt F .i32) (hw : k0_chk1 i v5) (h23 : k0_cond23 i = 1#1) (r w : FVec F S1024x1 .f32) (Y A : FVec F S1024x1024 .f32)
    {R : Type} {κ : Prog (TpuEff nD τ sig (Elt F) Λ₀ .tc) R} {Q : R → sProp 𝕄} :
    iprop(hold c arg16 Y ∗ hold c arg14 A)
      ⊢ iprop((hold c arg16 Y ∗ hold c arg14 (scatter64 i v5 hw h23 r w Y A) -∗ wp frame (wpE (defs₀ (F := F)) Variants.none (c : Thread nD τ) none) Set.univ κ Q)
          -∗ wp frame (wpE (defs₀ (F := F)) Variants.none (c : Thread nD τ) none) Set.univ (s4 i arg14 arg16 v5 hw h23 r w (whole v5) κ) Q) := by
  by_cases h : k0_cond24 v5 = 1#1
  · rw [show scatter64 i v5 hw h23 r w Y A = k0_pay15 r w (whole v5) (VecWindow.window Y (k0_off25 v5) S64x1024.size (k0_off25_inb i v5 hw h23 h)) A from dif_pos h]
    iintro ⟨H16, H14⟩ Hκ
    unfold s4
    sl_exec
    iapply Hκ
    isplitl [H16]; · iexact H16
    iapply (hold_full c arg14 _ _ _ _ ?_) $$ H14
    congr 1
    all_goals first
    | exact View.readAt_rep_full _ _ _
    | exact View.readAt_rep_unit _ _ _ rfl _
  · rw [show scatter64 i v5 hw h23 r w Y A = A from dif_neg h]
    iintro ⟨H16, H14⟩ Hκ
    unfold s4
    sl_exec
    iapply Hκ
    isplitl [H16]; · iexact H16
    iexact H14

theorem s5_spec (v5 : Elt F .i32) (hw : k0_chk1 i v5) (h23 : k0_cond23 i = 1#1) (r w : FVec F S1024x1 .f32) (Y A : FVec F S1024x1024 .f32)
    {R : Type} {κ : Prog (TpuEff nD τ sig (Elt F) Λ₀ .tc) R} {Q : R → sProp 𝕄} :
    iprop(hold c arg16 Y ∗ hold c arg14 A)
      ⊢ iprop((hold c arg16 Y ∗ hold c arg14 (scatter128 i v5 hw h23 r w Y A) -∗ wp frame (wpE (defs₀ (F := F)) Variants.none (c : Thread nD τ) none) Set.univ κ Q)
          -∗ wp frame (wpE (defs₀ (F := F)) Variants.none (c : Thread nD τ) none) Set.univ (s5 i arg14 arg16 v5 hw h23 r w (whole v5) κ) Q) := by
  by_cases h : k0_cond25 v5 = 1#1
  · rw [show scatter128 i v5 hw h23 r w Y A = k0_pay16 r w (whole v5) (VecWindow.window Y (k0_off26 v5) S128x1024.size (k0_off26_inb i v5 hw h23 h)) A from dif_pos h]
    iintro ⟨H16, H14⟩ Hκ
    unfold s5
    sl_exec
    iapply Hκ
    isplitl [H16]; · iexact H16
    iapply (hold_full c arg14 _ _ _ _ ?_) $$ H14
    congr 1
    all_goals first
    | exact View.readAt_rep_full _ _ _
    | exact View.readAt_rep_unit _ _ _ rfl _
  · rw [show scatter128 i v5 hw h23 r w Y A = A from dif_neg h]
    iintro ⟨H16, H14⟩ Hκ
    unfold s5
    sl_exec
    iapply Hκ
    isplitl [H16]; · iexact H16
    iexact H14

theorem s6_spec (v5 : Elt F .i32) (hw : k0_chk1 i v5) (h23 : k0_cond23 i = 1#1) (r w : FVec F S1024x1 .f32) (Y A : FVec F S1024x1024 .f32)
    {R : Type} {κ : Prog (TpuEff nD τ sig (Elt F) Λ₀ .tc) R} {Q : R → sProp 𝕄} :
    iprop(hold c arg16 Y ∗ hold c arg14 A)
      ⊢ iprop((hold c arg16 Y ∗ hold c arg14 (scatter192 i v5 hw h23 r w Y A) -∗ wp frame (wpE (defs₀ (F := F)) Variants.none (c : Thread nD τ) none) Set.univ κ Q)
          -∗ wp frame (wpE (defs₀ (F := F)) Variants.none (c : Thread nD τ) none) Set.univ (s6 i arg14 arg16 v5 hw h23 r w (whole v5) κ) Q) := by
  by_cases h : k0_cond26 v5 = 1#1
  · rw [show scatter192 i v5 hw h23 r w Y A = k0_pay17 r w (whole v5) (VecWindow.window Y (k0_off27 v5) S192x1024.size (k0_off27_inb i v5 hw h23 h)) A from dif_pos h]
    iintro ⟨H16, H14⟩ Hκ
    unfold s6
    sl_exec
    iapply Hκ
    isplitl [H16]; · iexact H16
    iapply (hold_full c arg14 _ _ _ _ ?_) $$ H14
    congr 1
    all_goals first
    | exact View.readAt_rep_full _ _ _
    | exact View.readAt_rep_unit _ _ _ rfl _
  · rw [show scatter192 i v5 hw h23 r w Y A = A from dif_neg h]
    iintro ⟨H16, H14⟩ Hκ
    unfold s6
    sl_exec
    iapply Hκ
    isplitl [H16]; · iexact H16
    iexact H14

theorem s7_spec (v5 : Elt F .i32) (r w : FVec F S1024x1 .f32) (Y A : FVec F S1024x1024 .f32)
    {R : Type} {κ : Prog (TpuEff nD τ sig (Elt F) Λ₀ .tc) R} {Q : R → sProp 𝕄} :
    iprop(hold c arg16 Y ∗ hold c arg14 A)
      ⊢ iprop((hold c arg16 Y ∗ hold c arg14 (scatter320 v5 r w Y A) -∗ wp frame (wpE (defs₀ (F := F)) Variants.none (c : Thread nD τ) none) Set.univ κ Q)
          -∗ wp frame (wpE (defs₀ (F := F)) Variants.none (c : Thread nD τ) none) Set.univ (s7 arg14 arg16 r w (single v5) κ) Q) := by
  by_cases h : Scalar.cmpi .ne (Scalar.extui (single v5) : BitVec 32) 0#32 = 1#1
  · rw [show scatter320 v5 r w Y A = k0_pay18 r w (VecWindow.window Y ![0, 0] S320x1024.size inb_S1024x1024_S320x1024_0_0) A from if_pos h]
    iintro ⟨H16, H14⟩ Hκ
    unfold s7
    sl_exec
    iapply Hκ
    isplitl [H16]; · iexact H16
    iapply (hold_full c arg14 _ _ _ _ ?_) $$ H14
    congr 1
    all_goals first
    | exact View.readAt_rep_full _ _ _
    | exact View.readAt_rep_unit _ _ _ rfl _
  · rw [show scatter320 v5 r w Y A = A from if_neg h]
    iintro ⟨H16, H14⟩ Hκ
    unfold s7
    sl_exec
    iapply Hκ
    isplitl [H16]; · iexact H16
    iexact H14

/-- Scattering, at a point that scatters or not. -/
theorem q7_spec (v5 : Elt F .i32) (hw : k0_chk1 i v5) (K : FVec F S1024x128 .f32) (CM : FVec F S1x1024x128 .f32) (Y A : FVec F S1024x1024 .f32)
    (ht : (k0_t6_loop v5).trips = 0)
    {κ : Prog (TpuEff nD τ sig (Elt F) Λ₀ .tc) PUnit.{1}} {Q : PUnit.{1} → sProp 𝕄} :
    iprop(hold c arg17 K ∗ hold c arg7 CM ∗ hold c arg16 Y ∗ hold c arg14 A)
      ⊢ iprop((hold c arg17 K ∗ hold c arg7 CM ∗ hold c arg16 Y ∗ hold c arg14 (scatter i v5 hw K CM Y A) -∗ wp frame (wpE (defs₀ (F := F)) Variants.none (c : Thread nD τ) none) Set.univ κ Q)
          -∗ wp frame (wpE (defs₀ (F := F)) Variants.none (c : Thread nD τ) none) Set.univ (q7 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) v5 hw (tiles v5) κ) Q) := by
  by_cases h23 : k0_cond23 i = 1#1
  · rw [show scatter i v5 hw K CM Y A = scatterAll i v5 hw h23 (k0_pay36 (BitVec.ofNat 32 (i 2).val) K) (k0_pay37 (BitVec.ofNat 32 (i 2).val) CM) Y A from dif_pos h23]
    iintro ⟨H17, H7, H16, H14⟩ Hκ
    unfold q7
    rw [dif_pos h23]
    have E := s1.eq (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) v5 hw (tiles v5) (fun _ => κ) h23
    beta_reduce at E
    rw [E]
    iapply (s1_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 K CM) $$ [H17 H7]
    · isplitl [H17]; · iexact H17
      iexact H7
    iintro ⟨H17, H7⟩
    rw [s2.eq]
    iapply (s2_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 _ _ Y A) $$ [H16 H14]
    · isplitl [H16]; · iexact H16
      iexact H14
    iintro ⟨H16, H14⟩
    rw [s3.eq]
    iapply (s3_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 v5 hw h23 _ _ _ ht)
    rw [s4.eq]
    iapply (s4_spec c i arg14 arg16 v5 hw h23 _ _ Y _) $$ [H16 H14]
    · isplitl [H16]; · iexact H16
      iexact H14
    iintro ⟨H16, H14⟩
    rw [s5.eq]
    iapply (s5_spec c i arg14 arg16 v5 hw h23 _ _ Y _) $$ [H16 H14]
    · isplitl [H16]; · iexact H16
      iexact H14
    iintro ⟨H16, H14⟩
    rw [s6.eq]
    iapply (s6_spec c i arg14 arg16 v5 hw h23 _ _ Y _) $$ [H16 H14]
    · isplitl [H16]; · iexact H16
      iexact H14
    iintro ⟨H16, H14⟩
    rw [s7.eq]
    iapply (s7_spec c arg14 arg16 v5 _ _ Y _) $$ [H16 H14]
    · isplitl [H16]; · iexact H16
      iexact H14
    iintro ⟨H16, H14⟩
    unfold s7.tail
    iapply Hκ
    isplitl [H17]; · iexact H17
    isplitl [H7]; · iexact H7
    isplitl [H16]; · iexact H16
    iexact H14
  · rw [show scatter i v5 hw K CM Y A = A from dif_neg h23]
    iintro ⟨H17, H7, H16, H14⟩ Hκ
    unfold q7
    sl_exec
    iapply Hκ
    isplitl [H17]; · iexact H17
    isplitl [H7]; · iexact H7
    isplitl [H16]; · iexact H16
    iexact H14

/-- The result's block, at a block's last point or not. -/
theorem q8_spec (X5 : FVec F S1x1024x1024 .f32) (M : FVec F S1x8x1024 .f32) (FG : FVec F S1x1024 .f32) (A : FVec F S1024x1024 .f32) (O : FVec F S1x1024x1024 .f32)
    {R : Type} {κ : Prog (TpuEff nD τ sig (Elt F) Λ₀ .tc) R} {Q : R → sProp 𝕄} :
    iprop(hold c arg5 X5 ∗ hold c arg8 M ∗ hold c arg12 FG ∗ hold c arg14 A ∗ hold c arg13 O)
      ⊢ iprop((hold c arg5 X5 ∗ hold c arg8 M ∗ hold c arg12 FG ∗ hold c arg14 A ∗ hold c arg13 (result i X5 M FG A O) -∗ wp frame (wpE (defs₀ (F := F)) Variants.none (c : Thread nD τ) none) Set.univ κ Q)
          -∗ wp frame (wpE (defs₀ (F := F)) Variants.none (c : Thread nD τ) none) Set.univ (q8 i arg5 arg8 arg12 arg13 arg14 κ) Q) := by
  by_cases h : k0_cond28 i = 1#1
  · rw [show result i X5 M FG A O = k0_pay19 X5 (gateRow M) A FG from if_pos h]
    iintro ⟨H5, H8, H12, H14, H13⟩ Hκ
    unfold q8
    sl_exec
    iapply Hκ
    isplitl [H5]; · iexact H5
    isplitl [H8]; · iexact H8
    isplitl [H12]; · iexact H12
    isplitl [H14]; · iexact H14
    iapply (hold_full c arg13 _ _ _ _ ?_) $$ H13
    unfold gateRow
    congr 1
    all_goals first
    | exact View.readAt_rep_full _ _ _
    | exact View.readAt_rep_unit _ _ _ rfl _
  · rw [show result i X5 M FG A O = O from if_neg h]
    iintro ⟨H5, H8, H12, H14, H13⟩ Hκ
    unfold q8
    sl_exec
    iapply Hκ
    isplitl [H5]; · iexact H5
    isplitl [H8]; · iexact H8
    isplitl [H12]; · iexact H12
    isplitl [H14]; · iexact H14
    iexact H13

end Args

end Cert.KernelIdeal.Hand
-- ==== Proof.Ranks.lean ====
/- What the ranks do to the buffers. -/
module

public import proofs.«01_k».proof.Proof.Body
public import Idealize.ShloMosaic.Lib.Tactic

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Args
variable (c : Dev nD) (i : grid0.Coords)
  (arg4 : Memref sig .tc .smem S256 .i32) (harg4 : arg4.IsWhole)
  (arg5 : Memref sig .tc .vmem S1x1024x1024 .f32) (harg5 : arg5.IsWhole)
  (arg6 : Memref sig .tc .vmem S1x1024x1024 .bf16) (harg6 : arg6.IsWhole)
  (arg7 : Memref sig .tc .vmem S1x1024x128 .f32) (harg7 : arg7.IsWhole)
  (arg8 : Memref sig .tc .vmem S1x8x1024 .f32) (harg8 : arg8.IsWhole)
  (arg9 : Memref sig .tc .vmem S1x1024x896 .bf16) (harg9 : arg9.IsWhole)
  (arg10 : Memref sig .tc .vmem S1x1024x896 .bf16) (harg10 : arg10.IsWhole)
  (arg11 : Memref sig .tc .vmem S1x896x1024 .bf16) (harg11 : arg11.IsWhole)
  (arg12 : Memref sig .tc .vmem S1x1024 .f32) (harg12 : arg12.IsWhole)
  (arg13 : Memref sig .tc .vmem S1x1024x1024 .f32) (harg13 : arg13.IsWhole)
  (arg14 : Memref sig .tc .vmem S1024x1024 .f32) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x128 .f32) (harg17 : arg17.IsWhole)
  (arg18 : Memref sig .tc .vmem S128x1024 .f32) (harg18 : arg18.IsWhole)

/-- The count that a point reads from the table. -/
def wordAt (T : S256.Idx → BitVec 32) (i : grid0.Coords) : BitVec 32 :=
  VecWindow.window T (k0_off1 i) S1.size (k0_off1_inb i) (Shape.Idx.first (s := S1) (by rw [numel1_S1]; exact Nat.one_pos))

theorem p1_spec (q : PosShare TreeShare) (T : S256.Idx → BitVec 32) (hw : k0_chk1 i (wordAt T i))
    {R : Type} {κ : (v5 : Elt F .i32) → PLift (k0_chk1 i v5) → Prog (TpuEff nD τ sig (Elt F) Λ₀ .tc) R} {Q : R → sProp 𝕄} :
    iprop(arg4.view.loc (c : Thread nD τ) ↦[arg4.view.set]{q} arg4.view.rep (Val := Elt F) (e := .i32) T)
      ⊢ iprop(((arg4.view.loc (c : Thread nD τ) ↦[arg4.view.set]{q} arg4.view.rep (Val := Elt F) (e := .i32) T : sProp 𝕄)
              -∗ wp frame (wpE (defs₀ (F := F)) Variants.none (c : Thread nD τ) none) Set.univ (κ (wordAt T i) ⟨hw⟩) Q)
          -∗ wp frame (wpE (defs₀ (F := F)) Variants.none (c : Thread nD τ) none) Set.univ (p1 i arg4 κ) Q) := by
  iintro H4 Hκ
  have e (h : 0 < S1.numel) : View.readAt (Elt F) arg4.view (Rect.unit (s := S256) (k0_off1 i) S1.size (k0_off1_inb i)).toLoadRect (arg4.view.rep T) (Shape.Idx.first h) = wordAt T i :=
    congrFun (View.readAt_rep_unit (Val := Elt F) arg4.view T (k0_off1_inb i) rfl (k0_off1_inb i)) _
  have hw' := hw
  rw [← e (by rw [numel1_S1]; exact Nat.one_pos)] at hw'
  have key : ∀ (w : BitVec 32) (hw1 : k0_chk1 i w), w = wordAt T i →
      (iprop((arg4.view.loc (c : Thread nD τ) ↦[arg4.view.set]{q} arg4.view.rep (Val := Elt F) (e := .i32) T)
        ∗ ((arg4.view.loc (c : Thread nD τ) ↦[arg4.view.set]{q} arg4.view.rep (Val := Elt F) (e := .i32) T : sProp 𝕄)
              -∗ wp frame (wpE (defs₀ (F := F)) Variants.none (c : Thread nD τ) none) Set.univ (κ (wordAt T i) ⟨hw⟩) Q)) ⊢ wp frame (wpE (defs₀ (F := F)) Variants.none (c : Thread nD τ) none) Set.univ (κ w ⟨hw1⟩) Q) := by
    rintro _ _ rfl
    iintro ⟨H, Hκ⟩
    iapply Hκ; iexact H
  unfold p1
  sl_exec
  iapply (key _ _ (e _))
  isplitl [H4]; · iexact H4
  iexact Hκ

theorem rankCols_cover (CM : FVec F S1x1024x128 .f32) (K K' : FVec F S1024x128 .f32) : rankCols CM K = rankCols CM K' := by
  have H : ∀ (P0 P1 P2 P3 : FVec F S256x128 .f32) (Z Z' : FVec F S1024x128 .f32) (y : S1024x128.Idx),
      VecWindow.put (VecWindow.put (VecWindow.put (VecWindow.put Z ![0, 0] S256x128.size P0) ![256, 0] S256x128.size P1) ![512, 0] S256x128.size P2) ![768, 0] S256x128.size P3 y
        = VecWindow.put (VecWindow.put (VecWindow.put (VecWindow.put Z' ![0, 0] S256x128.size P0) ![256, 0] S256x128.size P1) ![512, 0] S256x128.size P2) ![768, 0] S256x128.size P3 y := by
    intro P0 P1 P2 P3 Z Z' y
    unfold VecWindow.put
    split_ifs with h3 h2 h1 h0
    · rfl
    · rfl
    · rfl
    · rfl
    · exfalso
      have hy0 : (y 0).val < 1024 := (y 0).isLt
      have hy1 : (y 1).val < 128 := (y 1).isLt
      rcases (show (y 0).val < 256 ∨ (256 ≤ (y 0).val ∧ (y 0).val < 512) ∨ (512 ≤ (y 0).val ∧ (y 0).val < 768) ∨ 768 ≤ (y 0).val by omega) with h | h | h | h
      · exact h0 (Fin.forall_fin_two.mpr ⟨⟨Nat.zero_le _, by show _ < 0 + 256; omega⟩, ⟨Nat.zero_le _, by show _ < 0 + 128; omega⟩⟩)
      · exact h1 (Fin.forall_fin_two.mpr ⟨⟨h.1, by show _ < 256 + 256; omega⟩, ⟨Nat.zero_le _, by show _ < 0 + 128; omega⟩⟩)
      · exact h2 (Fin.forall_fin_two.mpr ⟨⟨h.1, by show _ < 512 + 256; omega⟩, ⟨Nat.zero_le _, by show _ < 0 + 128; omega⟩⟩)
      · exact h3 (Fin.forall_fin_two.mpr ⟨⟨h, by show _ < 768 + 256; omega⟩, ⟨Nat.zero_le _, by show _ < 0 + 128; omega⟩⟩)
  funext y
  unfold rankCols
  exact H _ _ _ _ K K' y

theorem p2_spec (CM : FVec F S1x1024x128 .f32) (A : FVec F S1024x1024 .f32) (K : FVec F S1024x128 .f32) (KR : FVec F S128x1024 .f32)
    {R : Type} {κ : Prog (TpuEff nD τ sig (Elt F) Λ₀ .tc) R} {Q : R → sProp 𝕄} :
    iprop(hold c arg7 CM ∗ hold c arg14 A ∗ hold c arg17 K ∗ hold c arg18 KR)
      ⊢ iprop((hold c arg7 CM ∗ hold c arg14 (if first i = 1#1 then k0_pay20 (F := F) else A) ∗ hold c arg17 (if first i = 1#1 then rankCols CM K else K)
              ∗ hold c arg18 (if first i = 1#1 then k0_pay39 (rankCols CM K) else KR) -∗ wp frame (wpE (defs₀ (F := F)) Variants.none (c : Thread nD τ) none) Set.univ κ Q)
          -∗ wp frame (wpE (defs₀ (F := F)) Variants.none (c : Thread nD τ) none) Set.univ (p2 i arg4 harg4 arg5 harg5 arg6 harg6 arg7 harg7 arg8 harg8 arg9 harg9 arg10 harg10 arg11 harg11 arg12 harg12 arg13 harg13 arg14 harg14 arg15 harg15 arg16 harg16 arg17 harg17 arg18 harg18 κ) Q) := by
  by_cases h : first i = 1#1
  · rw [if_pos h, if_pos h, if_pos h]
    iintro ⟨H7, H14, H17, H18⟩ Hκ
    unfold p2
    sl_exec
    have E (i0 i1 i2 i3) : ∀ f : arg17.view.ty.Contents (Elt F), arg17.view.read (Elt F) (arg17.view.writes (Elt F) f
        [⟨Rect.unit ![768, 0] S256x128.size i3, k0_pay38 (k0_pay21 (F := F)) (k0_pay32 (k0_pay25 (cmbW CM 0)) (k0_pay26 (cmbW CM 1)) (cmbW CM 2)) (k0_pay33 (cmbW CM 3)) (k0_pay34 (cmbW CM 3))⟩,
         ⟨Rect.unit ![512, 0] S256x128.size i2, k0_pay31 (k0_pay21 (F := F)) (k0_pay25 (cmbW CM 0)) (k0_pay26 (cmbW CM 1)) (cmbW CM 2)⟩,
         ⟨Rect.unit ![256, 0] S256x128.size i1, k0_pay28 (k0_pay25 (cmbW CM 0)) (k0_pay26 (cmbW CM 1)) (k0_pay27 (cmbW CM 1))⟩,
         ⟨Rect.unit ![0, 0] S256x128.size i0, k0_pay24 (cmbW CM 0)⟩]) = rankCols CM (arg17.view.read (Elt F) f) := fun f => by
      rw [View.read_writes_cons_put _ _ _ _ _ rfl, View.read_writes_cons_put _ _ _ _ _ rfl, View.read_writes_cons_put _ _ _ _ _ rfl, View.read_writes_cons_put _ _ _ _ _ rfl]
      rfl
    have e0 : View.readAt (Elt F) arg7.view (Rect.unit (s := S1x1024x128) ![0, 0, 0] S1x256x128.size inb_S1x1024x128_S1x256x128_0_0_0).toLoadRect (arg7.view.rep CM) = cmbW CM 0 := View.readAt_rep_unit _ _ _ rfl _
    have e1 : View.readAt (Elt F) arg7.view (Rect.unit (s := S1x1024x128) ![0, 256, 0] S1x256x128.size inb_S1x1024x128_S1x256x128_0_256_0).toLoadRect (arg7.view.rep CM) = cmbW CM 1 := View.readAt_rep_unit _ _ _ rfl _
    have e2 : View.readAt (Elt F) arg7.view (Rect.unit (s := S1x1024x128) ![0, 512, 0] S1x256x128.size inb_S1x1024x128_S1x256x128_0_512_0).toLoadRect (arg7.view.rep CM) = cmbW CM 2 := View.readAt_rep_unit _ _ _ rfl _
    have e3 : View.readAt (Elt F) arg7.view (Rect.unit (s := S1x1024x128) ![0, 768, 0] S1x256x128.size inb_S1x1024x128_S1x256x128_0_768_0).toLoadRect (arg7.view.rep CM) = cmbW CM 3 := View.readAt_rep_unit _ _ _ rfl _
    iapply Hκ
    isplitl [H7]; · iexact H7
    isplitl [H14]
    · iapply (hold_full c arg14 _ _ _ _ rfl) $$ H14
    isplitl [H17]
    · iapply (hold_of c arg17 _ _ ?_) $$ H17
      sl_open_run
      rw [e0, e1, e2, e3]
      refine (E _ _ _ _ _).trans ?_
      rw [View.read_rep]
    · iapply (hold_full c arg18 _ _ _ _ ?_) $$ H18
      congr 1
      sl_open_run
      rw [e0, e1, e2, e3]
      refine (View.readAt_full _ _ _).trans ((E _ _ _ _ _).trans ?_)
      exact rankCols_cover _ _ _
  · rw [if_neg h, if_neg h, if_neg h]
    iintro ⟨H7, H14, H17, H18⟩ Hκ
    unfold p2
    sl_exec
    iapply Hκ
    isplitl [H7]; · iexact H7
    isplitl [H14]; · iexact H14
    isplitl [H17]; · iexact H17
    iexact H18
end Args

end Cert.KernelIdeal.Hand
-- ==== Proof.Point.lean ====
/- What one grid point does to the buffers. -/
module

public import proofs.«01_k».proof.Proof.Body
public import proofs.«01_k».proof.Proof.Gather
public import proofs.«01_k».proof.Proof.Scatter
public import proofs.«01_k».proof.Proof.Ranks
public import Idealize.ShloMosaic.Lib.Tactic

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the point's coordinates and the count decide: no second row of passes, and a tile either set or added. -/
structure Ok (i : grid0.Coords) (v5 : BitVec 32) : Prop where
  hw : k0_chk1 i v5
  t2 : (k0_t2_loop v5).trips = 0
  t4 : (k0_t4_loop v5).trips = 0
  t6 : (k0_t6_loop v5).trips = 0
  x7 : ¬ (k0_cond7 i = 1#1 ∧ k0_cond8 i = 1#1)
  x12 : ¬ (k0_cond12 i = 1#1 ∧ k0_cond13 i = 1#1)
  x15 : ¬ (k0_cond15 i = 1#1 ∧ k0_cond16 i = 1#1)
  x18 : ¬ (k0_cond18 i = 1#1 ∧ k0_cond19 i = 1#1)
  x21 : ¬ (Scalar.cmpi .ne (Scalar.extui (Scalar.cmpi .eq (BitVec.ofNat 32 (i 3).val) 0#32) : BitVec 32) 0#32 = 1#1 ∧ Scalar.cmpi .ne (Scalar.extui (Scalar.cmpi .sgt (BitVec.ofNat 32 (i 3).val) 0#32) : BitVec 32) 0#32 = 1#1)

theorem stepA_acc (i : grid0.Coords) (CM : FVec F S1x1024x128 .f32) (S : St F) : (stepA i CM S).acc = if first i = 1#1 then k0_pay20 (F := F) else S.acc := by
  unfold stepA; split_ifs <;> rfl
theorem stepA_rc (i : grid0.Coords) (CM : FVec F S1x1024x128 .f32) (S : St F) : (stepA i CM S).rc = if first i = 1#1 then rankCols CM S.rc else S.rc := by
  unfold stepA; split_ifs <;> rfl
theorem stepA_rr (i : grid0.Coords) (CM : FVec F S1x1024x128 .f32) (S : St F) : (stepA i CM S).rr = if first i = 1#1 then k0_pay39 (rankCols CM S.rc) else S.rr := by
  unfold stepA; split_ifs <;> rfl
theorem stepA_xe (i : grid0.Coords) (CM : FVec F S1x1024x128 .f32) (S : St F) : (stepA i CM S).xe = S.xe := by
  unfold stepA; split_ifs <;> rfl
theorem stepA_ye (i : grid0.Coords) (CM : FVec F S1x1024x128 .f32) (S : St F) : (stepA i CM S).ye = S.ye := by
  unfold stepA; split_ifs <;> rfl

section Args
variable (c : Dev nD) (i : grid0.Coords)
  (arg4 : Memref sig .tc .smem S256 .i32) (harg4 : arg4.IsWhole)
  (arg5 : Memref sig .tc .vmem S1x1024x1024 .f32) (harg5 : arg5.IsWhole)
  (arg6 : Memref sig .tc .vmem S1x1024x1024 .bf16) (harg6 : arg6.IsWhole)
  (arg7 : Memref sig .tc .vmem S1x1024x128 .f32) (harg7 : arg7.IsWhole)
  (arg8 : Memref sig .tc .vmem S1x8x1024 .f32) (harg8 : arg8.IsWhole)
  (arg9 : Memref sig .tc .vmem S1x1024x896 .bf16) (harg9 : arg9.IsWhole)
  (arg10 : Memref sig .tc .vmem S1x1024x896 .bf16) (harg10 : arg10.IsWhole)
  (arg11 : Memref sig .tc .vmem S1x896x1024 .bf16) (harg11 : arg11.IsWhole)
  (arg12 : Memref sig .tc .vmem S1x1024 .f32) (harg12 : arg12.IsWhole)
  (arg13 : Memref sig .tc .vmem S1x1024x1024 .f32) (harg13 : arg13.IsWhole)
  (arg14 : Memref sig .tc .vmem S1024x1024 .f32) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x128 .f32) (harg17 : arg17.IsWhole)
  (arg18 : Memref sig .tc .vmem S128x1024 .f32) (harg18 : arg18.IsWhole)

/-- One grid point: the windows kept, the result's block and the scratch buffers as `result` and `step` say. -/
theorem body_spec (q : PosShare TreeShare) (T : S256.Idx → BitVec 32) (ok : Ok i (wordAt T i))
    (X5 : FVec F S1x1024x1024 .f32) (H : FVec F S1x1024x1024 .bf16) (CM : FVec F S1x1024x128 .f32) (M : FVec F S1x8x1024 .f32)
    (G U : FVec F S1x1024x896 .bf16) (D : FVec F S1x896x1024 .bf16) (FG : FVec F S1x1024 .f32) (O : FVec F S1x1024x1024 .f32) (S : St F) :
    iprop((arg4.view.loc (c : Thread nD τ) ↦[arg4.view.set]{q} arg4.view.rep (Val := Elt F) (e := .i32) T : sProp 𝕄) ∗ hold c arg5 X5 ∗ hold c arg6 H ∗ hold c arg7 CM ∗ hold c arg8 M ∗ hold c arg9 G ∗ hold c arg10 U ∗ hold c arg11 D ∗ hold c arg12 FG ∗ hold c arg13 O ∗ hold c arg14 S.acc ∗ hold c arg15 S.xe ∗ hold c arg16 S.ye ∗ hold c arg17 S.rc ∗ hold c arg18 S.rr)
      ⊢ wp frame (wpE (defs₀ (F := F)) Variants.none (c : Thread nD τ) none) Set.univ (cc0_moe (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg4.view.loc (c : Thread nD τ) ↦[arg4.view.set]{q} arg4.view.rep (Val := Elt F) (e := .i32) T : sProp 𝕄) ∗ hold c arg5 X5 ∗ hold c arg6 H ∗ hold c arg7 CM ∗ hold c arg8 M ∗ hold c arg9 G ∗ hold c arg10 U ∗ hold c arg11 D ∗ hold c arg12 FG
            ∗ hold c arg13 (result i X5 M FG (step i (wordAt T i) ok.hw H CM G U D S).acc O) ∗ hold c arg14 (step i (wordAt T i) ok.hw H CM G U D S).acc ∗ hold c arg15 (step i (wordAt T i) ok.hw H CM G U D S).xe ∗ hold c arg16 (step i (wordAt T i) ok.hw H CM G U D S).ye ∗ hold c arg17 (step i (wordAt T i) ok.hw H CM G U D S).rc ∗ hold c arg18 (step i (wordAt T i) ok.hw H CM G U D S).rr)) := by
  have hw := ok.hw
  rw [cc0_moe_eq_skeleton]
  iintro ⟨H4, H5, H6, H7, H8, H9, H10, H11, H12, H13, H14, H15, H16, H17, H18⟩
  rw [q1.eq]
  unfold q1
  rw [k0_part5_eq_skeleton, p1.eq, wp_bind]
  iapply (p1_spec c i arg4 q T hw) $$ H4
  iintro H4
  rw [p2.eq]
  iapply (p2_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 CM S.acc S.rc S.rr) $$ [H7 H14 H17 H18]
  · isplitl [H7]; · iexact H7
    isplitl [H14]; · iexact H14
    isplitl [H17]; · iexact H17
    iexact H18
  iintro ⟨H7, H14, H17, H18⟩
  rw [← stepA_acc i CM S, ← stepA_rc i CM S, ← stepA_rr i CM S, ← stepA_xe i CM S, ← stepA_ye i CM S]
  rw [p3.eq]
  iapply (p3_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 (wordAt T i) ⟨hw⟩ H _ _ ok.t2) $$ [H6 H15 H18]
  · isplitl [H6]; · iexact H6
    isplitl [H15]; · iexact H15
    iexact H18
  iintro ⟨H6, H15, H18⟩
  rw [show (p3.tail (F := F) i (wordAt T i) ⟨hw⟩ : Prog (TpuEff nD τ sig (Elt F) Λ₀ .tc) (Out5 (F := F) i))
    = Prog.ret ⟨BitVec.ofNat 32 (i 2).val, BitVec.ofNat 32 (i 3).val, wordAt T i, hw, tiles (wordAt T i), single (wordAt T i), Scalar.extui (single (wordAt T i)), 1#32⟩ from rfl, wp_ret]
  imodintro
  dsimp only
  rw [q2.eq]
  iapply (q2_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 _ (wordAt T i) hw _ _ _ G U D _ _ ok.x7 ok.t4) $$ [H9 H10 H11 H15 H16]
  · isplitl [H9]; · iexact H9
    isplitl [H10]; · iexact H10
    isplitl [H11]; · iexact H11
    isplitl [H15]; · iexact H15
    iexact H16
  iintro ⟨H9, H10, H11, H15, H16⟩
  rw [q3.eq]
  iapply (q3_spec c i arg9 arg10 arg11 arg15 arg16 (wordAt T i) hw G U D _ _ ok.x12) $$ [H9 H10 H11 H15 H16]
  · isplitl [H9]; · iexact H9
    isplitl [H10]; · iexact H10
    isplitl [H11]; · iexact H11
    isplitl [H15]; · iexact H15
    iexact H16
  iintro ⟨H9, H10, H11, H15, H16⟩
  rw [q4.eq]
  iapply (q4_spec c i arg9 arg10 arg11 arg15 arg16 (wordAt T i) hw G U D _ _ ok.x15) $$ [H9 H10 H11 H15 H16]
  · isplitl [H9]; · iexact H9
    isplitl [H10]; · iexact H10
    isplitl [H11]; · iexact H11
    isplitl [H15]; · iexact H15
    iexact H16
  iintro ⟨H9, H10, H11, H15, H16⟩
  rw [q5.eq]
  iapply (q5_spec c i arg9 arg10 arg11 arg15 arg16 (wordAt T i) hw G U D _ _ ok.x18) $$ [H9 H10 H11 H15 H16]
  · isplitl [H9]; · iexact H9
    isplitl [H10]; · iexact H10
    isplitl [H11]; · iexact H11
    isplitl [H15]; · iexact H15
    iexact H16
  iintro ⟨H9, H10, H11, H15, H16⟩
  rw [q6.eq]
  iapply (q6_spec c i arg9 arg10 arg11 arg15 arg16 (wordAt T i) G U D _ _ ok.x21) $$ [H9 H10 H11 H15 H16]
  · isplitl [H9]; · iexact H9
    isplitl [H10]; · iexact H10
    isplitl [H11]; · iexact H11
    isplitl [H15]; · iexact H15
    iexact H16
  iintro ⟨H9, H10, H11, H15, H16⟩
  rw [q7.eq]
  iapply (q7_spec c i arg4 harg4 arg5 harg5 arg6 harg6 arg7 harg7 arg8 harg8 arg9 harg9 arg10 harg10 arg11 harg11 arg12 harg12 arg13 harg13 arg14 harg14 arg15 harg15 arg16 harg16 arg17 harg17 arg18 harg18 (wordAt T i) hw _ CM _ _ ok.t6) $$ [H17 H7 H16 H14]
  · isplitl [H17]; · iexact H17
    isplitl [H7]; · iexact H7
    isplitl [H16]; · iexact H16
    iexact H14
  iintro ⟨H17, H7, H16, H14⟩
  rw [q8.eq]
  iapply (q8_spec c i arg5 arg8 arg12 arg13 arg14 X5 M FG _ O) $$ [H5 H8 H12 H14 H13]
  · isplitl [H5]; · iexact H5
    isplitl [H8]; · iexact H8
    isplitl [H12]; · iexact H12
    isplitl [H14]; · iexact H14
    iexact H13
  iintro ⟨H5, H8, H12, H14, H13⟩
  rw [show (q8.tail (F := F) : Prog (TpuEff nD τ sig (Elt F) Λ₀ .tc) PUnit) = Prog.ret PUnit.unit from rfl, wp_ret]
  imodintro
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18
end Args

end Cert.KernelIdeal.Hand
-- ==== Proof.Words2.lean ====
/- The printed side conditions, at the other two tiles; closed forms of the printed arithmetic. -/
module

public import proofs.«01_k».proof.Proof.Words
public import proofs.«01_k».proof.Proof.Point

@[expose] public section

set_option maxRecDepth 16384
set_option synthInstance.maxSize 1000000
set_option synthInstance.maxHeartbeats 0
set_option maxHeartbeats 4000000

namespace Cert.KernelIdeal.Hand

open Idealize.ShloMosaic Idealize.ShloMosaic.TcCoe Cert.KernelIdeal Cert.KernelIdeal.Gen

theorem chk_pts' : ∀ n : Fin 1025, k0_chk1 (pt 1) (BitVec.ofNat 32 n.val) ∧ k0_chk1 (pt 2) (BitVec.ofNat 32 n.val) := by decide +kernel

theorem chk_eq (i : grid0.Coords) (v : BitVec 32) : k0_chk1 i v = k0_chk1 (pt (i 3)) v := rfl

theorem chk_all (i : grid0.Coords) (n : Fin 1025) : k0_chk1 i (BitVec.ofNat 32 n.val) := by
  rw [chk_eq]
  generalize hf : (i 3 : Fin 4) = f
  fin_cases f
  · exact (chk_pts n).1
  · exact (chk_pts' n).1
  · exact (chk_pts' n).2
  · exact (chk_pts n).2

theorem trips_zero : ∀ n : Fin 1025, (k0_t2_loop (BitVec.ofNat 32 n.val)).trips = 0 ∧ (k0_t4_loop (BitVec.ofNat 32 n.val)).trips = 0 ∧ (k0_t6_loop (BitVec.ofNat 32 n.val)).trips = 0 := by decide +kernel

theorem trips_ng : ∀ n : Fin 1025, (k0_t1_loop (BitVec.ofNat 32 n.val)).trips = ngOf n.val ∧ (k0_t3_loop (BitVec.ofNat 32 n.val)).trips = ngOf n.val ∧ (k0_t5_loop (BitVec.ofNat 32 n.val)).trips = ngOf n.val := by decide +kernel

theorem ok_all (i : grid0.Coords) (n : Fin 1025) : Ok i (BitVec.ofNat 32 n.val) where
  hw := chk_all i n
  t2 := (trips_zero n).1
  t4 := (trips_zero n).2.1
  t6 := (trips_zero n).2.2
  x7 := by
    rw [show k0_cond7 i = k0_cond7 (pt (i 3)) from rfl, show k0_cond8 i = k0_cond8 (pt (i 3)) from rfl]
    generalize (i 3 : Fin 4) = f; revert f; decide +kernel
  x12 := by
    rw [show k0_cond12 i = k0_cond12 (pt (i 3)) from rfl, show k0_cond13 i = k0_cond13 (pt (i 3)) from rfl]
    generalize (i 3 : Fin 4) = f; revert f; decide +kernel
  x15 := by
    rw [show k0_cond15 i = k0_cond15 (pt (i 3)) from rfl, show k0_cond16 i = k0_cond16 (pt (i 3)) from rfl]
    generalize (i 3 : Fin 4) = f; revert f; decide +kernel
  x18 := by
    rw [show k0_cond18 i = k0_cond18 (pt (i 3)) from rfl, show k0_cond19 i = k0_cond19 (pt (i 3)) from rfl]
    generalize (i 3 : Fin 4) = f; revert f; decide +kernel
  x21 := by
    generalize (i 3 : Fin 4) = f; revert f; decide +kernel

end Cert.KernelIdeal.Hand
-- ==== Proof.Run.lean ====
/- The launch: the body at every grid point, and the whole run, at any float values. -/
module

public import proofs.«01_k».proof.Proof.Words2
public import proofs.«01_k».proof.Proof.Gen.KernelIdeal.Launch
public import Idealize.ShloMosaic.Lib.Pipeline.FrameBody
public import Idealize.ShloMosaic.Lib.Pipeline.ArrRel

@[expose] public section

set_option maxRecDepth 16384
set_option maxHeartbeats 800000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What every buffer holds when the call starts. -/
def V (c : Dev nD) (b : Ref sig .tc) : Buf (Elt F) ((c : Thread nD τ).loc b) := StableHlo.after hostOps0 (fun b => m (c, b)) b

/-- The counts, as the call's table. -/
def T : S256.Idx → BitVec 32 := V m 0 main_v10

/-- The table's contents. -/
def adm : (p : Fin 1) → (pcfgs (F := F) p).Adm := fun _ => ⟨fun k => V m 0 (pre0.ref k), trivial⟩

abbrev cfgOf : Pipeline.Cfg sig Λ₀ := Pipeline.pin pcfgs (adm m) 0

/-- Every count is at most 1024. -/
def Bounded : Prop := ∀ y, ∃ n : Fin 1025, T m y = BitVec.ofNat 32 n.val

theorem ok_at (hb : Bounded m) (i : grid0.Coords) : Ok i (wordAt (T m) i) := by
  obtain ⟨n, hn⟩ := hb ((Rect.unit (s := S256) (k0_off1 i) S1.size (k0_off1_inb i)).emb (Shape.Idx.first (s := S1) (by rw [numel1_S1]; exact Nat.one_pos)))
  have : wordAt (T m) i = BitVec.ofNat 32 n.val := hn
  rw [this]; exact ok_all i n

/-- The block of window `w`'s array at point `t`. -/
def blk (c : Dev nD) (w : Fin 9) (t : Fin grid0.N) : (spec0 w).block.Idx → Elt F (spec0 w).elt :=
  (((cfgOf m).win w).blk t).view.read (Elt F) (V m c (Pipeline.arrRef (cfgOf m).spec w))

/-- What one point does to the scratch buffers. -/
def next (hb : Bounded m) (c : Dev nD) (t : Fin grid0.N) (S : St F) : St F :=
  step (grid0.coords t) (wordAt (T m) (grid0.coords t)) (ok_at m hb _).hw (blk m c 1 t) (blk m c 2 t) (blk m c 4 t) (blk m c 5 t) (blk m c 6 t) S

/-- What it leaves in the result's buffer, where that held `O`. -/
def outAt (c : Dev nD) (t : Fin grid0.N) (A : FVec F S1024x1024 .f32) (O : FVec F S1x1024x1024 .f32) : FVec F S1x1024x1024 .f32 :=
  result (grid0.coords t) (blk m c 0 t) (blk m c 3 t) (blk m c 7 t) A O

/-- The scratch buffers and the table between points. -/
def Phi (Inv : Dev nD → ℕ → St F → Prop) (c : Dev nD) (n : ℕ) : sProp 𝕄 :=
  iprop(∃ S : St F, ⌜Inv c n S⌝ ∗ (hold c (Memref.whole cc0_scratch0) S.acc ∗ hold c (Memref.whole cc0_scratch1) S.xe ∗ hold c (Memref.whole cc0_scratch2) S.ye
      ∗ hold c (Memref.whole cc0_scratch3) S.rc ∗ hold c (Memref.whole cc0_scratch4) S.rr)
    ∗ ((Memref.whole main_v10).view.loc (c : Thread nD τ) ↦[(Memref.whole main_v10).view.set]{fullShare.right} (Memref.whole main_v10).view.rep (Val := Elt F) (e := .i32) (T m))
    ∗ ∃ r, prngReg c r)

/-- The proof data: inputs are left as found, the result's buffer meets `Rl`. -/
def rdat (Inv : Dev nD → ℕ → St F → Prop) (Rl : Dev nD → Fin grid0.N → FVec F S1x1024x1024 .f32 → Prop) (c : Dev nD) :
    Pipeline.RDat τ (Elt F) Unit ℕ (UR sig nD τ) ℕ (cfgOf m) c where
  A w := V m c (Pipeline.arrRef (cfgOf m).spec w)
  after w t Y X := match w with
    | 8 => Rl c t X
    | ⟨_, _⟩ => X = Y
  Φ n := Phi m Inv c n.val
  q := Pipeline.shareOf (cfgOf m).spec
  owed _ := 0

section Obligation
variable (Inv : Dev nD → ℕ → St F → Prop) (Rl : Dev nD → Fin grid0.N → FVec F S1x1024x1024 .f32 → Prop) (c : Dev nD)

theorem Phi_pos (t : Fin grid0.N) : (rdat m Inv Rl c).Φ t.castSucc = Phi m Inv c t.val := rfl

theorem after_in : ∀ (w : Fin 9), (spec0 w).isOut = false → ∀ (t : Fin grid0.N) (Y X : (spec0 w).block.Idx → Elt F (spec0 w).elt), (rdat m Inv Rl c).after w t Y X → X = Y
  | 0, _, _, _, _, h | 1, _, _, _, _, h | 2, _, _, _, _, h | 3, _, _, _, _, h | 4, _, _, _, _, h | 5, _, _, _, _, h | 6, _, _, _, _, h | 7, _, _, _, _, h => h
  | 8, h, _, _, _, _ => absurd h (by decide)

theorem found_in (w : Fin 9) (hw : (spec0 w).isOut = false) (t : Fin grid0.N) (Y : (spec0 w).block.Idx → Elt F (spec0 w).elt)
    (h : (rdat m Inv Rl c).Finds w t Y) : ∃ d, Y = (rdat m Inv Rl c).fetched w t d :=
  Pipeline.RDat.finds_in_eq_fetched (rdat m Inv Rl c) w hw (fun _ _ _ => rfl) (fun t Y X hX => after_in m Inv Rl c w hw t Y X hX) t Y h

theorem owns_hold {sp : Space} {s : Shape} {e : EltTy} (a : Memref sig .tc sp s e) (X : s.Idx → Elt F e) :
    (owns (c : Thread nD τ) a fullShare X : sProp 𝕄) ⊢ hold c a X := by
  unfold owns
  iintro ⟨%f, %h, H⟩
  iapply (hold_of c a f X h); iexact H

theorem hold_owns {sp : Space} {s : Shape} {e : EltTy} (a : Memref sig .tc sp s e) (X : s.Idx → Elt F e) :
    hold c a X ⊢ (owns (c : Thread nD τ) a fullShare X : sProp 𝕄) := by
  unfold owns
  iintro H
  iexists (a.view.rep X); isplitr
  · ipureintro; exact View.read_rep _ _
  · iexact H

/-- The body at a point, its buffers named. -/
theorem body_at (hb : Bounded m) (t : Fin grid0.N) (s : (w : Fin 9) → Fin (spec0 w).nbuf)
    (hInv : ∀ S, Inv c t.val S → Inv c (t.val + 1) (next m hb c t S))
    (hRl : ∀ S, Inv c t.val S → ∀ O, Rl c t (outAt m c t (next m hb c t S).acc O)) (R : sProp 𝕄) (O : FVec F S1x1024x1024 .f32) :
    iprop(Phi m Inv c t.val ∗ R ∗ hold c (spec0_0.stage (s 0)) (blk m c 0 t) ∗ hold c (spec0_1.stage (s 1)) (blk m c 1 t) ∗ hold c (spec0_2.stage (s 2)) (blk m c 2 t) ∗ hold c (spec0_3.stage (s 3)) (blk m c 3 t) ∗ hold c (spec0_4.stage (s 4)) (blk m c 4 t) ∗ hold c (spec0_5.stage (s 5)) (blk m c 5 t) ∗ hold c (spec0_6.stage (s 6)) (blk m c 6 t) ∗ hold c (spec0_7.stage (s 7)) (blk m c 7 t) ∗ hold c (spec0_8.stage (s 8)) O)
      ⊢ wp frame (wpE (defs₀ (F := F)) Variants.none (c : Thread nD τ) none) Set.univ
        (cc0_moe (F := F) (grid0.coords t) (Memref.whole main_v10) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2))
      (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6))
      (spec0_7.stage (s 7)) (hstage0_7 ((s 7).cast nbuf0_7)) (spec0_8.stage (s 8)) (hstage0_8 ((s 8).cast nbuf0_8)) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _))
        (fun _ => iprop(Phi m Inv c (t.val + 1) ∗ R ∗ hold c (spec0_0.stage (s 0)) (blk m c 0 t) ∗ hold c (spec0_1.stage (s 1)) (blk m c 1 t) ∗ hold c (spec0_2.stage (s 2)) (blk m c 2 t) ∗ hold c (spec0_3.stage (s 3)) (blk m c 3 t) ∗ hold c (spec0_4.stage (s 4)) (blk m c 4 t) ∗ hold c (spec0_5.stage (s 5)) (blk m c 5 t) ∗ hold c (spec0_6.stage (s 6)) (blk m c 6 t) ∗ hold c (spec0_7.stage (s 7)) (blk m c 7 t) ∗ ∃ X, ⌜Rl c t X⌝ ∗ hold c (spec0_8.stage (s 8)) X)) := by
  unfold Phi
  iintro ⟨⟨%S, %hS, ⟨Ha, Hx, Hy, Hc, Hr⟩, HT, Hp⟩, HR, H5, H6, H7, H8, H9, H10, H11, H12, H13⟩
  have B := (body_spec c (grid0.coords t) (Memref.whole main_v10) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2))
      (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6))
      (spec0_7.stage (s 7)) (hstage0_7 ((s 7).cast nbuf0_7)) (spec0_8.stage (s 8)) (hstage0_8 ((s 8).cast nbuf0_8)) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) fullShare.right (T m) (ok_at m hb _) (blk m c 0 t) (blk m c 1 t) (blk m c 2 t) (blk m c 3 t) (blk m c 4 t) (blk m c 5 t) (blk m c 6 t) (blk m c 7 t) O S)
  iapply wp_wand $$ [HT Ha Hx Hy Hc Hr H5 H6 H7 H8 H9 H10 H11 H12 H13]
  · iapply B
    isplitl [HT]; · iexact HT
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Ha]; · iexact Ha
    isplitl [Hx]; · iexact Hx
    isplitl [Hy]; · iexact Hy
    isplitl [Hc]; · iexact Hc
    iexact Hr
  iintro %r ⟨HT, H5, H6, H7, H8, H9, H10, H11, H12, H13, Ha, Hx, Hy, Hc, Hr⟩
  isplitl [HT Ha Hx Hy Hc Hr Hp]
  · iexists (next m hb c t S); isplitr
    · ipureintro; exact hInv S hS
    isplitl [Ha Hx Hy Hc Hr]
    · isplitl [Ha]; · iexact Ha
      isplitl [Hx]; · iexact Hx
      isplitl [Hy]; · iexact Hy
      isplitl [Hc]; · iexact Hc
      iexact Hr
    isplitl [HT]; · iexact HT
    iexact Hp
  isplitl [HR]; · iexact HR
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists (outAt m c t (next m hb c t S).acc O); isplitr
  · ipureintro; exact hRl S hS O
  · iexact H13

theorem hold_left {sp : Space} {s : Shape} {e : EltTy} (a : Memref sig .tc sp s e) (P : (s.Idx → Elt F e) → Prop) (X : s.Idx → Elt F e) (h : P X) :
    hold c a X ⊢ iprop(∃ X, ⌜P X⌝ ∗ (owns (c : Thread nD τ) a fullShare X : sProp 𝕄)) := by
  iintro H
  iexists X; isplitr
  · ipureintro; exact h
  · iapply (hold_owns c a X); iexact H

theorem ex_left {sp : Space} {s : Shape} {e : EltTy} (a : Memref sig .tc sp s e) (P : (s.Idx → Elt F e) → Prop) :
    iprop(∃ X, ⌜P X⌝ ∗ hold c a X) ⊢ iprop(∃ X, ⌜P X⌝ ∗ (owns (c : Thread nD τ) a fullShare X : sProp 𝕄)) := by
  iintro ⟨%X, %h, H⟩
  iexists X; isplitr
  · ipureintro; exact h
  · iapply (hold_owns c a X); iexact H

theorem owns_hold_of {sp : Space} {s : Shape} {e : EltTy} (a : Memref sig .tc sp s e) (Y X : s.Idx → Elt F e) (h : Y = X) :
    (owns (c : Thread nD τ) a fullShare Y : sProp 𝕄) ⊢ hold c a X := h ▸ owns_hold c a Y

theorem pre_at (t : Fin grid0.N) (s : (w : Fin 9) → Fin (spec0 w).nbuf) (Y : (w : Fin 9) → (spec0 w).block.Idx → Elt F (spec0 w).elt)
    (e0 : Y 0 = blk m c 0 t)
    (e1 : Y 1 = blk m c 1 t)
    (e2 : Y 2 = blk m c 2 t)
    (e3 : Y 3 = blk m c 3 t)
    (e4 : Y 4 = blk m c 4 t)
    (e5 : Y 5 = blk m c 5 t)
    (e6 : Y 6 = blk m c 6 t)
    (e7 : Y 7 = blk m c 7 t)
    :
    (bigSep Finset.univ fun w : Fin 9 => owns (c : Thread nD τ) ((spec0 w).stage (s w)) fullShare (Y w) : sProp 𝕄)
      ⊢ iprop(hold c (spec0_0.stage (s 0)) (blk m c 0 t) ∗ hold c (spec0_1.stage (s 1)) (blk m c 1 t) ∗ hold c (spec0_2.stage (s 2)) (blk m c 2 t) ∗ hold c (spec0_3.stage (s 3)) (blk m c 3 t) ∗ hold c (spec0_4.stage (s 4)) (blk m c 4 t) ∗ hold c (spec0_5.stage (s 5)) (blk m c 5 t) ∗ hold c (spec0_6.stage (s 6)) (blk m c 6 t) ∗ hold c (spec0_7.stage (s 7)) (blk m c 7 t) ∗ hold c (spec0_8.stage (s 8)) (Y 8)) := by
  rw [bigSep_W0]
  exact (BIClass.sep_mono (owns_hold_of c (spec0_0.stage (s 0)) _ _ e0) (BIClass.sep_mono (owns_hold_of c (spec0_1.stage (s 1)) _ _ e1) (BIClass.sep_mono (owns_hold_of c (spec0_2.stage (s 2)) _ _ e2) (BIClass.sep_mono (owns_hold_of c (spec0_3.stage (s 3)) _ _ e3) (BIClass.sep_mono (owns_hold_of c (spec0_4.stage (s 4)) _ _ e4) (BIClass.sep_mono (owns_hold_of c (spec0_5.stage (s 5)) _ _ e5) (BIClass.sep_mono (owns_hold_of c (spec0_6.stage (s 6)) _ _ e6) (BIClass.sep_mono (owns_hold_of c (spec0_7.stage (s 7)) _ _ e7) (owns_hold_of c (spec0_8.stage (s 8)) _ _ rfl)))))))))

theorem post_at (t : Fin grid0.N) (s : (w : Fin 9) → Fin (spec0 w).nbuf) (Y : (w : Fin 9) → (spec0 w).block.Idx → Elt F (spec0 w).elt)
    (e0 : Y 0 = blk m c 0 t)
    (e1 : Y 1 = blk m c 1 t)
    (e2 : Y 2 = blk m c 2 t)
    (e3 : Y 3 = blk m c 3 t)
    (e4 : Y 4 = blk m c 4 t)
    (e5 : Y 5 = blk m c 5 t)
    (e6 : Y 6 = blk m c 6 t)
    (e7 : Y 7 = blk m c 7 t)
    (R : sProp 𝕄) :
    iprop(hold c (spec0_0.stage (s 0)) (blk m c 0 t) ∗ hold c (spec0_1.stage (s 1)) (blk m c 1 t) ∗ hold c (spec0_2.stage (s 2)) (blk m c 2 t) ∗ hold c (spec0_3.stage (s 3)) (blk m c 3 t) ∗ hold c (spec0_4.stage (s 4)) (blk m c 4 t) ∗ hold c (spec0_5.stage (s 5)) (blk m c 5 t) ∗ hold c (spec0_6.stage (s 6)) (blk m c 6 t) ∗ hold c (spec0_7.stage (s 7)) (blk m c 7 t) ∗ ∃ X, ⌜Rl c t X⌝ ∗ hold c (spec0_8.stage (s 8)) X)
      ⊢ (bigSep Finset.univ fun w : Fin 9 => iprop(∃ X, ⌜(rdat m Inv Rl c).after w t (Y w) X⌝ ∗ owns (c : Thread nD τ) ((spec0 w).stage (s w)) fullShare X) : sProp 𝕄) := by
  rw [bigSep_W0]
  refine (BIClass.sep_mono (hold_left c (spec0_0.stage (s 0)) (fun X => (rdat m Inv Rl c).after 0 t (Y 0) X) _ e0.symm) (BIClass.sep_mono (hold_left c (spec0_1.stage (s 1)) (fun X => (rdat m Inv Rl c).after 1 t (Y 1) X) _ e1.symm) (BIClass.sep_mono (hold_left c (spec0_2.stage (s 2)) (fun X => (rdat m Inv Rl c).after 2 t (Y 2) X) _ e2.symm) (BIClass.sep_mono (hold_left c (spec0_3.stage (s 3)) (fun X => (rdat m Inv Rl c).after 3 t (Y 3) X) _ e3.symm) (BIClass.sep_mono (hold_left c (spec0_4.stage (s 4)) (fun X => (rdat m Inv Rl c).after 4 t (Y 4) X) _ e4.symm) (BIClass.sep_mono (hold_left c (spec0_5.stage (s 5)) (fun X => (rdat m Inv Rl c).after 5 t (Y 5) X) _ e5.symm) (BIClass.sep_mono (hold_left c (spec0_6.stage (s 6)) (fun X => (rdat m Inv Rl c).after 6 t (Y 6) X) _ e6.symm) (BIClass.sep_mono (hold_left c (spec0_7.stage (s 7)) (fun X => (rdat m Inv Rl c).after 7 t (Y 7) X) _ e7.symm) (ex_left c (spec0_8.stage (s 8)) (fun X => (rdat m Inv Rl c).after 8 t (Y 8) X))))))))))

theorem owes_eq (t : Fin grid0.N) : (rdat m Inv Rl c).owesAt () t.succ = (rdat m Inv Rl c).owesAt () t.castSucc := by
  unfold Pipeline.RDat.owesAt Pipeline.RDat.bound
  dsimp only [rdat]

theorem Phi_succ (t : Fin grid0.N) : (rdat m Inv Rl c).Φ t.succ = Phi m Inv c (t.val + 1) := rfl

theorem obligation (hb : Bounded m)
    (hInv : ∀ (t : Fin grid0.N) S, Inv c t.val S → Inv c (t.val + 1) (next m hb c t S))
    (hRl : ∀ (t : Fin grid0.N) S, Inv c t.val S → ∀ O, Rl c t (outAt m c t (next m hb c t S).acc O)) :
    (rdat m Inv Rl c).BodyObligation defs₀ Variants.none () Set.univ := by
  intro t Y hY
  have e0 : Y 0 = blk m c 0 t := by obtain ⟨d, hd⟩ := found_in m Inv Rl c 0 rfl t _ (hY 0); exact hd
  have e1 : Y 1 = blk m c 1 t := by obtain ⟨d, hd⟩ := found_in m Inv Rl c 1 rfl t _ (hY 1); exact hd
  have e2 : Y 2 = blk m c 2 t := by obtain ⟨d, hd⟩ := found_in m Inv Rl c 2 rfl t _ (hY 2); exact hd
  have e3 : Y 3 = blk m c 3 t := by obtain ⟨d, hd⟩ := found_in m Inv Rl c 3 rfl t _ (hY 3); exact hd
  have e4 : Y 4 = blk m c 4 t := by obtain ⟨d, hd⟩ := found_in m Inv Rl c 4 rfl t _ (hY 4); exact hd
  have e5 : Y 5 = blk m c 5 t := by obtain ⟨d, hd⟩ := found_in m Inv Rl c 5 rfl t _ (hY 5); exact hd
  have e6 : Y 6 = blk m c 6 t := by obtain ⟨d, hd⟩ := found_in m Inv Rl c 6 rfl t _ (hY 6); exact hd
  have e7 : Y 7 = blk m c 7 t := by obtain ⟨d, hd⟩ := found_in m Inv Rl c 7 rfl t _ (hY 7); exact hd
  have B := body_at m Inv Rl c hb t ((cfgOf m).slots t) (hInv t) (hRl t) ((rdat m Inv Rl c).owesAt () t.castSucc) (Y 8)
  have h1 := owes_eq m Inv Rl c t
  have h2 := Phi_pos m Inv Rl c t
  have h3 := Phi_succ m Inv Rl c t
  refine triple_restated B rfl (?_ : iprop((rdat m Inv Rl c).Φ t.castSucc ∗ (rdat m Inv Rl c).owesAt () t.castSucc ∗ _) ⊢ _)
    (fun r => (?_ : _ ⊢ iprop((rdat m Inv Rl c).Φ t.succ ∗ (rdat m Inv Rl c).owesAt () t.succ ∗ _)))
  · rw [h2]
    exact BIClass.sep_mono .rfl (BIClass.sep_mono .rfl (pre_at m c t ((cfgOf m).slots t) Y e0 e1 e2 e3 e4 e5 e6 e7))
  · rw [h1, h3]
    exact BIClass.sep_mono .rfl (BIClass.sep_mono .rfl (post_at m Inv Rl c t ((cfgOf m).slots t) Y e0 e1 e2 e3 e4 e5 e6 e7 ((rdat m Inv Rl c).owesAt () t.castSucc)))

end Obligation

/-! ### The launch -/

section Launch
variable (Inv : Dev nD → ℕ → St F → Prop) (Rl : Dev nD → Fin grid0.N → FVec F S1x1024x1024 .f32 → Prop)

theorem pointsTo_hold (c : Dev nD) (b : Ref sig .tc) (f : Buf (Elt F) ((c : Thread nD τ).loc b)) (q : PosShare TreeShare) :
    (((c : Thread nD τ).loc b) ↦{q} f : sProp 𝕄)
      ⊢ (Memref.whole b).view.loc (c : Thread nD τ) ↦[(Memref.whole b).view.set]{q} (Memref.whole b).view.rep (Val := Elt F) f := by
  refine BI.BIBase.Entails.trans ?_ (pointsTo_rep_of_read (c : Thread nD τ) (Memref.whole b) f q f rfl)
  rw [show (Memref.whole b : Memref sig .tc _ _ _).view.set = Finset.univ from View.set_whole b]

theorem hold_pointsTo (c : Dev nD) (b : Ref sig .tc) (X : b.ty.shape.Idx → Elt F b.ty.elt) :
    hold c (Memref.whole b) X ⊢ iprop(∃ f : Buf (Elt F) ((c : Thread nD τ).loc b), (((c : Thread nD τ).loc b) ↦{fullShare} f : sProp 𝕄)) := by
  unfold hold
  rw [show (Memref.whole b : Memref sig .tc _ _ _).view.set = Finset.univ from View.set_whole b]
  iintro H
  iexists _; iexact H

theorem V_pre (c : Dev nD) (k : Fin pre0.K) : V m c (pre0.ref k) = (adm m 0).1 k := by
  have : c = 0 := Subsingleton.elim _ _
  subst this; rfl

theorem pre_one {M : Type} [URA M] (Φ : Fin 1 → sProp M) : bigSep Finset.univ Φ = Φ 0 :=
  bigSep_univ_eq_bigSepL [(0 : Fin 1)] (by decide) (by decide) Φ

theorem table_held (c : Dev nD) (Z : (k : Fin pre0.K) → (pre0.ref k).ty.shape.Idx → Elt F (pre0.ref k).ty.elt) :
    (bigSep Finset.univ fun k : Fin 1 => (((c : Thread nD τ).loc (pre0.ref k)) ↦{fullShare.right} Z k : sProp 𝕄))
      ⊢ ((Memref.whole main_v10).view.loc (c : Thread nD τ) ↦[(Memref.whole main_v10).view.set]{fullShare.right} (Memref.whole main_v10).view.rep (Val := Elt F) (e := .i32) (Z 0) : sProp 𝕄) := by
  rw [pre_one]
  exact pointsTo_hold c main_v10 (Z 0) fullShare.right

theorem enter (h0 : ∀ c S, Inv c 0 S) (c : Dev nD) :
    iprop(Pipeline.ΦA (cfgOf m).spec c ∗ Pipeline.ΦT (pcfgs (F := F) 0).pre (adm m 0).1 c) ⊢ (rdat m Inv Rl c).Φ 0 := by
  refine BI.BIBase.Entails.trans ?_ (show Phi m Inv c 0 ⊢ _ from .rfl)
  unfold Pipeline.ΦA Pipeline.ΦT Pipeline.prefHeld Phi
  rw [show (Pipeline.scopedRest (cfgOf m).spec c : sProp 𝕄) = _ from scopedRest0_eq c]
  iintro ⟨⟨⟨⟨%f0, H0⟩, ⟨%f1, H1⟩, ⟨%f2, H2⟩, ⟨%f3, H3⟩, ⟨%f4, H4⟩⟩, Hp⟩, HT⟩
  iexists (⟨f0, f1, f2, f3, f4⟩ : St F)
  isplitr
  · ipureintro; exact h0 c _
  isplitl [H0 H1 H2 H3 H4]
  · isplitl [H0]; · iapply (pointsTo_hold c cc0_scratch0 f0 fullShare); iexact H0
    isplitl [H1]; · iapply (pointsTo_hold c cc0_scratch1 f1 fullShare); iexact H1
    isplitl [H2]; · iapply (pointsTo_hold c cc0_scratch2 f2 fullShare); iexact H2
    isplitl [H3]; · iapply (pointsTo_hold c cc0_scratch3 f3 fullShare); iexact H3
    iapply (pointsTo_hold c cc0_scratch4 f4 fullShare); iexact H4
  isplitl [HT]
  · iapply (table_held c (fun k => V m 0 (pre0.ref k))); iexact HT
  · iexact Hp

theorem leave (c : Dev nD) : (rdat m Inv Rl c).Φ (Fin.last (cfgOf m).N) ⊢ Pipeline.ΦA (cfgOf m).spec c := by
  refine BI.BIBase.Entails.trans (show _ ⊢ Phi m Inv c (cfgOf m).N from .rfl) ?_
  unfold Pipeline.ΦA Phi
  rw [show (Pipeline.scopedRest (cfgOf m).spec c : sProp 𝕄) = _ from scopedRest0_eq c]
  iintro ⟨%S, -, ⟨H0, H1, H2, H3, H4⟩, -, Hp⟩
  isplitl [H0 H1 H2 H3 H4]
  · isplitl [H0]; · iapply (hold_pointsTo c cc0_scratch0); iexact H0
    isplitl [H1]; · iapply (hold_pointsTo c cc0_scratch1); iexact H1
    isplitl [H2]; · iapply (hold_pointsTo c cc0_scratch2); iexact H2
    isplitl [H3]; · iapply (hold_pointsTo c cc0_scratch3); iexact H3
    iapply (hold_pointsTo c cc0_scratch4); iexact H4
  · iexact Hp

set_option backward.isDefEq.respectTransparency.types false in
theorem run_main (g : Dev nD → PrngReg) (hb : Bounded m) (h0 : ∀ c S, Inv c 0 S)
    (hInv : ∀ c (t : Fin grid0.N) S, Inv c t.val S → Inv c (t.val + 1) (next m hb c t S))
    (hRl : ∀ c (t : Fin grid0.N) S, Inv c t.val S → ∀ O, Rl c t (outAt m c t (next m hb c t S).acc O)) :
    θ_run defs (onTc (τ := τ) (main (F := F))) (s₀ m g)
      (fun r => Pipeline.RDat.FramePost (cfgOf m) (rdat m Inv Rl) (V m) r ∧ r.2.sem = fun _ => 0) :=
  Pipeline.RDat.θ_run_frameP_track_shared (Q' := _) pcfgs (adm m) 0 launch₀0 defs₀ Variants.none (rdat m Inv Rl) m g main
    (hbody := fun c => obligation m Inv Rl c hb (hInv c) (hRl c)) (hq := fun _ _ _ => rfl) (howed := fun _ _ => rfl) (V := V m)
    (hmain := Pipeline.hmainP_prefix pcfgs 0 defs₀ Variants.none m main hostOps0 hostOps0_sub
      (List.forall_iff_forall_mem.mpr (by
        intro op hop
        simp only [List.mem_cons, List.mem_nil_iff, or_false] at hop
        rcases hop with rfl | rfl | rfl | rfl | rfl | rfl | rfl | rfl | rfl | rfl | rfl | rfl | rfl | rfl <;> rfl)) main_chain)
    (hA := fun _ _ => rfl) (hpf := V_pre m) (hin := enter m Inv Rl h0) (hout := leave m Inv Rl)

end Launch

end Cert.KernelIdeal.Hand
-- ==== Proof.Frames.lean ====
/- The frames: every run ends, with the arguments unchanged. -/
module

public import proofs.«01_k».proof.Proof.Run
public import proofs.«01_k».proof.Defs
public import Idealize.ShloMosaic.Lib.StableHlo.RunRead
public import Idealize.ShloMosaic.Lib.IndicatorCount

@[expose] public section

set_option maxRecDepth 16384
set_option maxHeartbeats 800000

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]
variable (m : (ℓ : Loc nD τ sig) → Buf (Elt F) ℓ)

/-- The selection bits, blocked. -/
def bits (c : Dev nD) : IVec S4x8x1024x8 1 :=
  shapeCast S4x8x1024x8 (cmpf .ogt (extractStridedSlice S4x8192x8 ![0, 0, 0] (m ((c : Thread nD τ).loc main_arg2) : FVec F S4x8192x128 .f32) slices_S4x8192x128_S4x8192x8_0_0_0)
    (broadcastInDim S4x8192x8 ![] bcast_S_S4x8192x8 (constant S_ .f32 0x00000000#32))) shapeCasts_S4x8192x8_S4x8x1024x8

theorem T_eq : T m = shapeCast S256 (Host.reduce IntOp.addi (extui 32 (bits m 0) natLt_1_32) (constantI S_ 32 0#32) reducesTo_S4x8x1024x8_S4x8x8_d2 h_S_) shapeCasts_S4x8x8_S256 := by
  unfold T V
  after_reads_simp
  rfl

theorem card_le (j : S4x8x8.Idx) (A : Finset S4x8x1024x8.Idx) (hA : ∀ a ∈ A, reducesTo_S4x8x1024x8_S4x8x8_d2.drop a = j) : A.card ≤ 1024 := by
  have h1 : (Finset.univ : Finset (Fin 1024)).card = 1024 := by simp
  rw [← h1]
  refine Finset.card_le_card_of_injOn (fun i : S4x8x1024x8.Idx => (i 2 : Fin 1024)) (fun _ _ => Finset.mem_univ _) ?_
  intro a ha b hb hab
  have e : reducesTo_S4x8x1024x8_S4x8x8_d2.drop a = reducesTo_S4x8x1024x8_S4x8x8_d2.drop b := (hA a ha).trans (hA b hb).symm
  have e0 := congrArg (fun k => (k 0 : Nat)) e
  have e1 := congrArg (fun k => (k 1 : Nat)) e
  have e2 := congrArg (fun k => (k 2 : Nat)) e
  have d0 : ∀ i : S4x8x1024x8.Idx, (reducesTo_S4x8x1024x8_S4x8x8_d2.drop i 0 : Nat) = i 0 := fun i => Shape.ReducesTo.drop_apply_val _ i 0
  have d1 : ∀ i : S4x8x1024x8.Idx, (reducesTo_S4x8x1024x8_S4x8x8_d2.drop i 1 : Nat) = i 1 := fun i => Shape.ReducesTo.drop_apply_val _ i 1
  have d2 : ∀ i : S4x8x1024x8.Idx, (reducesTo_S4x8x1024x8_S4x8x8_d2.drop i 2 : Nat) = i 3 := fun i => Shape.ReducesTo.drop_apply_val _ i 2
  dsimp only at e0 e1 e2
  rw [d0, d0] at e0
  rw [d1, d1] at e1
  rw [d2, d2] at e2
  funext k
  match k with
  | ⟨0, _⟩ => exact Fin.ext e0
  | ⟨1, _⟩ => exact Fin.ext e1
  | ⟨2, _⟩ => exact hab
  | ⟨3, _⟩ => exact Fin.ext e2

/-- The count of one block: a fold of widened bits is their number. -/
theorem count_eq (x : IVec S4x8x1024x8 1) (j : S4x8x8.Idx) :
    Host.reduce IntOp.addi (extui 32 x natLt_1_32) (constantI S_ 32 0#32) reducesTo_S4x8x1024x8_S4x8x8_d2 h_S_ j
      = BitVec.ofNat 32 ((Finset.univ.filter fun i => reducesTo_S4x8x1024x8_S4x8x8_d2.drop i = j).filter fun i => x i = 1#1).card := by
  rw [Host.reduce_eq_fold]
  exact IndicatorCount.fold_addi_setWidth_eq_card x _

theorem count_le (x : IVec S4x8x1024x8 1) (j : S4x8x8.Idx) :
    ∃ n : Fin 1025, Host.reduce IntOp.addi (extui 32 x natLt_1_32) (constantI S_ 32 0#32) reducesTo_S4x8x1024x8_S4x8x8_d2 h_S_ j = BitVec.ofNat 32 n.val := by
  rw [count_eq x j]
  exact ⟨⟨_, Nat.lt_succ_of_le (card_le j ((Finset.univ.filter fun i => reducesTo_S4x8x1024x8_S4x8x8_d2.drop i = j).filter fun i => x i = 1#1)
    fun a ha => (Finset.mem_filter.1 (Finset.mem_filter.1 ha).1).2)⟩, rfl⟩

theorem bounded : Bounded m := fun y => by
  rw [T_eq]
  exact count_le (bits m 0) _

/-- No line before the call writes an argument. -/
theorem V_arg (c : Dev nD) (b : Ref sig .tc) (hb : b ∉ [main_v0, main_v1, main_v2, main_v3, main_v4, main_cst, main_v5, main_v6, main_v7, main_v8, main_c, main_v9, main_v10, main_v11]) :
    V m c b = m ((c : Thread nD τ).loc b) :=
  StableHlo.after_of_writes_sub hostOps0 (fun b => m (c, b)) (StableHlo.forall_writes_sub_of_map rfl) hb

theorem args_of (Inv : Dev nD → ℕ → St F → Prop) (Rl : Dev nD → Fin grid0.N → FVec F S1x1024x1024 .f32 → Prop)
    (r : PUnit × MemSt nD τ sig (Elt F)) (h : Pipeline.RDat.FramePost (cfgOf m) (rdat m Inv Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine ⟨?_, ?_, ?_, ?_, ?_, ?_, ?_⟩
  · exact (Pipeline.RDat.FramePost.arr_in h c 0 rfl).trans (V_arg m c main_arg0 (by decide))
  · exact (Pipeline.RDat.FramePost.arr_in h c 1 rfl).trans (V_arg m c main_arg1 (by decide))
  · exact (Pipeline.RDat.FramePost.arr_in h c 2 rfl).trans (V_arg m c main_arg2 (by decide))
  · exact (Pipeline.RDat.FramePost.arr_in h c 3 rfl).trans (V_arg m c main_arg3 (by decide))
  · exact ((h c).2 main_arg4 (Pipeline.mem_restRefs_of main_arg4 (by decide) (show ∀ w, (spec0 w).arr.view.ref ≠ main_arg4 by decide))).trans (V_arg m c main_arg4 (by decide))
  · exact ((h c).2 main_arg5 (Pipeline.mem_restRefs_of main_arg5 (by decide) (show ∀ w, (spec0 w).arr.view.ref ≠ main_arg5 by decide))).trans (V_arg m c main_arg5 (by decide))
  · exact ((h c).2 main_arg6 (Pipeline.mem_restRefs_of main_arg6 (by decide) (show ∀ w, (spec0 w).arr.view.ref ≠ main_arg6 by decide))).trans (V_arg m c main_arg6 (by decide))

/-- Every run ends with the arguments unchanged and every semaphore at zero, at any float values. -/
theorem run_frame (g : Dev nD → PrngReg) :
    θ_run defs (onTc (τ := τ) (main (F := F))) (s₀ m g) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m _ _ r h.1, h.2⟩)
    (run_main m (fun _ _ _ => True) (fun _ _ _ => True) g (bounded m) (fun _ _ => trivial) (fun _ _ _ _ => trivial) (fun _ _ _ _ _ => trivial))

end Cert.KernelIdeal.Hand
-- ==== Proof.Ref.lean ====
/- The reference's run. -/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.TcCoe
open Idealize.SL.Sem
open Cert.ReferenceIdeal Cert.ReferenceIdeal.Gen

theorem frame : Cert.quiescent_ReferenceIdeal := fun m g _ =>
  (θ_run defs _ _).mono (fun r h => ⟨fun c => (h c).2, sem_eq_zero_of_no_sems (by decide) _⟩) (Value.run (F := Ideal) m g)

end Cert.ReferenceIdeal.Hand
-- ==== Proof.Twin.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Frames
public import Idealize.ShloMosaic.Adequacy
public import Idealize.ShloMosaic.Init

@[expose] public section

noncomputable section

set_option maxHeartbeats 8000000
set_option maxRecDepth 65536

namespace Cert.Proof

open Idealize.ShloMosaic Idealize.SL.Sem Cert.Kernel

/-- The two programs run the same body. -/
theorem bodies_eq : Cert.Kernel.defs₀ (F := Bits) = Cert.KernelIdeal.defs₀ (F := Bits) := by
  unfold Cert.Kernel.defs₀ Cert.KernelIdeal.defs₀
  congr 1
  funext l p
  match l, p with
  | 0, (t, s) =>
    show Cert.Kernel.cc0_moe _ _ _ _ _ _ _ _ _ _ _ _ _ _ _ _ _ _ _ _ _ _ _ _ _ _ _ _ _ _ _ = Cert.KernelIdeal.cc0_moe _ _ _ _ _ _ _ _ _ _ _ _ _ _ _ _ _ _ _ _ _ _ _ _ _ _ _ _ _ _ _
    unfold Cert.Kernel.cc0_moe Cert.KernelIdeal.cc0_moe
    rfl

theorem pipes_eq : Cert.Kernel.pcfgs (F := Bits) = Cert.KernelIdeal.pcfgs (F := Bits) := rfl

/-- So the two body tables are one. -/
theorem defs_eq : Cert.Kernel.defs (F := Bits) = Cert.KernelIdeal.defs (F := Bits) :=
  (congrArg (Pipeline.defs (Cert.Kernel.pcfgs (F := Bits))) bodies_eq : Pipeline.defs (Cert.Kernel.pcfgs (F := Bits)) (Cert.Kernel.defs₀ (F := Bits)) = Pipeline.defs (Cert.Kernel.pcfgs (F := Bits)) (Cert.KernelIdeal.defs₀ (F := Bits)))

theorem main_eq : Cert.Kernel.main (F := Bits) = Cert.KernelIdeal.main (F := Bits) := rfl

theorem frame_kernel : Cert.quiescent_Kernel := fun m g _ => by
  rw [defs_eq, main_eq]
  exact (θ_run Cert.KernelIdeal.defs _ _).mono (fun _ h => h) (Cert.KernelIdeal.Hand.run_frame (F := Bits) m g)

end Cert.Proof
-- ==== Proof.Spec.lean ====
/- The mathematics both sides compute, on one token's numbers. -/
module

public import Idealize.ShloMosaic.PureOps.Ideal

@[expose] public section

noncomputable section

namespace Cert.Layer

open Idealize.ShloMosaic

/-- One unit of an expert before the gate is applied. -/
def hid (h : Fin 1024 → EReal) (wg : Fin 1024 → Fin 7168 → EReal) (f : Fin 7168) : EReal := ∑ k : Fin 1024, h k * wg k f

/-- The gated product of a unit's two halves. -/
def unitOf (g u : EReal) : EReal := g * Ideal.div 1 (1 + Ideal.exp (0 - g)) * u

/-- What an expert makes of a token. -/
def yOf (h : Fin 1024 → EReal) (wg : Fin 1024 → Fin 7168 → EReal) (wd : Fin 3584 → Fin 1024 → EReal) (d : Fin 1024) : EReal :=
  ∑ f : Fin 3584, unitOf (hid h wg ⟨f.val, by omega⟩) (hid h wg ⟨3584 + f.val, by omega⟩) * wd f d

/-- The experts' results, weighted. -/
def mixOf (c : Fin 8 → EReal) (y : Fin 8 → EReal) : EReal := ∑ e : Fin 8, c e * y e

/-- The gated residual, before normalising. -/
def resOf (X M A : Fin 1024 → EReal) (d : Fin 1024) : EReal := X d + M d * A d

/-- The normalised result. -/
def outOf (X M A G : Fin 1024 → EReal) (d : Fin 1024) : EReal :=
  resOf X M A d * Ideal.rsqrt (Ideal.div (∑ k : Fin 1024, resOf X M A k * resOf X M A k) (Ideal.ofBits .f32 1149239296#32) + Ideal.ofBits .f32 897988541#32) * G d

end Cert.Layer
-- ==== Proof.Pays.lean ====
module

public import proofs.«01_k».proof.Proof.Step
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! What each block of vector operations gives at an index, over the extended reals. -/

/-- One where a rank is `r`, zero elsewhere. -/
def ind (x : EReal) (r : ℕ) : EReal := if x = (r : EReal) then 1 else 0

theorem bit_ind (p : Prop) [Decidable p] :
    FloatOps.sitofp (F := Ideal) .f32 (BitVec.setWidth 32 (BitVec.ofBool (decide p))) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

theorem word_nat (n : ℕ) (hn : n < 2 ^ 31) : FloatOps.sitofp (F := Ideal) .f32 (BitVec.ofNat 32 n) = (n : EReal) := by
  show (((BitVec.ofNat 32 n).toInt : ℝ) : EReal) = _
  have : (BitVec.ofNat 32 n).toInt = (n : ℤ) := by
    rw [BitVec.toInt_eq_toNat_of_lt] <;> rw [BitVec.toNat_ofNat, Nat.mod_eq_of_lt (by omega)]
    omega
  rw [this]; norm_cast

theorem slot_at (r k : ℕ) (hr : r < 1024) (hk : k < 8) :
    FloatOps.sitofp (F := Ideal) .f32 (IntOp.addi (BitVec.ofNat 32 r) (Scalar.muli (BitVec.ofNat 32 k) 256#32)) = ((256 * k + r : ℕ) : EReal) := by
  rw [← word_nat (256 * k + r) (by omega)]
  congr 1
  show BitVec.ofNat 32 r + BitVec.ofNat 32 k * 256#32 = _
  rw [show (256#32 : BitVec 32) = BitVec.ofNat 32 256 from rfl, ← BitVec.ofNat_mul, ← BitVec.ofNat_add]
  congr 1; omega

theorem slot_zero (r : ℕ) (hr : r < 1024) :
    FloatOps.sitofp (F := Ideal) .f32 (IntOp.addi (BitVec.ofNat 32 r) 0#32) = ((r : ℕ) : EReal) := by
  rw [← word_nat r (by omega)]
  congr 1
  show BitVec.ofNat 32 r + 0#32 = _
  exact BitVec.add_zero _

theorem iv_at (k : ℕ) : Scf.iv 0#32 1#32 k = BitVec.ofNat 32 k := by
  unfold Scf.iv
  simp

/-- One unit of an expert: the gated product of the two halves. -/
def act (g u : EReal) : EReal := g * Ideal.div 1 (1 + Ideal.exp (0 - g)) * u

/-- A row against one column of a weight tile. -/
def dotc (x : Fin 1024 → EReal) (G : FVec Ideal S1x1024x896 .bf16) (f : Fin 896) : EReal := ∑ k : Fin 1024, x k * G (ix3 0 k f)

/-- What a tile of an expert's units makes of a row. -/
def tile (x : Fin 1024 → EReal) (G U : FVec Ideal S1x1024x896 .bf16) (D : FVec Ideal S1x896x1024 .bf16) (d : Fin 1024) : EReal :=
  ∑ f : Fin 896, act (dotc x G f) (dotc x U f) * D (ix3 0 f d)

/-- The row of `H` whose token has rank `r`. -/
def pick (row : Fin 1024 → EReal) (H : FVec Ideal S1x1024x1024 .bf16) (r : ℕ) (d : Fin 1024) : EReal :=
  ∑ t : Fin 1024, ind (row t) r * H (ix3 0 t d)

section Rows
variable (row : FVec Ideal S1x1024 .f32) (H : FVec Ideal S1x1024x1024 .bf16) (k : ℕ) (hk : k < 8) (d : Fin 1024)
include hk

theorem pay41_at (r : Fin 64) : k0_pay41 (F := Ideal) row (BitVec.ofNat 32 k) H (ix2 r d) = pick (fun t => row (ix2 0 t)) H (256 * k + r.val) d := by
  pointwise [k0_pay41]
  unfold pick ind
  refine Finset.sum_congr rfl fun x _ => ?_
  rw [bit_ind, slot_at r.val k (by omega) hk]

theorem pay42_at (r : Fin 128) : k0_pay42 (F := Ideal) row (BitVec.ofNat 32 k) H (ix2 r d) = pick (fun t => row (ix2 0 t)) H (256 * k + r.val) d := by
  pointwise [k0_pay42]
  unfold pick ind
  refine Finset.sum_congr rfl fun x _ => ?_
  rw [bit_ind, slot_at r.val k (by omega) hk]

theorem pay43_at (r : Fin 192) : k0_pay43 (F := Ideal) row (BitVec.ofNat 32 k) H (ix2 r d) = pick (fun t => row (ix2 0 t)) H (256 * k + r.val) d := by
  pointwise [k0_pay43]
  unfold pick ind
  refine Finset.sum_congr rfl fun x _ => ?_
  rw [bit_ind, slot_at r.val k (by omega) hk]

end Rows

theorem pay35_at (v : BitVec 32) (row : FVec Ideal S1x1024 .f32) (H : FVec Ideal S1x1024x1024 .bf16) (k : Fin (k0_t1_loop v).trips) (hk : k.val < 8)
    (r : Fin 256) (d : Fin 1024) : k0_pay35 (F := Ideal) v row k H (ix2 r d) = pick (fun t => row (ix2 0 t)) H (256 * k.val + r.val) d := by
  pointwise [k0_pay35]
  unfold pick ind
  refine Finset.sum_congr rfl fun x _ => ?_
  rw [iv_at, bit_ind, slot_at r.val k.val (by omega) hk]

theorem pay44_at (row : FVec Ideal S1x1024 .f32) (H : FVec Ideal S1x1024x1024 .bf16)
    (r : Fin 320) (d : Fin 1024) : k0_pay44 (F := Ideal) row H (ix2 r d) = pick (fun t => row (ix2 0 t)) H r.val d := by
  pointwise [k0_pay44]
  unfold pick ind
  refine Finset.sum_congr rfl fun x _ => ?_
  rw [bit_ind, slot_zero r.val (by omega)]

section Tiles
variable (G U : FVec Ideal S1x1024x896 .bf16) (D : FVec Ideal S1x896x1024 .bf16) (d : Fin 1024)

theorem pay2_at (X : FVec Ideal S64x1024 .bf16) (r : Fin 64) : k0_pay2 (F := Ideal) X G U D (ix2 r d) = tile (fun k => X (ix2 r k)) G U D d := by
  pointwise [k0_pay2, k0_pay1]
  rfl

theorem pay3_at (X : FVec Ideal S64x1024 .bf16) (Y : FVec Ideal S64x1024 .f32) (r : Fin 64) :
    k0_pay3 (F := Ideal) X G U D Y (ix2 r d) = Y (ix2 r d) + tile (fun k => X (ix2 r k)) G U D d := by
  pointwise [k0_pay3, k0_pay1]
  rfl

theorem pay5_at (X : FVec Ideal S128x1024 .bf16) (r : Fin 128) : k0_pay5 (F := Ideal) X G U D (ix2 r d) = tile (fun k => X (ix2 r k)) G U D d := by
  pointwise [k0_pay5, k0_pay4]
  rfl

theorem pay6_at (X : FVec Ideal S128x1024 .bf16) (Y : FVec Ideal S128x1024 .f32) (r : Fin 128) :
    k0_pay6 (F := Ideal) X G U D Y (ix2 r d) = Y (ix2 r d) + tile (fun k => X (ix2 r k)) G U D d := by
  pointwise [k0_pay6, k0_pay4]
  rfl

theorem pay8_at (X : FVec Ideal S192x1024 .bf16) (r : Fin 192) : k0_pay8 (F := Ideal) X G U D (ix2 r d) = tile (fun k => X (ix2 r k)) G U D d := by
  pointwise [k0_pay8, k0_pay7]
  rfl

theorem pay9_at (X : FVec Ideal S192x1024 .bf16) (Y : FVec Ideal S192x1024 .f32) (r : Fin 192) :
    k0_pay9 (F := Ideal) X G U D Y (ix2 r d) = Y (ix2 r d) + tile (fun k => X (ix2 r k)) G U D d := by
  pointwise [k0_pay9, k0_pay7]
  rfl

theorem pay11_at (X : FVec Ideal S320x1024 .bf16) (r : Fin 320) : k0_pay11 (F := Ideal) X G U D (ix2 r d) = tile (fun k => X (ix2 r k)) G U D d := by
  pointwise [k0_pay11, k0_pay10]
  rfl

theorem pay12_at (X : FVec Ideal S320x1024 .bf16) (Y : FVec Ideal S320x1024 .f32) (r : Fin 320) :
    k0_pay12 (F := Ideal) X G U D Y (ix2 r d) = Y (ix2 r d) + tile (fun k => X (ix2 r k)) G U D d := by
  pointwise [k0_pay12, k0_pay10]
  rfl

theorem pay46_at (X : FVec Ideal S256x1024 .bf16) (r : Fin 256) : k0_pay46 (F := Ideal) X G U D (ix2 r d) = tile (fun k => X (ix2 r k)) G U D d := by
  pointwise [k0_pay46, k0_pay45]
  rfl

theorem pay47_at (X : FVec Ideal S256x1024 .bf16) (Y : FVec Ideal S256x1024 .f32) (r : Fin 256) :
    k0_pay47 (F := Ideal) X G U D Y (ix2 r d) = Y (ix2 r d) + tile (fun k => X (ix2 r k)) G U D d := by
  pointwise [k0_pay47, k0_pay45]
  rfl

end Tiles

/-- What a pass over `S` rows from `b` adds to a token of rank `rc` and weight `w`. -/
def back {S : ℕ} (rc w : EReal) (b : ℕ) (Y : Fin S → EReal) : EReal := w * ∑ x : Fin S, ind rc (b + x.val) * Y x

section Back
variable (rc w : FVec Ideal S1024x1 .f32) (k : ℕ) (hk : k < 8) (A : FVec Ideal S1024x1024 .f32) (t d : Fin 1024)
include hk

theorem pay15_at (Y : FVec Ideal S64x1024 .f32) : k0_pay15 (F := Ideal) rc w (BitVec.ofNat 32 k) Y A (ix2 t d)
    = A (ix2 t d) + back (rc (ix2 t 0)) (w (ix2 t 0)) (256 * k) (fun x => Y (ix2 x d)) := by
  pointwise [k0_pay15]
  unfold back ind
  congr 2
  refine Finset.sum_congr rfl fun x _ => ?_
  rw [bit_ind, slot_at x.val k (by omega) hk]

theorem pay16_at (Y : FVec Ideal S128x1024 .f32) : k0_pay16 (F := Ideal) rc w (BitVec.ofNat 32 k) Y A (ix2 t d)
    = A (ix2 t d) + back (rc (ix2 t 0)) (w (ix2 t 0)) (256 * k) (fun x => Y (ix2 x d)) := by
  pointwise [k0_pay16]
  unfold back ind
  congr 2
  refine Finset.sum_congr rfl fun x _ => ?_
  rw [bit_ind, slot_at x.val k (by omega) hk]

theorem pay17_at (Y : FVec Ideal S192x1024 .f32) : k0_pay17 (F := Ideal) rc w (BitVec.ofNat 32 k) Y A (ix2 t d)
    = A (ix2 t d) + back (rc (ix2 t 0)) (w (ix2 t 0)) (256 * k) (fun x => Y (ix2 x d)) := by
  pointwise [k0_pay17]
  unfold back ind
  congr 2
  refine Finset.sum_congr rfl fun x _ => ?_
  rw [bit_ind, slot_at x.val k (by omega) hk]

end Back

theorem pay13_at (v : BitVec 32) (rc w : FVec Ideal S1024x1 .f32) (k : Fin (k0_t5_loop v).trips) (hk : k.val < 8) (Y : FVec Ideal S256x1024 .f32)
    (A : FVec Ideal S1024x1024 .f32) (t d : Fin 1024) : k0_pay13 (F := Ideal) v rc w k Y A (ix2 t d)
    = A (ix2 t d) + back (rc (ix2 t 0)) (w (ix2 t 0)) (256 * k.val) (fun x => Y (ix2 x d)) := by
  pointwise [k0_pay13]
  unfold back ind
  congr 2
  refine Finset.sum_congr rfl fun x _ => ?_
  rw [iv_at, bit_ind, slot_at x.val k.val (by omega) hk]

theorem pay18_at (rc w : FVec Ideal S1024x1 .f32) (Y : FVec Ideal S320x1024 .f32)
    (A : FVec Ideal S1024x1024 .f32) (t d : Fin 1024) : k0_pay18 (F := Ideal) rc w Y A (ix2 t d)
    = A (ix2 t d) + back (rc (ix2 t 0)) (w (ix2 t 0)) 0 (fun x => Y (ix2 x d)) := by
  pointwise [k0_pay18]
  unfold back ind
  congr 2
  refine Finset.sum_congr rfl fun x _ => ?_
  rw [bit_ind, slot_zero x.val (by omega)]
  simp only [Nat.zero_add]

theorem column_sum (e : Fin 8) (f : Fin 128 → EReal) :
    (∑ x : Fin 128, Scalar.select (IntOp.cmpi CmpIPredicate.eq (BitVec.ofNat 32 x.val) (BitVec.ofNat 32 e.val)) (f x) 0) = f ⟨e.val, by omega⟩ := by
  rw [Finset.sum_eq_single (⟨e.val, by omega⟩ : Fin 128)]
  · have : IntOp.cmpi CmpIPredicate.eq (BitVec.ofNat 32 e.val) (BitVec.ofNat 32 e.val) = 1#1 := by simp [IntOp.cmpi]
    rw [this]; rfl
  · intro x _ hx
    have : IntOp.cmpi CmpIPredicate.eq (BitVec.ofNat 32 x.val) (BitVec.ofNat 32 e.val) = 0#1 := by
      have hne : BitVec.ofNat 32 x.val ≠ BitVec.ofNat 32 e.val := fun h => hx (Fin.ext (by
        have := congrArg BitVec.toNat h
        rw [BitVec.toNat_ofNat, BitVec.toNat_ofNat, Nat.mod_eq_of_lt (by omega), Nat.mod_eq_of_lt (by omega)] at this
        exact this))
      show BitVec.ofBool (BitVec.ofNat 32 x.val == BitVec.ofNat 32 e.val) = 0#1
      rw [beq_eq_false_iff_ne.2 hne]; rfl
    rw [this]; rfl
  · intro h; exact absurd (Finset.mem_univ _) h

theorem pay36_at (e : Fin 8) (K : FVec Ideal S1024x128 .f32) (t : Fin 1024) :
    k0_pay36 (F := Ideal) (BitVec.ofNat 32 e.val) K (ix2 t 0) = K (ix2 t ⟨e.val, by omega⟩) := by
  pointwise [k0_pay36]
  exact column_sum e fun x => K (ix2 t x)

theorem pay37_at (e : Fin 8) (K : FVec Ideal S1x1024x128 .f32) (t : Fin 1024) :
    k0_pay37 (F := Ideal) (BitVec.ofNat 32 e.val) K (ix2 t 0) = K (ix3 0 t ⟨e.val, by omega⟩) := by
  pointwise [k0_pay37]
  exact column_sum e fun x => K (ix3 0 t x)

theorem pay39_at (K : FVec Ideal S1024x128 .f32) (l : Fin 128) (t : Fin 1024) : k0_pay39 (F := Ideal) K (ix2 l t) = K (ix2 t l) := by
  pointwise [k0_pay39]

theorem pay20_at (t d : Fin 1024) : k0_pay20 (F := Ideal) (ix2 t d) = 0 := by
  pointwise [k0_pay20]

end Cert.KernelIdeal.Hand
-- ==== Proof.Wins.lean ====
module

public import proofs.«01_k».proof.Proof.Step
public import Idealize.ShloMosaic.Lib.Pointwise
public import Idealize.ShloMosaic.Lib.VecWindow
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! Rows of a two-axis array under a put and a window of whole rows. -/

theorem put_rows {α : Type} {N M S : ℕ} (X : (⟨2, ![N, M]⟩ : Shape).Idx → α) (off : Fin 2 → ℕ) (b : ℕ) (ho : off = ![b, 0])
    (w : ((a : Fin 2) → Fin ((⟨2, ![S, M]⟩ : Shape).size a)) → α) (r : Fin N) (d : Fin M) :
    VecWindow.put X off (⟨2, ![S, M]⟩ : Shape).size w (ix2 r d)
      = if h : b ≤ r.val ∧ r.val < b + S then w (ix2 (⟨r.val - b, by omega⟩ : Fin S) d) else X (ix2 r d) := by
  subst ho
  unfold VecWindow.put
  by_cases h : b ≤ r.val ∧ r.val < b + S
  · rw [dif_pos h, dif_pos]
    · congr 1
      funext a
      match a with
      | 0 => rfl
      | 1 => exact Fin.ext (Nat.sub_zero _)
    · intro a
      match a with
      | 0 => exact h
      | 1 => exact ⟨Nat.zero_le _, by show d.val < 0 + M; omega⟩
  · rw [dif_neg h, dif_neg]
    intro hh
    exact h (hh 0)

theorem window_rows {α : Type} {N M S : ℕ} (X : (⟨2, ![N, M]⟩ : Shape).Idx → α) (off : Fin 2 → ℕ) (b : ℕ) (ho : off = ![b, 0])
    (inb : ∀ a, off a + (⟨2, ![S, M]⟩ : Shape).size a ≤ (⟨2, ![N, M]⟩ : Shape).size a) (hb : b + S ≤ N) (z : Fin S) (d : Fin M) :
    (VecWindow.window X off (⟨2, ![S, M]⟩ : Shape).size inb : (⟨2, ![S, M]⟩ : Shape).Idx → α) (ix2 z d)
      = X (ix2 (⟨b + z.val, by omega⟩ : Fin N) d) := by
  subst ho
  unfold VecWindow.window
  congr 1
  funext a
  match a with
  | 0 => exact Fin.ext (by show b + 1 * z.val = b + z.val; omega)
  | 1 => exact Fin.ext (by show 0 + 1 * d.val = d.val; omega)

theorem window_mid {α : Type} {N M S : ℕ} (X : (⟨3, ![1, N, M]⟩ : Shape).Idx → α) (b : ℕ)
    (inb : ∀ a, (![0, b, 0] : Fin 3 → ℕ) a + (⟨3, ![1, S, M]⟩ : Shape).size a ≤ (⟨3, ![1, N, M]⟩ : Shape).size a) (hb : b + S ≤ N) (z : Fin S) (d : Fin M) :
    (VecWindow.window X ![0, b, 0] (⟨3, ![1, S, M]⟩ : Shape).size inb : (⟨3, ![1, S, M]⟩ : Shape).Idx → α) (ix3 0 z d)
      = X (ix3 0 (⟨b + z.val, by omega⟩ : Fin N) d) := by
  unfold VecWindow.window
  congr 1
  funext a
  match a with
  | 0 => rfl
  | 1 => exact Fin.ext (by show b + 1 * z.val = b + z.val; omega)
  | 2 => exact Fin.ext (by show 0 + 1 * d.val = d.val; omega)

theorem trips_ind {α : Type} {N : ℕ} (f : Fin N → α → α) (x : α) (P : ℕ → α → Prop) (h0 : P 0 x)
    (hs : ∀ k : Fin N, ∀ y, P k.val y → P (k.val + 1) (f k y)) : ∀ n, n ≤ N → P n (trips N f n x)
  | 0, _ => h0
  | n + 1, h => by
    have := hs ⟨n, h⟩ _ (trips_ind f x P h0 hs n (Nat.le_of_lt h))
    rw [← trips_succ f ⟨n, h⟩ x] at this
    exact this

end Cert.KernelIdeal.Hand
-- ==== Proof.RankVal.lean ====
module

public import proofs.«01_k».proof.Proof.Pays
public import proofs.«01_k».proof.Proof.Wins
public import Idealize.ShloMosaic.Lib.Pointwise
public import Idealize.ShloMosaic.Lib.VecWindow
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! The ranks: a selected token's rank is the number of selected tokens before it. -/

/-- The words of minus one. -/
def negOne : EReal := Ideal.ofBits .f32 3212836864#32

theorem negOne_eq : negOne = ((-(1 : ℝ)) : EReal) := by
  unfold negOne
  simp [Ideal.ofBits, Ideal.ieee, -EReal.coe_mul, -EReal.coe_neg]; norm_num

theorem negOne_ne (n : ℕ) : negOne ≠ (n : EReal) := by
  rw [negOne_eq, ← EReal.coe_coe_eq_natCast]
  intro h
  have h' : (-(1 : ℝ)) = (n : ℝ) := by exact_mod_cast h
  have : (0 : ℝ) ≤ n := Nat.cast_nonneg n
  linarith

/-- How many of 256 entries are selected, and how many of those before the `t`-th. -/
def total (C : Fin 256 → EReal) : ℕ := ∑ x : Fin 256, if 0 < C x then 1 else 0
def below (C : Fin 256 → EReal) (t : Fin 256) : ℕ := ∑ x : Fin 256, if x.val < t.val ∧ 0 < C x then 1 else 0

theorem slt_bit (x t : Fin 256) : FloatOps.sitofp (F := Ideal) .f32 (BitVec.setWidth 32 (IntOp.cmpi CmpIPredicate.slt (BitVec.ofNat 32 x.val) (BitVec.ofNat 32 t.val)))
    = if x.val < t.val then (1 : EReal) else 0 := by
  have e : (BitVec.ofNat 32 x.val).slt (BitVec.ofNat 32 t.val) = decide (x.val < t.val) := by
    rw [BitVec.slt_eq_decide]
    have hx : (BitVec.ofNat 32 x.val).toInt = (x.val : ℤ) := by
      rw [BitVec.toInt_eq_toNat_of_lt] <;> rw [BitVec.toNat_ofNat, Nat.mod_eq_of_lt (by omega)]
      omega
    have ht : (BitVec.ofNat 32 t.val).toInt = (t.val : ℤ) := by
      rw [BitVec.toInt_eq_toNat_of_lt] <;> rw [BitVec.toNat_ofNat, Nat.mod_eq_of_lt (by omega)]
      omega
    rw [hx, ht]; simp
  show FloatOps.sitofp (F := Ideal) .f32 (BitVec.setWidth 32 (BitVec.ofBool ((BitVec.ofNat 32 x.val).slt (BitVec.ofNat 32 t.val)))) = _
  rw [e, bit_ind]

theorem total_sum (C : Fin 256 → EReal) :
    (∑ x : Fin 256, FloatOps.sitofp (F := Ideal) .f32 (BitVec.setWidth 32 (BitVec.ofBool (decide (0 < C x))))) = ((total C : ℕ) : EReal) := by
  unfold total
  rw [Nat.cast_sum]
  refine Finset.sum_congr rfl fun x _ => ?_
  rw [bit_ind]; split_ifs <;> simp

theorem below_sum (C : Fin 256 → EReal) (t : Fin 256) :
    (∑ x : Fin 256, FloatOps.sitofp (F := Ideal) .f32 (BitVec.setWidth 32 (IntOp.cmpi CmpIPredicate.slt (BitVec.ofNat 32 x.val) (BitVec.ofNat 32 t.val)))
      * FloatOps.sitofp (F := Ideal) .f32 (BitVec.setWidth 32 (BitVec.ofBool (decide (0 < C x))))) = ((below C t : ℕ) : EReal) := by
  unfold below
  rw [Nat.cast_sum]
  refine Finset.sum_congr rfl fun x _ => ?_
  rw [bit_ind, slt_bit]
  by_cases h1 : x.val < t.val <;> by_cases h2 : 0 < C x <;> simp [h1, h2]

theorem bit_pos (p : Prop) [Decidable p] (a b : EReal) :
    (if (0 : EReal) < FloatOps.sitofp (F := Ideal) .f32 (BitVec.setWidth 32 (BitVec.ofBool (decide p))) then a else b) = if p then a else b := by
  rw [bit_ind]
  by_cases h : p <;> simp [h]

section Pieces
variable (C0 C1 C2 C3 : FVec Ideal S1x256x128 .f32) (t : Fin 256) (l : Fin 128)

theorem ranks0 : k0_pay24 (F := Ideal) C0 (ix2 t l) = if 0 < C0 (ix3 0 t l) then ((below (fun x => C0 (ix3 0 x l)) t : ℕ) : EReal) else negOne := by
  pointwise [k0_pay24, k0_pay23, k0_pay22, k0_pay21]
  rw [bit_pos, below_sum (fun x => C0 (ix3 0 x l)) t]; rfl

theorem ranks1 : k0_pay28 (F := Ideal) (k0_pay25 C0) (k0_pay26 C1) (k0_pay27 C1) (ix2 t l)
    = if 0 < C1 (ix3 0 t l) then ((below (fun x => C1 (ix3 0 x l)) t + total (fun x => C0 (ix3 0 x l)) : ℕ) : EReal) else negOne := by
  pointwise [k0_pay28, k0_pay27, k0_pay26, k0_pay25, k0_pay23, k0_pay22, k0_pay21]
  rw [bit_pos, below_sum (fun x => C1 (ix3 0 x l)) t, total_sum (fun x => C0 (ix3 0 x l)), Nat.cast_add]; rfl

theorem ranks2 : k0_pay31 (F := Ideal) (k0_pay21 (F := Ideal)) (k0_pay25 C0) (k0_pay26 C1) C2 (ix2 t l)
    = if 0 < C2 (ix3 0 t l) then ((below (fun x => C2 (ix3 0 x l)) t + (total (fun x => C0 (ix3 0 x l)) + total (fun x => C1 (ix3 0 x l))) : ℕ) : EReal) else negOne := by
  pointwise [k0_pay31, k0_pay30, k0_pay29, k0_pay26, k0_pay25, k0_pay23, k0_pay22, k0_pay21]
  rw [bit_pos, below_sum (fun x => C2 (ix3 0 x l)) t, total_sum (fun x => C0 (ix3 0 x l)), total_sum (fun x => C1 (ix3 0 x l)), Nat.cast_add, Nat.cast_add]; rfl

theorem ranks3 : k0_pay38 (F := Ideal) (k0_pay21 (F := Ideal)) (k0_pay32 (k0_pay25 C0) (k0_pay26 C1) C2) (k0_pay33 C3) (k0_pay34 C3) (ix2 t l)
    = if 0 < C3 (ix3 0 t l) then ((below (fun x => C3 (ix3 0 x l)) t + (total (fun x => C0 (ix3 0 x l)) + total (fun x => C1 (ix3 0 x l)) + total (fun x => C2 (ix3 0 x l))) : ℕ) : EReal) else negOne := by
  pointwise [k0_pay38, k0_pay34, k0_pay33, k0_pay32, k0_pay30, k0_pay29, k0_pay26, k0_pay25, k0_pay23, k0_pay22, k0_pay21]
  rw [bit_pos, below_sum (fun x => C3 (ix3 0 x l)) t, total_sum (fun x => C0 (ix3 0 x l)), total_sum (fun x => C1 (ix3 0 x l)), total_sum (fun x => C2 (ix3 0 x l)), Nat.cast_add, Nat.cast_add, Nat.cast_add]; rfl

end Pieces

/-- How many of a block's tokens before `t` are selected. -/
def rk (C : Fin 1024 → EReal) (t : Fin 1024) : ℕ := ∑ x : Fin 1024, if x.val < t.val ∧ 0 < C x then 1 else 0

/-- How many of a block's tokens are selected. -/
def cnt (C : Fin 1024 → EReal) : ℕ := ∑ x : Fin 1024, if 0 < C x then 1 else 0

/-- Entries `256 s` to `256 s + 255`. -/
def quarter (C : Fin 1024 → EReal) (s : Fin 4) (z : Fin 256) : EReal := C ⟨256 * s.val + z.val, by omega⟩

theorem rk_split (C : Fin 1024 → EReal) (s : Fin 4) (z : Fin 256) :
    rk C ⟨256 * s.val + z.val, by omega⟩ = below (quarter C s) z + ∑ j : Fin 4, if j.val < s.val then total (quarter C j) else 0 := by
  unfold rk
  rw [Fin.sum_univ_tiles 4 256 rfl]
  have key : ∀ j : Fin 4, (∑ x : Fin 256, if (⟨j.val * 256 + x.val, by omega⟩ : Fin 1024).val < 256 * s.val + z.val ∧ 0 < C ⟨j.val * 256 + x.val, by omega⟩ then 1 else 0)
      = (if j = s then below (quarter C s) z else 0) + if j.val < s.val then total (quarter C j) else 0 := by
    intro j
    have ej : ∀ x : Fin 256, C ⟨j.val * 256 + x.val, by omega⟩ = quarter C j x := fun x => by
      unfold quarter; congr 2; omega
    simp only [ej]
    rcases lt_trichotomy j.val s.val with h | h | h
    · rw [if_neg (by rintro rfl; omega), if_pos h, Nat.zero_add]
      unfold total
      refine Finset.sum_congr rfl fun x _ => ?_
      have : j.val * 256 + x.val < 256 * s.val + z.val := by omega
      simp only [this, true_and]
    · have h' : j = s := Fin.ext h
      subst h'
      rw [if_pos rfl, if_neg (lt_irrefl _), Nat.add_zero]
      unfold below
      refine Finset.sum_congr rfl fun x _ => ?_
      have : (j.val * 256 + x.val < 256 * j.val + z.val) = (x.val < z.val) := by apply propext; omega
      simp only [this]
    · rw [if_neg (by rintro rfl; omega), if_neg (by omega)]
      refine Finset.sum_eq_zero fun x _ => ?_
      rw [if_neg]; rintro ⟨h1, _⟩
      have h2 : j.val * 256 + x.val < 256 * s.val + z.val := h1
      omega
  refine (Finset.sum_congr rfl fun j _ => key j).trans ?_
  rw [Finset.sum_add_distrib, Finset.sum_ite_eq' Finset.univ s, if_pos (Finset.mem_univ _)]

theorem cmbW_at (CM : FVec Ideal S1x1024x128 .f32) (s : Fin 4) (z : Fin 256) (l : Fin 128) :
    cmbW CM s (ix3 0 z l) = quarter (fun t => CM (ix3 0 t l)) s z := by
  unfold quarter
  match s with
  | 0 => exact window_mid CM 0 _ (by omega) z l
  | 1 => exact window_mid CM 256 _ (by omega) z l
  | 2 => exact window_mid CM 512 _ (by omega) z l
  | 3 => exact window_mid CM 768 _ (by omega) z l

theorem cmbW_col (CM : FVec Ideal S1x1024x128 .f32) (s : Fin 4) (l : Fin 128) :
    (fun z => cmbW CM s (ix3 0 z l)) = quarter (fun t => CM (ix3 0 t l)) s := funext fun z => cmbW_at CM s z l

/-- A token's rank for an expert: the number of selected tokens before it, or minus one. -/
def rankOf (C : Fin 1024 → EReal) (t : Fin 1024) : EReal := if 0 < C t then ((rk C t : ℕ) : EReal) else negOne

theorem rankOf_split (C : Fin 1024 → EReal) (s : Fin 4) (z : Fin 256) :
    rankOf C ⟨256 * s.val + z.val, by omega⟩ = if 0 < quarter C s z then ((below (quarter C s) z + ∑ j : Fin 4, if j.val < s.val then total (quarter C j) else 0 : ℕ) : EReal) else negOne := by
  unfold rankOf; rw [rk_split C s z]; rfl

/-- How many are selected in the quarters before the `s`-th. -/
def prev (C : Fin 1024 → EReal) : Fin 4 → ℕ
  | 0 => 0
  | 1 => total (quarter C 0)
  | 2 => total (quarter C 0) + total (quarter C 1)
  | 3 => total (quarter C 0) + total (quarter C 1) + total (quarter C 2)

theorem prev_eq (C : Fin 1024 → EReal) (s : Fin 4) : (∑ j : Fin 4, if j.val < s.val then total (quarter C j) else 0) = prev C s := by
  rw [Fin.sum_univ_four]
  match s with
  | 0 => unfold prev; generalize total (quarter C 0) = a; generalize total (quarter C 1) = b; generalize total (quarter C 2) = c; generalize total (quarter C 3) = d; simp
  | 1 => unfold prev; generalize total (quarter C 0) = a; generalize total (quarter C 1) = b; generalize total (quarter C 2) = c; generalize total (quarter C 3) = d; simp
  | 2 => unfold prev; generalize total (quarter C 0) = a; generalize total (quarter C 1) = b; generalize total (quarter C 2) = c; generalize total (quarter C 3) = d; simp
  | 3 => unfold prev; generalize total (quarter C 0) = a; generalize total (quarter C 1) = b; generalize total (quarter C 2) = c; generalize total (quarter C 3) = d; simp

theorem rankOf_at (C : Fin 1024 → EReal) (s : Fin 4) (t : Fin 1024) (n : ℕ) (hn : n = 256 * s.val) (h : n ≤ t.val ∧ t.val < n + 256) :
    rankOf C t = if 0 < quarter C s ⟨t.val - n, by omega⟩
      then ((below (quarter C s) ⟨t.val - n, by omega⟩ + prev C s : ℕ) : EReal) else negOne := by
  subst hn
  rw [← prev_eq, ← rankOf_split C s ⟨t.val - 256 * s.val, by omega⟩]
  congr 1
  exact Fin.ext (by show t.val = 256 * s.val + (t.val - 256 * s.val); omega)

theorem rankCols_at (CM : FVec Ideal S1x1024x128 .f32) (K : FVec Ideal S1024x128 .f32) (t : Fin 1024) (l : Fin 128) :
    rankCols CM K (ix2 t l) = rankOf (fun t => CM (ix3 0 t l)) t := by
  have e0 := fun (z : Fin 256) => ranks0 (cmbW CM 0) z l
  have e1 := fun (z : Fin 256) => ranks1 (cmbW CM 0) (cmbW CM 1) z l
  have e2 := fun (z : Fin 256) => ranks2 (cmbW CM 0) (cmbW CM 1) (cmbW CM 2) z l
  have e3 := fun (z : Fin 256) => ranks3 (cmbW CM 0) (cmbW CM 1) (cmbW CM 2) (cmbW CM 3) z l
  simp only [cmbW_col, cmbW_at] at e0 e1 e2 e3
  unfold rankCols
  rw [put_rows _ _ 768 rfl]
  by_cases h3 : 768 ≤ t.val ∧ t.val < 768 + 256
  · rw [dif_pos h3, e3]
    rw [rankOf_at _ 3 t 768 rfl h3]
    unfold prev; rfl
  rw [dif_neg h3, put_rows _ _ 512 rfl]
  by_cases h2 : 512 ≤ t.val ∧ t.val < 512 + 256
  · rw [dif_pos h2, e2]
    rw [rankOf_at _ 2 t 512 rfl h2]
    unfold prev; rfl
  rw [dif_neg h2, put_rows _ _ 256 rfl]
  by_cases h1 : 256 ≤ t.val ∧ t.val < 256 + 256
  · rw [dif_pos h1, e1]
    rw [rankOf_at _ 1 t 256 rfl h1]
    unfold prev; rfl
  rw [dif_neg h1, put_rows _ _ 0 rfl]
  have h0 : 0 ≤ t.val ∧ t.val < 0 + 256 := by omega
  rw [dif_pos h0, e0]
  rw [rankOf_at _ 0 t 0 rfl h0]
  unfold prev; rw [Nat.add_zero]

theorem rk_lt (C : Fin 1024 → EReal) {a b : Fin 1024} (hab : a.val < b.val) (ha : 0 < C a) : rk C a < rk C b := by
  unfold rk
  refine Finset.sum_lt_sum (fun x _ => ?_) ⟨a, Finset.mem_univ _, ?_⟩
  · by_cases h : x.val < a.val ∧ 0 < C x
    · rw [if_pos h, if_pos ⟨by omega, h.2⟩]
    · rw [if_neg h]; exact Nat.zero_le _
  · rw [if_neg (fun h => lt_irrefl _ h.1), if_pos ⟨hab, ha⟩]; exact Nat.one_pos

theorem rk_lt_cnt (C : Fin 1024 → EReal) {a : Fin 1024} (ha : 0 < C a) : rk C a < cnt C := by
  unfold rk cnt
  refine Finset.sum_lt_sum (fun x _ => ?_) ⟨a, Finset.mem_univ _, ?_⟩
  · by_cases h : x.val < a.val ∧ 0 < C x
    · rw [if_pos h, if_pos h.2]
    · rw [if_neg h]; exact Nat.zero_le _
  · rw [if_neg (fun h => lt_irrefl _ h.1), if_pos ha]; exact Nat.one_pos

/-- A selected token's rank is its own. -/
theorem rankOf_iff (C : Fin 1024 → EReal) {a : Fin 1024} (ha : 0 < C a) (x : Fin 1024) :
    rankOf C x = ((rk C a : ℕ) : EReal) ↔ x = a := by
  constructor
  · intro h
    unfold rankOf at h
    by_cases hx : 0 < C x
    · rw [if_pos hx] at h
      have h' : rk C x = rk C a := by exact_mod_cast h
      rcases lt_trichotomy x.val a.val with h1 | h1 | h1
      · have := rk_lt C h1 hx; omega
      · exact Fin.ext h1
      · have := rk_lt C h1 ha; omega
    · rw [if_neg hx] at h; exact absurd h (negOne_ne _)
  · rintro rfl; unfold rankOf; rw [if_pos ha]

/-- The row picked at a selected token's rank is that token's. -/
theorem pick_self (C : Fin 1024 → EReal) {a : Fin 1024} (ha : 0 < C a) (H : FVec Ideal S1x1024x1024 .bf16) (d : Fin 1024) :
    pick (rankOf C) H (rk C a) d = H (ix3 0 a d) := by
  unfold pick ind
  rw [Finset.sum_eq_single a]
  · rw [if_pos ((rankOf_iff C ha a).2 rfl), one_mul]
  · intro x _ hx
    rw [if_neg (fun h => hx ((rankOf_iff C ha x).1 h)), zero_mul]
  · intro h; exact absurd (Finset.mem_univ _) h

end Cert.KernelIdeal.Hand
-- ==== Proof.Blocks.lean ====
/- The blocks each grid point reads, and the count it is given, over the extended reals. -/
module

public import proofs.«01_k».proof.Proof.Frames
public import proofs.«01_k».proof.Proof.RankVal
public import Idealize.ShloMosaic.Lib.Pipeline.ValueKit
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

theorem pt_at : ∀ t : Fin grid0.N, (grid0.coords t 0).val = t.val / 256 ∧ (grid0.coords t 1).val = t.val / 32 % 8 ∧ (grid0.coords t 2).val = t.val / 4 % 8 ∧ (grid0.coords t 3).val = t.val % 4 :=
  (by decide +kernel : ∀ t : Fin grid0.N, _)

theorem tr_at : ∀ t : Fin grid0.N, cc0_transform_0 (grid0.coords t) = ![t.val / 256, t.val / 32 % 8, 0] ∧ cc0_transform_1 (grid0.coords t) = ![t.val / 256, t.val / 32 % 8, 0]
    ∧ cc0_transform_2 (grid0.coords t) = ![t.val / 256, t.val / 32 % 8, 0] ∧ cc0_transform_3 (grid0.coords t) = ![t.val / 256, 0, 0]
    ∧ cc0_transform_4 (grid0.coords t) = ![t.val / 4 % 8, 0, t.val % 4] ∧ cc0_transform_5 (grid0.coords t) = ![t.val / 4 % 8, 0, 4 + t.val % 4]
    ∧ cc0_transform_6 (grid0.coords t) = ![t.val / 4 % 8, t.val % 4, 0] ∧ cc0_transform_7 (grid0.coords t) = ![0, 0]
    ∧ cc0_transform_8 (grid0.coords t) = ![t.val / 256, t.val / 32 % 8, 0] :=
  (by decide +kernel : ∀ t : Fin grid0.N, _)

theorem lt_at (t : Fin grid0.N) : t.val < 1024 := t.isLt

/-- A window's index at a point. -/
theorem ix_at (w : Fin 9) (t : Fin grid0.N) : ((cfgOf m).win w).index t = ix0 (F := Ideal) (adm m 0).1 w (grid0.coords t) := rfl

theorem blk0_raw (c : Dev nD) (t : Fin grid0.N) (r : Fin 1024) (d : Fin 1024) :
    blk m c 0 t (ix3 0 r d) = V m c main_arg0 (ix3 ⟨t.val / 256, by have := lt_at t; omega⟩ ⟨1024 * (t.val / 32 % 8) + r.val, by have := lt_at t; omega⟩ d) := by
  have h := ix_at m 0 t
  have h1 := (tr_at t).1
  have hN := lt_at t
  unfold blk
  show V m c main_arg0 _ = V m c main_arg0 _
  congr 1
  funext a
  refine Fin.ext ?_
  blk_simp [h, h1]
  match a with
  | ⟨0, _⟩ => show t.val / 256 * 1 + 0 = t.val / 256; omega
  | ⟨1, _⟩ => show t.val / 32 % 8 * 1024 + r.val = 1024 * (t.val / 32 % 8) + r.val; omega
  | ⟨2, _⟩ => show 0 * 1024 + d.val = d.val; omega

theorem blk1_raw (c : Dev nD) (t : Fin grid0.N) (r : Fin 1024) (d : Fin 1024) :
    blk m c 1 t (ix3 0 r d) = V m c main_arg1 (ix3 ⟨t.val / 256, by have := lt_at t; omega⟩ ⟨1024 * (t.val / 32 % 8) + r.val, by have := lt_at t; omega⟩ d) := by
  have h := ix_at m 1 t
  have h1 := (tr_at t).2.1
  have hN := lt_at t
  unfold blk
  show V m c main_arg1 _ = V m c main_arg1 _
  congr 1
  funext a
  refine Fin.ext ?_
  blk_simp [h, h1]
  match a with
  | ⟨0, _⟩ => show t.val / 256 * 1 + 0 = t.val / 256; omega
  | ⟨1, _⟩ => show t.val / 32 % 8 * 1024 + r.val = 1024 * (t.val / 32 % 8) + r.val; omega
  | ⟨2, _⟩ => show 0 * 1024 + d.val = d.val; omega

theorem blk2_raw (c : Dev nD) (t : Fin grid0.N) (r : Fin 1024) (d : Fin 128) :
    blk m c 2 t (ix3 0 r d) = V m c main_arg2 (ix3 ⟨t.val / 256, by have := lt_at t; omega⟩ ⟨1024 * (t.val / 32 % 8) + r.val, by have := lt_at t; omega⟩ d) := by
  have h := ix_at m 2 t
  have h1 := (tr_at t).2.2.1
  have hN := lt_at t
  unfold blk
  show V m c main_arg2 _ = V m c main_arg2 _
  congr 1
  funext a
  refine Fin.ext ?_
  blk_simp [h, h1]
  match a with
  | ⟨0, _⟩ => show t.val / 256 * 1 + 0 = t.val / 256; omega
  | ⟨1, _⟩ => show t.val / 32 % 8 * 1024 + r.val = 1024 * (t.val / 32 % 8) + r.val; omega
  | ⟨2, _⟩ => show 0 * 128 + d.val = d.val; omega

theorem blk3_raw (c : Dev nD) (t : Fin grid0.N) (r : Fin 8) (d : Fin 1024) :
    blk m c 3 t (ix3 0 r d) = V m c main_arg3 (ix3 ⟨t.val / 256, by have := lt_at t; omega⟩ r d) := by
  have h := ix_at m 3 t
  have h1 := (tr_at t).2.2.2.1
  have hN := lt_at t
  unfold blk
  show V m c main_arg3 _ = V m c main_arg3 _
  congr 1
  funext a
  refine Fin.ext ?_
  blk_simp [h, h1]
  match a with
  | ⟨0, _⟩ => show t.val / 256 * 1 + 0 = t.val / 256; omega
  | ⟨1, _⟩ => show 0 * 8 + r.val = r.val; omega
  | ⟨2, _⟩ => show 0 * 1024 + d.val = d.val; omega

theorem blk4_raw (c : Dev nD) (t : Fin grid0.N) (k : Fin 1024) (f : Fin 896) :
    blk m c 4 t (ix3 0 k f) = V m c main_v1 (ix3 ⟨t.val / 4 % 8, by omega⟩ k ⟨896 * (t.val % 4) + f.val, by omega⟩) := by
  have h := ix_at m 4 t
  have h1 := (tr_at t).2.2.2.2.1
  have hN := lt_at t
  unfold blk
  show V m c main_v1 _ = V m c main_v1 _
  congr 1
  funext a
  refine Fin.ext ?_
  blk_simp [h, h1]
  match a with
  | ⟨0, _⟩ => show t.val / 4 % 8 * 1 + 0 = t.val / 4 % 8; omega
  | ⟨1, _⟩ => show 0 * 1024 + k.val = k.val; omega
  | ⟨2, _⟩ => show t.val % 4 * 896 + f.val = 896 * (t.val % 4) + f.val; omega

theorem blk5_raw (c : Dev nD) (t : Fin grid0.N) (k : Fin 1024) (f : Fin 896) :
    blk m c 5 t (ix3 0 k f) = V m c main_v1 (ix3 ⟨t.val / 4 % 8, by omega⟩ k ⟨3584 + (896 * (t.val % 4) + f.val), by omega⟩) := by
  have h := ix_at m 5 t
  have h1 := (tr_at t).2.2.2.2.2.1
  have hN := lt_at t
  unfold blk
  show V m c main_v1 _ = V m c main_v1 _
  congr 1
  funext a
  refine Fin.ext ?_
  blk_simp [h, h1]
  match a with
  | ⟨0, _⟩ => show t.val / 4 % 8 * 1 + 0 = t.val / 4 % 8; omega
  | ⟨1, _⟩ => show 0 * 1024 + k.val = k.val; omega
  | ⟨2, _⟩ => show (4 + t.val % 4) * 896 + f.val = 3584 + (896 * (t.val % 4) + f.val); omega

theorem blk6_raw (c : Dev nD) (t : Fin grid0.N) (f : Fin 896) (d : Fin 1024) :
    blk m c 6 t (ix3 0 f d) = V m c main_v3 (ix3 ⟨t.val / 4 % 8, by omega⟩ ⟨896 * (t.val % 4) + f.val, by omega⟩ d) := by
  have h := ix_at m 6 t
  have h1 := (tr_at t).2.2.2.2.2.2.1
  have hN := lt_at t
  unfold blk
  show V m c main_v3 _ = V m c main_v3 _
  congr 1
  funext a
  refine Fin.ext ?_
  blk_simp [h, h1]
  match a with
  | ⟨0, _⟩ => show t.val / 4 % 8 * 1 + 0 = t.val / 4 % 8; omega
  | ⟨1, _⟩ => show t.val % 4 * 896 + f.val = 896 * (t.val % 4) + f.val; omega
  | ⟨2, _⟩ => show 0 * 1024 + d.val = d.val; omega

theorem blk7_raw (c : Dev nD) (t : Fin grid0.N) (d : Fin 1024) :
    blk m c 7 t (ix2 0 d) = V m c main_v11 (ix2 0 d) := by
  have h := ix_at m 7 t
  have h1 := (tr_at t).2.2.2.2.2.2.2.1
  have hN := lt_at t
  unfold blk
  show V m c main_v11 _ = V m c main_v11 _
  congr 1
  funext a
  refine Fin.ext ?_
  blk_simp [h, h1]
  match a with
  | ⟨0, _⟩ => show 0 * 1 + 0 = 0; omega
  | ⟨1, _⟩ => show 0 * 1024 + d.val = d.val; omega

end Cert.KernelIdeal.Hand
-- ==== Proof.Args.lean ====
/- What the lines before the call leave in the windows' arrays. -/
module

public import proofs.«01_k».proof.Proof.Blocks
public import Idealize.ShloMosaic.Lib.Pipeline.ValueKit
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

theorem gu_cast (X : FVec Ideal S1x8x1024x7168 .f32) (e : Fin 8) (k : Fin 1024) (f : Fin 7168) :
    shapeCast S8x1024x7168 X shapeCasts_S1x8x1024x7168_S8x1024x7168 (ix3 e k f) = X (ix4 0 e k f) := by
  pointwise

theorem dn_cast (X : FVec Ideal S1x8x3584x1024 .f32) (e : Fin 8) (f : Fin 3584) (d : Fin 1024) :
    shapeCast S8x3584x1024 X shapeCasts_S1x8x3584x1024_S8x3584x1024 (ix3 e f d) = X (ix4 0 e f d) := by
  pointwise

theorem v1_at (c : Dev nD) (e : Fin 8) (k : Fin 1024) (f : Fin 7168) : (V m c main_v1 (ix3 e k f) : EReal) = m ((c : Thread nD τ).loc main_arg4) (ix4 0 e k f) := by
  have : V m c main_v1 = (truncf .bf16 (shapeCast S8x1024x7168 (m ((c : Thread nD τ).loc main_arg4) : FVec Ideal S1x8x1024x7168 .f32) shapeCasts_S1x8x1024x7168_S8x1024x7168 : FVec Ideal S8x1024x7168 .f32) bitsLt_bf16_f32 : FVec Ideal S8x1024x7168 .bf16) := by
    unfold V
    after_reads_simp
    rfl
  rw [this]
  exact gu_cast _ e k f

theorem v3_at (c : Dev nD) (e : Fin 8) (f : Fin 3584) (d : Fin 1024) : (V m c main_v3 (ix3 e f d) : EReal) = m ((c : Thread nD τ).loc main_arg5) (ix4 0 e f d) := by
  have : V m c main_v3 = (truncf .bf16 (shapeCast S8x3584x1024 (m ((c : Thread nD τ).loc main_arg5) : FVec Ideal S1x8x3584x1024 .f32) shapeCasts_S1x8x3584x1024_S8x3584x1024 : FVec Ideal S8x3584x1024 .f32) bitsLt_bf16_f32 : FVec Ideal S8x3584x1024 .bf16) := by
    unfold V
    after_reads_simp
    rfl
  rw [this]
  exact dn_cast _ e f d

theorem v11_at (c : Dev nD) (d : Fin 1024) : (V m c main_v11 (ix2 0 d) : EReal) = m ((c : Thread nD τ).loc main_arg6) (ix1 d) := by
  have : V m c main_v11 = shapeCast S1x1024 (m ((c : Thread nD τ).loc main_arg6) : FVec Ideal S1024 .f32) shapeCasts_S1024_S1x1024 := by
    unfold V
    after_reads_simp
    rfl
  rw [this]
  pointwise

end Cert.KernelIdeal.Hand
-- ==== Proof.Words3.lean ====
module

public import proofs.«01_k».proof.Proof.Step
public import proofs.«01_k».proof.Proof.Words2
public import Idealize.ShloMosaic.PureOps.Ideal

@[expose] public section

set_option maxRecDepth 16384
set_option synthInstance.maxSize 1000000
set_option synthInstance.maxHeartbeats 0
set_option maxHeartbeats 4000000

noncomputable section

namespace Cert.KernelIdeal.Hand

open Idealize.ShloMosaic Idealize.ShloMosaic.TcCoe
open Cert.KernelIdeal Cert.KernelIdeal.Gen

/-! The words a count makes, decided for every count from 0 to 1024. -/

/-- Whether a count takes one pass of 320 rows. -/
def one320 (n : ℕ) : Bool := (n + 63) / 64 == 5

theorem tests_at : ∀ n : Fin 1025,
    ((k0_cond3 (BitVec.ofNat 32 n.val) = 1#1 ↔ restOf n.val = 1) ∧ (k0_cond4 (BitVec.ofNat 32 n.val) = 1#1 ↔ restOf n.val = 2) ∧ (k0_cond5 (BitVec.ofNat 32 n.val) = 1#1 ↔ restOf n.val = 3))
    ∧ (Scalar.cmpi .ne (Scalar.extui (single (BitVec.ofNat 32 n.val)) : BitVec 32) 0#32 = 1#1 ↔ one320 n.val = true)
    ∧ whole (BitVec.ofNat 32 n.val) = BitVec.ofNat 32 (ngOf n.val) := by decide +kernel

theorem tests_at2 : ∀ n : Fin 1025,
    ((k0_cond11 (BitVec.ofNat 32 n.val) = 1#1 ↔ restOf n.val = 1) ∧ (k0_cond14 (BitVec.ofNat 32 n.val) = 1#1 ↔ restOf n.val = 2) ∧ (k0_cond17 (BitVec.ofNat 32 n.val) = 1#1 ↔ restOf n.val = 3))
    ∧ ((k0_cond24 (BitVec.ofNat 32 n.val) = 1#1 ↔ restOf n.val = 1) ∧ (k0_cond25 (BitVec.ofNat 32 n.val) = 1#1 ↔ restOf n.val = 2) ∧ (k0_cond26 (BitVec.ofNat 32 n.val) = 1#1 ↔ restOf n.val = 3)) := by decide +kernel

theorem offs_at : ∀ n : Fin 1025,
    (k0_off5 (BitVec.ofNat 32 n.val) 0 = 256 * ngOf n.val ∧ k0_off6 (BitVec.ofNat 32 n.val) 0 = 256 * ngOf n.val ∧ k0_off7 (BitVec.ofNat 32 n.val) 0 = 256 * ngOf n.val)
    ∧ (k0_off14 (BitVec.ofNat 32 n.val) 0 = 256 * ngOf n.val ∧ k0_off15 (BitVec.ofNat 32 n.val) 0 = 256 * ngOf n.val ∧ k0_off16 (BitVec.ofNat 32 n.val) 0 = 256 * ngOf n.val)
    ∧ (k0_off17 (BitVec.ofNat 32 n.val) 0 = 256 * ngOf n.val ∧ k0_off18 (BitVec.ofNat 32 n.val) 0 = 256 * ngOf n.val ∧ k0_off19 (BitVec.ofNat 32 n.val) 0 = 256 * ngOf n.val) := by decide +kernel

theorem offs_at2 : ∀ n : Fin 1025,
    (k0_off20 (BitVec.ofNat 32 n.val) 0 = 256 * ngOf n.val ∧ k0_off21 (BitVec.ofNat 32 n.val) 0 = 256 * ngOf n.val ∧ k0_off22 (BitVec.ofNat 32 n.val) 0 = 256 * ngOf n.val)
    ∧ (k0_off25 (BitVec.ofNat 32 n.val) 0 = 256 * ngOf n.val ∧ k0_off26 (BitVec.ofNat 32 n.val) 0 = 256 * ngOf n.val ∧ k0_off27 (BitVec.ofNat 32 n.val) 0 = 256 * ngOf n.val) := by decide +kernel

theorem shift_at : ∀ k : Fin 8, ((Scalar.indexCast (Scalar.muli (Scf.iv 0#32 1#32 k.val) 256#32) : BitVec 32)).toNat = 256 * k.val := by decide +kernel

theorem off3_at (v : BitVec 32) (k : Fin (k0_t1_loop v).trips) (hk : k.val < 8) : k0_off3 v k = ![256 * k.val, 0] := by
  have := shift_at ⟨k.val, hk⟩
  show ![_, 0] = _
  exact congrArg (fun a => ![a, 0]) this

theorem off8_at (v : BitVec 32) (k : Fin (k0_t3_loop v).trips) (hk : k.val < 8) : k0_off8 v k = ![256 * k.val, 0] :=
  congrArg (fun a => ![a, 0]) (shift_at ⟨k.val, hk⟩)

theorem off9_at (v : BitVec 32) (k : Fin (k0_t3_loop v).trips) (hk : k.val < 8) : k0_off9 v k = ![256 * k.val, 0] :=
  congrArg (fun a => ![a, 0]) (shift_at ⟨k.val, hk⟩)

theorem off10_at (v : BitVec 32) (k : Fin (k0_t3_loop v).trips) (hk : k.val < 8) : k0_off10 v k = ![256 * k.val, 0] :=
  congrArg (fun a => ![a, 0]) (shift_at ⟨k.val, hk⟩)

theorem off23_at (v : BitVec 32) (k : Fin (k0_t5_loop v).trips) (hk : k.val < 8) : k0_off23 v k = ![256 * k.val, 0] :=
  congrArg (fun a => ![a, 0]) (shift_at ⟨k.val, hk⟩)

theorem off5_at (n : Fin 1025) : k0_off5 (BitVec.ofNat 32 n.val) = ![256 * ngOf n.val, 0] :=
  congrArg (fun a => ![a, 0]) (offs_at n).1.1

theorem off6_at (n : Fin 1025) : k0_off6 (BitVec.ofNat 32 n.val) = ![256 * ngOf n.val, 0] :=
  congrArg (fun a => ![a, 0]) (offs_at n).1.2.1

theorem off7_at (n : Fin 1025) : k0_off7 (BitVec.ofNat 32 n.val) = ![256 * ngOf n.val, 0] :=
  congrArg (fun a => ![a, 0]) (offs_at n).1.2.2

theorem off14_at (n : Fin 1025) : k0_off14 (BitVec.ofNat 32 n.val) = ![256 * ngOf n.val, 0] :=
  congrArg (fun a => ![a, 0]) (offs_at n).2.1.1

theorem off15_at (n : Fin 1025) : k0_off15 (BitVec.ofNat 32 n.val) = ![256 * ngOf n.val, 0] :=
  congrArg (fun a => ![a, 0]) (offs_at n).2.1.2.1

theorem off16_at (n : Fin 1025) : k0_off16 (BitVec.ofNat 32 n.val) = ![256 * ngOf n.val, 0] :=
  congrArg (fun a => ![a, 0]) (offs_at n).2.1.2.2

theorem off17_at (n : Fin 1025) : k0_off17 (BitVec.ofNat 32 n.val) = ![256 * ngOf n.val, 0] :=
  congrArg (fun a => ![a, 0]) (offs_at n).2.2.1

theorem off18_at (n : Fin 1025) : k0_off18 (BitVec.ofNat 32 n.val) = ![256 * ngOf n.val, 0] :=
  congrArg (fun a => ![a, 0]) (offs_at n).2.2.2.1

theorem off19_at (n : Fin 1025) : k0_off19 (BitVec.ofNat 32 n.val) = ![256 * ngOf n.val, 0] :=
  congrArg (fun a => ![a, 0]) (offs_at n).2.2.2.2

theorem off20_at (n : Fin 1025) : k0_off20 (BitVec.ofNat 32 n.val) = ![256 * ngOf n.val, 0] :=
  congrArg (fun a => ![a, 0]) (offs_at2 n).1.1

theorem off21_at (n : Fin 1025) : k0_off21 (BitVec.ofNat 32 n.val) = ![256 * ngOf n.val, 0] :=
  congrArg (fun a => ![a, 0]) (offs_at2 n).1.2.1

theorem off22_at (n : Fin 1025) : k0_off22 (BitVec.ofNat 32 n.val) = ![256 * ngOf n.val, 0] :=
  congrArg (fun a => ![a, 0]) (offs_at2 n).1.2.2

theorem off25_at (n : Fin 1025) : k0_off25 (BitVec.ofNat 32 n.val) = ![256 * ngOf n.val, 0] :=
  congrArg (fun a => ![a, 0]) (offs_at2 n).2.1

theorem off26_at (n : Fin 1025) : k0_off26 (BitVec.ofNat 32 n.val) = ![256 * ngOf n.val, 0] :=
  congrArg (fun a => ![a, 0]) (offs_at2 n).2.2.1

theorem off27_at (n : Fin 1025) : k0_off27 (BitVec.ofNat 32 n.val) = ![256 * ngOf n.val, 0] :=
  congrArg (fun a => ![a, 0]) (offs_at2 n).2.2.2

/-! The tests on a point's expert and tile. -/

theorem first_at : ∀ e : Fin 8, ∀ f : Fin 4, (Scalar.cmpi .ne (Scalar.extui (Scalar.andi (Scalar.cmpi .eq (BitVec.ofNat 32 e.val) 0#32) (Scalar.cmpi .eq (BitVec.ofNat 32 f.val) 0#32)) : BitVec 32) 0#32 = 1#1 ↔ e.val = 0 ∧ f.val = 0) := by decide +kernel

theorem last_at : ∀ e : Fin 8, ∀ f : Fin 4, (Scalar.cmpi .ne (Scalar.extui (Scalar.andi (Scalar.cmpi .eq (BitVec.ofNat 32 e.val) 7#32) (Scalar.cmpi .eq (BitVec.ofNat 32 f.val) 3#32)) : BitVec 32) 0#32 = 1#1 ↔ e.val = 7 ∧ f.val = 3) := by decide +kernel

theorem start_at : ∀ f : Fin 4, (Scalar.cmpi .ne (Scalar.extui (Scalar.cmpi .eq (BitVec.ofNat 32 f.val) 0#32) : BitVec 32) 0#32 = 1#1 ↔ f.val = 0) := by decide +kernel
theorem later_at : ∀ f : Fin 4, (Scalar.cmpi .ne (Scalar.extui (Scalar.cmpi .sgt (BitVec.ofNat 32 f.val) 0#32) : BitVec 32) 0#32 = 1#1 ↔ 0 < f.val) := by decide +kernel
theorem final_at : ∀ f : Fin 4, (Scalar.cmpi .ne (Scalar.extui (Scalar.cmpi .eq (BitVec.ofNat 32 f.val) 3#32) : BitVec 32) 0#32 = 1#1 ↔ f.val = 3) := by decide +kernel

section
variable (i : grid0.Coords)
theorem isFirst : first i = 1#1 ↔ (i 2).val = 0 ∧ (i 3).val = 0 := first_at (i 2) (i 3)
theorem c28 : k0_cond28 i = 1#1 ↔ (i 2).val = 7 ∧ (i 3).val = 3 := last_at (i 2) (i 3)
theorem c2 : k0_cond2 i = 1#1 ↔ (i 3).val = 0 := start_at (i 3)
theorem c7 : k0_cond7 i = 1#1 ↔ (i 3).val = 0 := start_at (i 3)
theorem c12 : k0_cond12 i = 1#1 ↔ (i 3).val = 0 := start_at (i 3)
theorem c15 : k0_cond15 i = 1#1 ↔ (i 3).val = 0 := start_at (i 3)
theorem c18 : k0_cond18 i = 1#1 ↔ (i 3).val = 0 := start_at (i 3)
theorem c8 : k0_cond8 i = 1#1 ↔ 0 < (i 3).val := later_at (i 3)
theorem c13 : k0_cond13 i = 1#1 ↔ 0 < (i 3).val := later_at (i 3)
theorem c16 : k0_cond16 i = 1#1 ↔ 0 < (i 3).val := later_at (i 3)
theorem c19 : k0_cond19 i = 1#1 ↔ 0 < (i 3).val := later_at (i 3)
theorem c23 : k0_cond23 i = 1#1 ↔ (i 3).val = 3 := final_at (i 3)
end

theorem off1_pt : ∀ b : Fin 4, ∀ j e : Fin 8, ((Scalar.indexCast (Scalar.addi (Scalar.muli (Scalar.addi (Scalar.muli (BitVec.ofNat 32 b.val) 8#32) (BitVec.ofNat 32 j.val)) 8#32) (BitVec.ofNat 32 e.val)) : BitVec 32)).toNat = 64 * b.val + 8 * j.val + e.val := by decide +kernel
theorem off1_at (i : grid0.Coords) : k0_off1 i = ![64 * (i 0).val + 8 * (i 1).val + (i 2).val] := congrArg (fun a => ![a]) (off1_pt (i 0) (i 1) (i 2))
theorem off2_pt : ∀ e : Fin 8, ((Scalar.indexCast (BitVec.ofNat 32 e.val) : BitVec 32)).toNat = e.val := by decide +kernel
theorem off2_at (i : grid0.Coords) : k0_off2 i = ![(i 2).val, 0] := congrArg (fun a => ![a, 0]) (off2_pt (i 2))

end Cert.KernelIdeal.Hand
-- ==== Proof.Count.lean ====
/- The count each grid point is given: the number of its block's tokens that its expert is given. -/
module

public import proofs.«01_k».proof.Proof.Blocks
public import proofs.«01_k».proof.Proof.Words3
public import Idealize.ShloMosaic.Lib.Pipeline.ValueKit
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

theorem bool_one (p : Prop) [Decidable p] : BitVec.ofBool (decide p) = 1#1 ↔ p := by
  by_cases h : p
  · rw [decide_eq_true h]; exact ⟨fun _ => h, fun _ => rfl⟩
  · rw [decide_eq_false h]; exact ⟨fun e => absurd e (by decide), fun e => absurd e h⟩

theorem bits_at (b : Fin 4) (j : Fin 8) (x : Fin 1024) (e : Fin 8) :
    bits m 0 (ix4 b j x e) = 1#1 ↔ (0 : EReal) < m (((0 : Dev nD) : Thread nD τ).loc main_arg2) (ix3 b ⟨1024 * j.val + x.val, by omega⟩ ⟨e.val, by omega⟩) := by
  pointwise [bits]
  rw [show (⟨j.val * 1024 + x.val, by omega⟩ : Fin 8192) = ⟨1024 * j.val + x.val, by omega⟩ from Fin.ext (by show j.val * 1024 + x.val = 1024 * j.val + x.val; omega)]
  exact bool_one _

theorem drop_at (b : Fin 4) (j : Fin 8) (x : Fin 1024) (e : Fin 8) : reducesTo_S4x8x1024x8_S4x8x8_d2.drop (ix4 b j x e) = ix3 b j e := by
  funext a
  refine Fin.ext ?_
  rw [Shape.ReducesTo.drop_apply_val]
  match a with
  | ⟨0, _⟩ => rfl
  | ⟨1, _⟩ => rfl
  | ⟨2, _⟩ => rfl

theorem drop_back (i : S4x8x1024x8.Idx) (b : Fin 4) (j e : Fin 8) (h : reducesTo_S4x8x1024x8_S4x8x8_d2.drop i = ix3 b j e) : i = ix4 b j (i 2) e := by
  have e0 := congrArg (fun k => (k 0 : Nat)) h
  have e1 := congrArg (fun k => (k 1 : Nat)) h
  have e2 := congrArg (fun k => (k 2 : Nat)) h
  have d0 : ∀ i : S4x8x1024x8.Idx, (reducesTo_S4x8x1024x8_S4x8x8_d2.drop i 0 : Nat) = i 0 := fun i => Shape.ReducesTo.drop_apply_val _ i 0
  have d1 : ∀ i : S4x8x1024x8.Idx, (reducesTo_S4x8x1024x8_S4x8x8_d2.drop i 1 : Nat) = i 1 := fun i => Shape.ReducesTo.drop_apply_val _ i 1
  have d2 : ∀ i : S4x8x1024x8.Idx, (reducesTo_S4x8x1024x8_S4x8x8_d2.drop i 2 : Nat) = i 3 := fun i => Shape.ReducesTo.drop_apply_val _ i 2
  dsimp only at e0 e1 e2
  rw [d0] at e0
  rw [d1] at e1
  rw [d2] at e2
  funext k
  match k with
  | ⟨0, _⟩ => exact Fin.ext e0
  | ⟨1, _⟩ => exact Fin.ext e1
  | ⟨2, _⟩ => rfl
  | ⟨3, _⟩ => exact Fin.ext e2

/-- The number of selected tokens of a block. -/
theorem card_cnt (b : Fin 4) (j e : Fin 8) (C : Fin 1024 → EReal) (hC : ∀ x, bits m 0 (ix4 b j x e) = 1#1 ↔ 0 < C x) :
    ((Finset.univ.filter fun i => reducesTo_S4x8x1024x8_S4x8x8_d2.drop i = ix3 b j e).filter fun i => bits m 0 i = 1#1).card = cnt C := by
  unfold cnt
  rw [← Finset.card_filter]
  refine Finset.card_bij' (fun i _ => i 2) (fun x _ => ix4 b j x e) ?_ ?_ ?_ ?_
  · intro i hi
    have h1 := drop_back i b j e (Finset.mem_filter.1 (Finset.mem_filter.1 hi).1).2
    have h2 := (Finset.mem_filter.1 hi).2
    refine Finset.mem_filter.2 ⟨Finset.mem_univ _, (hC _).1 ?_⟩
    exact (congrArg (fun i => bits m 0 i = 1#1) h1).mp h2
  · intro x hx
    exact Finset.mem_filter.2 ⟨Finset.mem_filter.2 ⟨Finset.mem_univ _, drop_at b j x e⟩, (hC x).2 (Finset.mem_filter.1 hx).2⟩
  · intro i hi
    exact (drop_back i b j e (Finset.mem_filter.1 (Finset.mem_filter.1 hi).1).2).symm
  · intro x hx; rfl

theorem table_at (b : Fin 4) (j e : Fin 8) (y : S256.Idx) (hy : (y 0).val = 64 * b.val + 8 * j.val + e.val) (X : IVec S4x8x8 32) :
    shapeCast S256 X shapeCasts_S4x8x8_S256 y = X (ix3 b j e) := by
  have : y = ix1 ⟨64 * b.val + 8 * j.val + e.val, by omega⟩ := by
    funext a
    match a with
    | ⟨0, _⟩ => exact Fin.ext hy
  rw [this]
  pointwise

theorem word_at (i : grid0.Coords) (b : Fin 4) (j e : Fin 8) (h0 : (i 0).val = b.val) (h1 : (i 1).val = j.val) (h2 : (i 2).val = e.val)
    (C : Fin 1024 → EReal) (hC : ∀ x, bits m 0 (ix4 b j x e) = 1#1 ↔ 0 < C x) : wordAt (T m) i = BitVec.ofNat 32 (cnt C) := by
  rw [← card_cnt m b j e C hC, ← count_eq, T_eq]
  exact table_at b j e _ (by
    show k0_off1 i 0 + 1 * 0 = _
    rw [off1_at, ← h0, ← h1, ← h2]
    show 64 * (i 0).val + 8 * (i 1).val + (i 2).val + 1 * 0 = _
    rfl) _

end Cert.KernelIdeal.Hand
-- ==== Proof.RowsA.lean ====
module

public import proofs.«01_k».proof.Proof.Pays
public import proofs.«01_k».proof.Proof.Wins
public import proofs.«01_k».proof.Proof.Words3
public import Idealize.ShloMosaic.Lib.Pointwise
public import Idealize.ShloMosaic.Lib.VecWindow
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! The rows a point fills: of the gathered tokens, of an expert's rows, and what it adds to each token. -/

/-- The rows that a count of `n` tokens makes the kernel work on. -/
def hiOf (n : ℕ) : ℕ := if (n + 63) / 64 = 5 then 320 else 256 * ngOf n + 64 * restOf n

theorem le_hi (n : ℕ) : n ≤ hiOf n := by
  unfold hiOf ngOf restOf; split_ifs <;> omega

theorem ng_le (n : Fin 1025) : ngOf n.val ≤ 4 := by
  have := n.isLt
  unfold ngOf; split_ifs <;> omega

theorem hi_le (n : Fin 1025) : hiOf n.val ≤ 1024 := by
  have := n.isLt
  unfold hiOf ngOf restOf; split_ifs <;> omega

theorem shapes (n : Fin 1025) :
    (one320 n.val = true ∧ ngOf n.val = 0 ∧ restOf n.val = 0 ∧ hiOf n.val = 320)
    ∨ (one320 n.val = false ∧ restOf n.val = 0 ∧ hiOf n.val = 256 * ngOf n.val)
    ∨ (one320 n.val = false ∧ restOf n.val = 1 ∧ hiOf n.val = 256 * ngOf n.val + 64)
    ∨ (one320 n.val = false ∧ restOf n.val = 2 ∧ hiOf n.val = 256 * ngOf n.val + 128)
    ∨ (one320 n.val = false ∧ restOf n.val = 3 ∧ hiOf n.val = 256 * ngOf n.val + 192) := by
  by_cases h : (n.val + 63) / 64 = 5
  · left
    exact ⟨by unfold one320; rw [h]; rfl, by unfold ngOf; rw [if_pos h], by unfold restOf; rw [if_pos h], by unfold hiOf; rw [if_pos h]⟩
  · right
    have h1 : one320 n.val = false := by unfold one320; exact beq_eq_false_iff_ne.2 h
    have h2 : hiOf n.val = 256 * ngOf n.val + 64 * restOf n.val := by unfold hiOf; rw [if_neg h]
    have h3 : restOf n.val < 4 := by unfold restOf; rw [if_neg h]; omega
    rcases (by omega : restOf n.val = 0 ∨ restOf n.val = 1 ∨ restOf n.val = 2 ∨ restOf n.val = 3) with h4 | h4 | h4 | h4
    · left; exact ⟨h1, h4, by omega⟩
    · right; left; exact ⟨h1, h4, by omega⟩
    · right; right; left; exact ⟨h1, h4, by omega⟩
    · right; right; right; exact ⟨h1, h4, by omega⟩

/-! ### The gathered rows -/

/-- The rows below `b` hold `g`. -/
def Filled (g : ℕ → Fin 1024 → EReal) (b : ℕ) (X : FVec Ideal S1024x1024 .bf16) : Prop := ∀ (r d : Fin 1024), r.val < b → X (ix2 r d) = g r.val d

theorem filled_put {S : ℕ} (g : ℕ → Fin 1024 → EReal) (b : ℕ) (X : FVec Ideal S1024x1024 .bf16) (off : Fin 2 → ℕ) (ho : off = ![b, 0])
    (w : FVec Ideal ⟨2, ![S, 1024]⟩ .bf16) (hw : ∀ (z : Fin S) (d : Fin 1024), w (ix2 z d) = g (b + z.val) d) (hX : Filled g b X) :
    Filled g (b + S) (VecWindow.put X off (⟨2, ![S, 1024]⟩ : Shape).size w) := by
  intro r d hr
  rw [put_rows X off b ho w r d]
  by_cases h : b ≤ r.val ∧ r.val < b + S
  · rw [dif_pos h, hw]
    exact congrArg (fun a => g a d) (by show b + (r.val - b) = r.val; omega)
  · rw [dif_neg h]; exact hX r d (by omega)

theorem gather_rows (n : Fin 1025) (row : FVec Ideal S1x1024 .f32) (H : FVec Ideal S1x1024x1024 .bf16) (X : FVec Ideal S1024x1024 .bf16) :
    Filled (pick (fun t => row (ix2 0 t)) H) (hiOf n.val) (gatherRow (F := Ideal) (BitVec.ofNat 32 n.val) row H X) := by
  have T := tests_at n
  have hng := ng_le n
  have base : Filled (pick (fun t => row (ix2 0 t)) H) (256 * ngOf n.val)
      (trips (k0_t1_loop (BitVec.ofNat 32 n.val)).trips (gatherTrip (F := Ideal) (BitVec.ofNat 32 n.val) row H) (k0_t1_loop (BitVec.ofNat 32 n.val)).trips X) := by
    have := trips_ind (gatherTrip (F := Ideal) (BitVec.ofNat 32 n.val) row H) X (fun k Y => Filled (pick (fun t => row (ix2 0 t)) H) (256 * k) Y)
      (fun r d h => absurd h (Nat.not_lt_zero _))
      (fun k Y hY => by
        have hk : k.val < 8 := by have a1 := k.isLt; have a2 := (trips_ng n).1; omega
        exact filled_put _ (256 * k.val) Y _ (off3_at _ k hk) _ (fun z d => pay35_at _ row H k hk z d) hY)
      (k0_t1_loop (BitVec.ofNat 32 n.val)).trips le_rfl
    rw [← (trips_ng n).1]; exact this
  unfold gatherRow gather320 gather192 gather128 gather64
  rw [T.2.2]
  rcases shapes n with ⟨h1, h2, h3, h4⟩ | ⟨h1, h3, h4⟩ | ⟨h1, h3, h4⟩ | ⟨h1, h3, h4⟩ | ⟨h1, h3, h4⟩
  · rw [if_pos (T.2.1.2 h1), show hiOf n.val = 0 + 320 from h4]
    exact filled_put _ 0 _ _ rfl _ (fun z d => by rw [Nat.zero_add]; exact pay44_at row H z d) (fun r d h => absurd h (Nat.not_lt_zero _))
  · rw [if_neg (fun h => by rw [T.2.1.1 h] at h1; cases h1), if_neg (fun h => by have := T.1.2.2.1 h; omega), if_neg (fun h => by have := T.1.2.1.1 h; omega), if_neg (fun h => by have := T.1.1.1 h; omega), h4]
    exact base
  · rw [if_neg (fun h => by rw [T.2.1.1 h] at h1; cases h1), if_neg (fun h => by have := T.1.2.2.1 h; omega), if_neg (fun h => by have := T.1.2.1.1 h; omega), if_pos (T.1.1.2 h3), h4]
    exact filled_put _ _ _ _ (off5_at n) _ (fun z d => pay41_at row H _ (by omega) d z) base
  · rw [if_neg (fun h => by rw [T.2.1.1 h] at h1; cases h1), if_neg (fun h => by have := T.1.2.2.1 h; omega), if_pos (T.1.2.1.2 h3), if_neg (fun h => by have := T.1.1.1 h; omega), h4]
    exact filled_put _ _ _ _ (off6_at n) _ (fun z d => pay42_at row H _ (by omega) d z) base
  · rw [if_neg (fun h => by rw [T.2.1.1 h] at h1; cases h1), if_pos (T.1.2.2.2 h3), if_neg (fun h => by have := T.1.2.1.1 h; omega), if_neg (fun h => by have := T.1.1.1 h; omega), h4]
    exact filled_put _ _ _ _ (off7_at n) _ (fun z d => pay43_at row H _ (by omega) d z) base

end Cert.KernelIdeal.Hand
-- ==== Proof.RowsB.lean ====
module

public import proofs.«01_k».proof.Proof.RowsA
public import proofs.«01_k».proof.Proof.Wins
public import proofs.«01_k».proof.Proof.Words3
public import Idealize.ShloMosaic.Lib.Pointwise
public import Idealize.ShloMosaic.Lib.VecWindow
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! ### One tile of an expert -/

section Expert
variable (i : grid0.Coords) (G U : FVec Ideal S1x1024x896 .bf16) (D : FVec Ideal S1x896x1024 .bf16) (X : FVec Ideal S1024x1024 .bf16) (Y0 : FVec Ideal S1024x1024 .f32)

/-- A row after the tile: the tile's own sum at the first tile, added to what was there at a later one. -/
def grown (r d : Fin 1024) : EReal := if (i 3).val = 0 then tile (fun k => X (ix2 r k)) G U D d else Y0 (ix2 r d) + tile (fun k => X (ix2 r k)) G U D d

/-- The rows below `b` are grown, the rest as they were. -/
def Done (b : ℕ) (Y : FVec Ideal S1024x1024 .f32) : Prop :=
  (∀ r d : Fin 1024, r.val < b → Y (ix2 r d) = grown i G U D X Y0 r d) ∧ ∀ r d : Fin 1024, b ≤ r.val → Y (ix2 r d) = Y0 (ix2 r d)

theorem done_piece {S : ℕ} (c1 c2 : BitVec 1) (h1 : c1 = 1#1 ↔ (i 3).val = 0) (h2 : c2 = 1#1 ↔ 0 < (i 3).val) (b : ℕ) (hb : b + S ≤ 1024)
    (offA offB offC : Fin 2 → ℕ) (hA : offA = ![b, 0]) (hB : offB = ![b, 0]) (hC : offC = ![b, 0])
    (inbA : ∀ a, offA a + (⟨2, ![S, 1024]⟩ : Shape).size a ≤ S1024x1024.size a)
    (inbC : c2 = 1#1 → ∀ a, offC a + (⟨2, ![S, 1024]⟩ : Shape).size a ≤ S1024x1024.size a)
    (P : FVec Ideal ⟨2, ![S, 1024]⟩ .bf16 → FVec Ideal ⟨2, ![S, 1024]⟩ .f32)
    (hP : ∀ (x : FVec Ideal ⟨2, ![S, 1024]⟩ .bf16) (r : Fin S) (d : Fin 1024), P x (ix2 r d) = tile (fun k => x (ix2 r k)) G U D d)
    (Q : FVec Ideal ⟨2, ![S, 1024]⟩ .bf16 → FVec Ideal ⟨2, ![S, 1024]⟩ .f32 → FVec Ideal ⟨2, ![S, 1024]⟩ .f32)
    (hQ : ∀ (x : FVec Ideal ⟨2, ![S, 1024]⟩ .bf16) (y : FVec Ideal ⟨2, ![S, 1024]⟩ .f32) (r : Fin S) (d : Fin 1024), Q x y (ix2 r d) = y (ix2 r d) + tile (fun k => x (ix2 r k)) G U D d)
    (Y : FVec Ideal S1024x1024 .f32) (hY : Done i G U D X Y0 b Y) :
    Done i G U D X Y0 (b + S)
      (if h : c2 = 1#1 then
        VecWindow.put (if c1 = 1#1 then VecWindow.put Y offB (⟨2, ![S, 1024]⟩ : Shape).size (P (VecWindow.window X offA (⟨2, ![S, 1024]⟩ : Shape).size inbA)) else Y) offC (⟨2, ![S, 1024]⟩ : Shape).size
          (Q (VecWindow.window X offA (⟨2, ![S, 1024]⟩ : Shape).size inbA) (VecWindow.window (if c1 = 1#1 then VecWindow.put Y offB (⟨2, ![S, 1024]⟩ : Shape).size (P (VecWindow.window X offA (⟨2, ![S, 1024]⟩ : Shape).size inbA)) else Y) offC (⟨2, ![S, 1024]⟩ : Shape).size (inbC h)))
      else if c1 = 1#1 then VecWindow.put Y offB (⟨2, ![S, 1024]⟩ : Shape).size (P (VecWindow.window X offA (⟨2, ![S, 1024]⟩ : Shape).size inbA)) else Y) := by
  have hx : ∀ (z : Fin S) (k : Fin 1024), (VecWindow.window X offA (⟨2, ![S, 1024]⟩ : Shape).size inbA : FVec Ideal ⟨2, ![S, 1024]⟩ .bf16) (ix2 z k) = X (ix2 (⟨b + z.val, by omega⟩ : Fin 1024) k) :=
    fun z k => window_rows X offA b hA inbA hb z k
  by_cases hf : (i 3).val = 0
  · have n2 : ¬ c2 = 1#1 := fun h => by have := h2.1 h; omega
    rw [dif_neg n2, if_pos (h1.2 hf)]
    constructor
    · intro r d hr
      rw [put_rows Y offB b hB _ r d]
      by_cases h : b ≤ r.val ∧ r.val < b + S
      · rw [dif_pos h, hP]
        unfold grown; rw [if_pos hf]
        congr 1; funext k; rw [hx]
        congr 2; exact Fin.ext (by show b + (r.val - b) = r.val; omega)
      · rw [dif_neg h]; exact hY.1 r d (by omega)
    · intro r d hr
      rw [put_rows Y offB b hB _ r d, dif_neg (by omega)]
      exact hY.2 r d (by omega)
  · have p2 : c2 = 1#1 := h2.2 (by omega)
    have n1 : ¬ c1 = 1#1 := fun h => hf (h1.1 h)
    rw [dif_pos p2]; simp only [if_neg n1]
    constructor
    · intro r d hr
      rw [put_rows Y offC b hC _ r d]
      by_cases h : b ≤ r.val ∧ r.val < b + S
      · rw [dif_pos h, hQ, window_rows Y offC b hC (inbC p2) hb]
        unfold grown; rw [if_neg hf]
        have er : (⟨b + (⟨r.val - b, by omega⟩ : Fin S).val, by show b + (r.val - b) < 1024; omega⟩ : Fin 1024) = r := Fin.ext (by show b + (r.val - b) = r.val; omega)
        rw [er, hY.2 r d h.1]
        congr 2; funext k; rw [hx, er]
      · rw [dif_neg h]; exact hY.1 r d (by omega)
    · intro r d hr
      rw [put_rows Y offC b hC _ r d, dif_neg (by omega)]
      exact hY.2 r d (by omega)

theorem done256 (n : Fin 1025) (hw : k0_chk1 i (BitVec.ofNat 32 n.val)) :
    Done i G U D X Y0 (256 * ngOf n.val) (expert256 (F := Ideal) i (BitVec.ofNat 32 n.val) hw G U D X Y0) := by
  have hng := ng_le n
  unfold expert256
  have := trips_ind (expertTrip (F := Ideal) i (BitVec.ofNat 32 n.val) hw G U D X) Y0 (fun k Y => Done i G U D X Y0 (256 * k) Y)
    ⟨fun r d h => absurd h (Nat.not_lt_zero _), fun _ _ _ => rfl⟩
    (fun k Y hY => by
      have hk' : k.val < 4 := by have a1 := k.isLt; have a2 := (trips_ng n).2.1; omega
      have hk : k.val < 8 := by omega
      exact done_piece (S := 256) i G U D X Y0 (k0_cond7 i) (k0_cond8 i) (c7 i) (c8 i) (256 * k.val) (by omega) _ _ _ (off8_at _ k hk) (off9_at _ k hk) (off10_at _ k hk)
        (k0_off8_inb i _ hw k) (fun h => k0_off10_inb i _ hw k h)
        (fun x => k0_pay46 x G U D) (fun x r d => pay46_at G U D d x r) (fun x y => k0_pay47 x G U D y) (fun x y r d => pay47_at G U D d x y r) Y hY)
    (k0_t3_loop (BitVec.ofNat 32 n.val)).trips le_rfl
  rw [← (trips_ng n).2.1]; exact this

theorem done64 (n : Fin 1025) (hw : k0_chk1 i (BitVec.ofNat 32 n.val)) (h : k0_cond11 (BitVec.ofNat 32 n.val) = 1#1) (hb : 256 * ngOf n.val + 64 ≤ 1024)
    (Y : FVec Ideal S1024x1024 .f32) (hY : Done i G U D X Y0 (256 * ngOf n.val) Y) :
    Done i G U D X Y0 (256 * ngOf n.val + 64) (expert64 (F := Ideal) i (BitVec.ofNat 32 n.val) hw G U D X Y) := by
  unfold expert64
  rw [dif_pos h]
  exact done_piece (S := 64) i G U D X Y0 (k0_cond12 i) (k0_cond13 i) (c12 i) (c13 i) _ hb _ _ _ (off14_at n) (off15_at n) (off16_at n)
    (k0_off14_inb i _ hw h) (fun h1 => k0_off16_inb i _ hw h h1)
    (fun x => k0_pay2 x G U D) (fun x r d => pay2_at G U D d x r) (fun x y => k0_pay3 x G U D y) (fun x y r d => pay3_at G U D d x y r) Y hY

theorem skip64 (n : Fin 1025) (hw : k0_chk1 i (BitVec.ofNat 32 n.val)) (h : ¬ k0_cond11 (BitVec.ofNat 32 n.val) = 1#1) (Y : FVec Ideal S1024x1024 .f32) :
    expert64 (F := Ideal) i (BitVec.ofNat 32 n.val) hw G U D X Y = Y := dif_neg h

theorem done128 (n : Fin 1025) (hw : k0_chk1 i (BitVec.ofNat 32 n.val)) (h : k0_cond14 (BitVec.ofNat 32 n.val) = 1#1) (hb : 256 * ngOf n.val + 128 ≤ 1024)
    (Y : FVec Ideal S1024x1024 .f32) (hY : Done i G U D X Y0 (256 * ngOf n.val) Y) :
    Done i G U D X Y0 (256 * ngOf n.val + 128) (expert128 (F := Ideal) i (BitVec.ofNat 32 n.val) hw G U D X Y) := by
  unfold expert128
  rw [dif_pos h]
  exact done_piece (S := 128) i G U D X Y0 (k0_cond15 i) (k0_cond16 i) (c15 i) (c16 i) _ hb _ _ _ (off17_at n) (off18_at n) (off19_at n)
    (k0_off17_inb i _ hw h) (fun h1 => k0_off19_inb i _ hw h h1)
    (fun x => k0_pay5 x G U D) (fun x r d => pay5_at G U D d x r) (fun x y => k0_pay6 x G U D y) (fun x y r d => pay6_at G U D d x y r) Y hY

theorem skip128 (n : Fin 1025) (hw : k0_chk1 i (BitVec.ofNat 32 n.val)) (h : ¬ k0_cond14 (BitVec.ofNat 32 n.val) = 1#1) (Y : FVec Ideal S1024x1024 .f32) :
    expert128 (F := Ideal) i (BitVec.ofNat 32 n.val) hw G U D X Y = Y := dif_neg h

theorem done192 (n : Fin 1025) (hw : k0_chk1 i (BitVec.ofNat 32 n.val)) (h : k0_cond17 (BitVec.ofNat 32 n.val) = 1#1) (hb : 256 * ngOf n.val + 192 ≤ 1024)
    (Y : FVec Ideal S1024x1024 .f32) (hY : Done i G U D X Y0 (256 * ngOf n.val) Y) :
    Done i G U D X Y0 (256 * ngOf n.val + 192) (expert192 (F := Ideal) i (BitVec.ofNat 32 n.val) hw G U D X Y) := by
  unfold expert192
  rw [dif_pos h]
  exact done_piece (S := 192) i G U D X Y0 (k0_cond18 i) (k0_cond19 i) (c18 i) (c19 i) _ hb _ _ _ (off20_at n) (off21_at n) (off22_at n)
    (k0_off20_inb i _ hw h) (fun h1 => k0_off22_inb i _ hw h h1)
    (fun x => k0_pay8 x G U D) (fun x r d => pay8_at G U D d x r) (fun x y => k0_pay9 x G U D y) (fun x y r d => pay9_at G U D d x y r) Y hY

theorem skip192 (n : Fin 1025) (hw : k0_chk1 i (BitVec.ofNat 32 n.val)) (h : ¬ k0_cond17 (BitVec.ofNat 32 n.val) = 1#1) (Y : FVec Ideal S1024x1024 .f32) :
    expert192 (F := Ideal) i (BitVec.ofNat 32 n.val) hw G U D X Y = Y := dif_neg h

theorem done320 (n : Fin 1025) (h : Scalar.cmpi .ne (Scalar.extui (single (BitVec.ofNat 32 n.val)) : BitVec 32) 0#32 = 1#1)
    (Y : FVec Ideal S1024x1024 .f32) (hY : Done i G U D X Y0 0 Y) :
    Done i G U D X Y0 (0 + 320) (expert320 (F := Ideal) i (BitVec.ofNat 32 n.val) G U D X Y) := by
  unfold expert320
  rw [if_pos h]
  have := done_piece (S := 320) i G U D X Y0 _ _ (start_at (i 3)) (later_at (i 3)) 0 (by omega) ![0, 0] ![0, 0] ![0, 0] rfl rfl rfl inb_S1024x1024_S320x1024_0_0 (fun _ => inb_S1024x1024_S320x1024_0_0)
    (fun x => k0_pay11 x G U D) (fun x r d => pay11_at G U D d x r) (fun x y => k0_pay12 x G U D y) (fun x y r d => pay12_at G U D d x y r) Y hY
  rw [dite_eq_ite] at this
  exact this

theorem skip320 (n : Fin 1025) (h : ¬ Scalar.cmpi .ne (Scalar.extui (single (BitVec.ofNat 32 n.val)) : BitVec 32) 0#32 = 1#1) (Y : FVec Ideal S1024x1024 .f32) :
    expert320 (F := Ideal) i (BitVec.ofNat 32 n.val) G U D X Y = Y := if_neg h

theorem expert_rows (n : Fin 1025) (hw : k0_chk1 i (BitVec.ofNat 32 n.val)) :
    Done i G U D X Y0 (hiOf n.val) (expertTail (F := Ideal) i (BitVec.ofNat 32 n.val) hw G U D X (expert256 (F := Ideal) i (BitVec.ofNat 32 n.val) hw G U D X Y0)) := by
  have T := tests_at n
  have T2 := (tests_at2 n).1
  have hhi := hi_le n
  have base := done256 i G U D X Y0 n hw
  unfold expertTail
  rcases shapes n with ⟨h1, h2, h3, h4⟩ | ⟨h1, h3, h4⟩ | ⟨h1, h3, h4⟩ | ⟨h1, h3, h4⟩ | ⟨h1, h3, h4⟩
  · have n64 : ¬ k0_cond11 (BitVec.ofNat 32 n.val) = 1#1 := fun h => by have := T2.1.1 h; omega
    have n128 : ¬ k0_cond14 (BitVec.ofNat 32 n.val) = 1#1 := fun h => by have := T2.2.1.1 h; omega
    have n192 : ¬ k0_cond17 (BitVec.ofNat 32 n.val) = 1#1 := fun h => by have := T2.2.2.1 h; omega
    rw [h2] at base
    rw [skip64 i G U D X n hw n64, skip128 i G U D X n hw n128, skip192 i G U D X n hw n192, show hiOf n.val = 0 + 320 from h4]
    exact done320 i G U D X Y0 n (T.2.1.2 h1) _ base
  all_goals have n320 : ¬ Scalar.cmpi .ne (Scalar.extui (single (BitVec.ofNat 32 n.val)) : BitVec 32) 0#32 = 1#1 := fun h => by rw [T.2.1.1 h] at h1; cases h1
  · have n64 : ¬ k0_cond11 (BitVec.ofNat 32 n.val) = 1#1 := fun h => by have := T2.1.1 h; omega
    have n128 : ¬ k0_cond14 (BitVec.ofNat 32 n.val) = 1#1 := fun h => by have := T2.2.1.1 h; omega
    have n192 : ¬ k0_cond17 (BitVec.ofNat 32 n.val) = 1#1 := fun h => by have := T2.2.2.1 h; omega
    rw [skip64 i G U D X n hw n64, skip128 i G U D X n hw n128, skip192 i G U D X n hw n192, skip320 i G U D X n n320, h4]
    exact base
  · have n128 : ¬ k0_cond14 (BitVec.ofNat 32 n.val) = 1#1 := fun h => by have := T2.2.1.1 h; omega
    have n192 : ¬ k0_cond17 (BitVec.ofNat 32 n.val) = 1#1 := fun h => by have := T2.2.2.1 h; omega
    rw [skip128 i G U D X n hw n128, skip192 i G U D X n hw n192, skip320 i G U D X n n320, h4]
    exact done64 i G U D X Y0 n hw (T2.1.2 h3) (by omega) _ base
  · have n64 : ¬ k0_cond11 (BitVec.ofNat 32 n.val) = 1#1 := fun h => by have := T2.1.1 h; omega
    have n192 : ¬ k0_cond17 (BitVec.ofNat 32 n.val) = 1#1 := fun h => by have := T2.2.2.1 h; omega
    rw [skip64 i G U D X n hw n64, skip192 i G U D X n hw n192, skip320 i G U D X n n320, h4]
    exact done128 i G U D X Y0 n hw (T2.2.1.2 h3) (by omega) _ base
  · have n64 : ¬ k0_cond11 (BitVec.ofNat 32 n.val) = 1#1 := fun h => by have := T2.1.1 h; omega
    have n128 : ¬ k0_cond14 (BitVec.ofNat 32 n.val) = 1#1 := fun h => by have := T2.2.1.1 h; omega
    rw [skip64 i G U D X n hw n64, skip128 i G U D X n hw n128, skip320 i G U D X n n320, h4]
    exact done192 i G U D X Y0 n hw (T2.2.2.2 h3) (by omega) _ base

end Expert

end Cert.KernelIdeal.Hand
-- ==== Proof.RowsC.lean ====
module

public import proofs.«01_k».proof.Proof.RowsA
public import proofs.«01_k».proof.Proof.Wins
public import proofs.«01_k».proof.Proof.Words3
public import Idealize.ShloMosaic.Lib.Pointwise
public import Idealize.ShloMosaic.Lib.VecWindow
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! ### What a token gets back -/

/-- The entries of `Y` from `b` on. -/
def slab {S : ℕ} (Y : Fin 1024 → EReal) (b : ℕ) (hb : b + S ≤ 1024) (x : Fin S) : EReal := Y ⟨b + x.val, by omega⟩

section Back
variable (rc w : FVec Ideal S1024x1 .f32) (Y A0 : FVec Ideal S1024x1024 .f32) (t d : Fin 1024) (g : ℕ → EReal)
variable (hg : ∀ (S b : ℕ) (hb : b + S ≤ 1024), g b + back (rc (ix2 t 0)) (w (ix2 t 0)) b (slab (S := S) (fun x => Y (ix2 x d)) b hb) = g (b + S))
variable (h0 : g 0 = 0)

/-- The token has got what the rows below `b` give. -/
def Got (b : ℕ) (A : FVec Ideal S1024x1024 .f32) : Prop := A (ix2 t d) = A0 (ix2 t d) + g b

include hg in
theorem got_piece {S : ℕ} (b : ℕ) (hb : b + S ≤ 1024) (off : Fin 2 → ℕ) (ho : off = ![b, 0]) (inb : ∀ a, off a + (⟨2, ![S, 1024]⟩ : Shape).size a ≤ S1024x1024.size a)
    (P : FVec Ideal ⟨2, ![S, 1024]⟩ .f32 → FVec Ideal S1024x1024 .f32 → FVec Ideal S1024x1024 .f32)
    (hP : ∀ (y : FVec Ideal ⟨2, ![S, 1024]⟩ .f32) (A : FVec Ideal S1024x1024 .f32), P y A (ix2 t d) = A (ix2 t d) + back (rc (ix2 t 0)) (w (ix2 t 0)) b (fun x => y (ix2 x d)))
    (A : FVec Ideal S1024x1024 .f32) (hA : Got A0 t d g b A) : Got A0 t d g (b + S) (P (VecWindow.window Y off (⟨2, ![S, 1024]⟩ : Shape).size inb) A) := by
  unfold Got at *
  rw [hP, hA, ← hg S b hb, add_assoc]
  congr 3
  funext x
  exact window_rows Y off b ho inb hb x d

include hg h0 in
theorem scatter_rows (i : grid0.Coords) (n : Fin 1025) (hw : k0_chk1 i (BitVec.ofNat 32 n.val)) (h23 : k0_cond23 i = 1#1) :
    scatterAll (F := Ideal) i (BitVec.ofNat 32 n.val) hw h23 rc w Y A0 (ix2 t d) = A0 (ix2 t d) + g (hiOf n.val) := by
  show Got A0 t d g (hiOf n.val) _
  have T := tests_at n
  have T2 := (tests_at2 n).2
  have hng := ng_le n
  have hhi := hi_le n
  have zero : Got A0 t d g 0 A0 := by unfold Got; rw [h0, add_zero]
  have base : Got A0 t d g (256 * ngOf n.val) (trips (k0_t5_loop (BitVec.ofNat 32 n.val)).trips (scatterTrip (F := Ideal) i (BitVec.ofNat 32 n.val) hw h23 rc w Y) (k0_t5_loop (BitVec.ofNat 32 n.val)).trips A0) := by
    have := trips_ind (scatterTrip (F := Ideal) i (BitVec.ofNat 32 n.val) hw h23 rc w Y) A0 (fun k A => Got A0 t d g (256 * k) A) zero
      (fun k A hA => by
        have hk' : k.val < 4 := by have a1 := k.isLt; have a2 := (trips_ng n).2.2; omega
        have hk : k.val < 8 := by omega
        exact got_piece (S := 256) rc w Y A0 t d g hg (256 * k.val) (by omega) _ (off23_at _ k hk) _ (fun y A => k0_pay13 _ rc w k y A) (fun y A => pay13_at _ rc w k hk y A t d) A hA)
      (k0_t5_loop (BitVec.ofNat 32 n.val)).trips le_rfl
    rw [← (trips_ng n).2.2]; exact this
  unfold scatterAll
  revert base
  generalize trips (k0_t5_loop (BitVec.ofNat 32 n.val)).trips (scatterTrip (F := Ideal) i (BitVec.ofNat 32 n.val) hw h23 rc w Y) (k0_t5_loop (BitVec.ofNat 32 n.val)).trips A0 = A
  intro base
  unfold scatter320 scatter192 scatter128 scatter64
  simp only [T.2.2]
  rcases shapes n with ⟨h1, h2, h3, h4⟩ | ⟨h1, h3, h4⟩ | ⟨h1, h3, h4⟩ | ⟨h1, h3, h4⟩ | ⟨h1, h3, h4⟩
  · rw [if_pos (T.2.1.2 h1), dif_neg (fun h => by have := T2.2.2.1 h; omega), dif_neg (fun h => by have := T2.2.1.1 h; omega), dif_neg (fun h => by have := T2.1.1 h; omega), show hiOf n.val = 0 + 320 from h4]
    rw [h2] at base
    exact got_piece (S := 320) rc w Y A0 t d g hg 0 (by omega) _ rfl _ (fun y A => k0_pay18 rc w y A) (fun y A => pay18_at rc w y A t d) A base
  · rw [if_neg (fun h => by rw [T.2.1.1 h] at h1; cases h1), dif_neg (fun h => by have := T2.2.2.1 h; omega), dif_neg (fun h => by have := T2.2.1.1 h; omega), dif_neg (fun h => by have := T2.1.1 h; omega), h4]
    exact base
  · rw [if_neg (fun h => by rw [T.2.1.1 h] at h1; cases h1), dif_neg (fun h => by have := T2.2.2.1 h; omega), dif_neg (fun h => by have := T2.2.1.1 h; omega), dif_pos (T2.1.2 h3), h4]
    exact got_piece (S := 64) rc w Y A0 t d g hg _ (by omega) _ (off25_at n) _ (fun y A => k0_pay15 rc w _ y A) (fun y A => pay15_at rc w _ (by omega) A t d y) A base
  · rw [if_neg (fun h => by rw [T.2.1.1 h] at h1; cases h1), dif_neg (fun h => by have := T2.2.2.1 h; omega), dif_pos (T2.2.1.2 h3), dif_neg (fun h => by have := T2.1.1 h; omega), h4]
    exact got_piece (S := 128) rc w Y A0 t d g hg _ (by omega) _ (off26_at n) _ (fun y A => k0_pay16 rc w _ y A) (fun y A => pay16_at rc w _ (by omega) A t d y) A base
  · rw [if_neg (fun h => by rw [T.2.1.1 h] at h1; cases h1), dif_pos (T2.2.2.2 h3), dif_neg (fun h => by have := T2.2.1.1 h; omega), dif_neg (fun h => by have := T2.1.1 h; omega), h4]
    exact got_piece (S := 192) rc w Y A0 t d g hg _ (by omega) _ (off27_at n) _ (fun y A => k0_pay17 rc w _ y A) (fun y A => pay17_at rc w _ (by omega) A t d y) A base

end Back

end Cert.KernelIdeal.Hand
-- ==== Proof.StepVal.lean ====
module

public import proofs.«01_k».proof.Proof.RowsB
public import proofs.«01_k».proof.Proof.RowsC
public import proofs.«01_k».proof.Proof.RankVal
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.KernelIdeal Cert.KernelIdeal.Gen

/-! What each block of vector operations gives at an index, over the extended reals. -/

/-! What one grid point does to the scratch buffers, over the extended reals. -/

theorem ind_nat (a b : ℕ) : ind (a : EReal) b = if a = b then 1 else 0 := by
  unfold ind
  by_cases h : a = b
  · subst h; rw [if_pos rfl, if_pos rfl]
  · rw [if_neg h, if_neg (fun e => h (by exact_mod_cast e))]

theorem ind_none (b : ℕ) : ind negOne b = 0 := if_neg (negOne_ne b)

theorem back_sel (r : Fin 1024) (w : EReal) (Y : Fin 1024 → EReal) (S b : ℕ) (hb : b + S ≤ 1024) :
    (if r.val < b then w * Y r else 0) + back (r.val : EReal) w b (slab (S := S) Y b hb) = if r.val < b + S then w * Y r else 0 := by
  unfold back slab
  by_cases h1 : r.val < b
  · rw [if_pos h1, if_pos (by omega), Finset.sum_eq_zero, mul_zero, add_zero]
    intro x _
    rw [ind_nat, if_neg (by omega), zero_mul]
  · rw [if_neg h1, zero_add]
    by_cases h2 : r.val < b + S
    · rw [if_pos h2, Finset.sum_eq_single (⟨r.val - b, by omega⟩ : Fin S)]
      · rw [ind_nat, if_pos (by show r.val = b + (r.val - b); omega), one_mul]
        exact congrArg (fun z => w * Y z) (Fin.ext (by show b + (r.val - b) = r.val; omega))
      · intro x _ hx
        rw [ind_nat, if_neg (fun e => hx (Fin.ext (by show x.val = r.val - b; omega))), zero_mul]
      · intro h; exact absurd (Finset.mem_univ _) h
    · rw [if_neg h2, Finset.sum_eq_zero, mul_zero]
      intro x _
      rw [ind_nat, if_neg (by omega), zero_mul]

theorem back_none (w : EReal) (Y : Fin 1024 → EReal) (S b : ℕ) (hb : b + S ≤ 1024) :
    (0 : EReal) + back negOne w b (slab (S := S) Y b hb) = 0 := by
  unfold back slab
  rw [zero_add, Finset.sum_eq_zero, mul_zero]
  intro x _
  rw [ind_none, zero_mul]

/-- The weights of one expert over a block of tokens. -/
def col (CM : FVec Ideal S1x1024x128 .f32) (e : Fin 8) (t : Fin 1024) : EReal := CM (ix3 0 t ⟨e.val, by omega⟩)

/-- Both rank buffers hold the ranks. -/
def RankOk (CM : FVec Ideal S1x1024x128 .f32) (S : St Ideal) : Prop :=
  (∀ (t : Fin 1024) (l : Fin 128), S.rc (ix2 t l) = rankOf (fun t => CM (ix3 0 t l)) t) ∧ ∀ (t : Fin 1024) (l : Fin 128), S.rr (ix2 l t) = rankOf (fun t => CM (ix3 0 t l)) t

/-- Each selected token's row is in place. -/
def RowOk (C : Fin 1024 → EReal) (H : FVec Ideal S1x1024x1024 .bf16) (X : FVec Ideal S1024x1024 .bf16) : Prop :=
  ∀ t r : Fin 1024, 0 < C t → r.val = rk C t → ∀ d, X (ix2 r d) = H (ix3 0 t d)

theorem stepA_ranks (i : grid0.Coords) (CM : FVec Ideal S1x1024x128 .f32) (S : St Ideal) (h : first i ≠ 1#1 → RankOk CM S) : RankOk CM (stepA i CM S) := by
  unfold stepA
  by_cases hf : first i = 1#1
  · rw [if_pos hf]
    exact ⟨fun t l => rankCols_at CM S.rc t l, fun t l => (pay39_at _ l t).trans (rankCols_at CM S.rc t l)⟩
  · rw [if_neg hf]; exact h hf

theorem stepA_accAt (i : grid0.Coords) (CM : FVec Ideal S1x1024x128 .f32) (S : St Ideal) (t d : Fin 1024) :
    (stepA i CM S).acc (ix2 t d) = if first i = 1#1 then 0 else S.acc (ix2 t d) := by
  unfold stepA; split_ifs
  · exact pay20_at t d
  · rfl

theorem rowOf_at (i : grid0.Coords) (h2 : k0_cond2 i = 1#1) (e : Fin 8) (he : (i 2).val = e.val) (KR : FVec Ideal S128x1024 .f32) (t : Fin 1024) :
    rowOf i h2 KR (ix2 0 t) = KR (ix2 ⟨e.val, by omega⟩ t) := by
  unfold rowOf
  refine (window_rows (S := 1) KR (k0_off2 i) e.val (by rw [off2_at, he]) _ (by omega) 0 t).trans ?_
  rfl

theorem pay36_i (i : grid0.Coords) (e : Fin 8) (he : (i 2).val = e.val) (K : FVec Ideal S1024x128 .f32) (t : Fin 1024) :
    k0_pay36 (F := Ideal) (BitVec.ofNat 32 (i 2).val) K (ix2 t 0) = K (ix2 t ⟨e.val, by omega⟩) := by
  rw [he]; exact pay36_at e K t

theorem pay37_i (i : grid0.Coords) (e : Fin 8) (he : (i 2).val = e.val) (CM : FVec Ideal S1x1024x128 .f32) (t : Fin 1024) :
    k0_pay37 (F := Ideal) (BitVec.ofNat 32 (i 2).val) CM (ix2 t 0) = col CM e t := by
  rw [he]; exact pay37_at e CM t

theorem gather_ok (i : grid0.Coords) (e : Fin 8) (he : (i 2).val = e.val) (n : Fin 1025) (CM : FVec Ideal S1x1024x128 .f32) (hn : n.val = cnt (col CM e))
    (KR : FVec Ideal S128x1024 .f32) (hK : ∀ (t : Fin 1024) (l : Fin 128), KR (ix2 l t) = rankOf (fun t => CM (ix3 0 t l)) t)
    (H : FVec Ideal S1x1024x1024 .bf16) (X : FVec Ideal S1024x1024 .bf16) (hX : (i 3).val ≠ 0 → RowOk (col CM e) H X) :
    RowOk (col CM e) H (gather i (BitVec.ofNat 32 n.val) KR H X) := by
  unfold gather
  by_cases h2 : k0_cond2 i = 1#1
  · rw [dif_pos h2]
    intro t r ht hr d
    have hlt := rk_lt_cnt (col CM e) ht
    have hle := le_hi n.val
    refine (gather_rows n (rowOf i h2 KR) H X r d (by omega)).trans ?_
    rw [show (fun t => rowOf i h2 KR (ix2 0 t)) = rankOf (col CM e) from funext fun t => (rowOf_at i h2 e he KR t).trans (hK t _), hr]
    exact pick_self (col CM e) ht H d
  · rw [dif_neg h2]; exact hX (fun h => h2 ((c2 i).2 h))

section Point
variable (i : grid0.Coords) (e : Fin 8) (he : (i 2).val = e.val) (n : Fin 1025) (hw : k0_chk1 i (BitVec.ofNat 32 n.val))
variable (H : FVec Ideal S1x1024x1024 .bf16) (CM : FVec Ideal S1x1024x128 .f32) (G U : FVec Ideal S1x1024x896 .bf16) (D : FVec Ideal S1x896x1024 .bf16) (S : St Ideal)
variable (hn : n.val = cnt (col CM e)) (hr : first i ≠ 1#1 → RankOk CM S) (hx : (i 3).val ≠ 0 → RowOk (col CM e) H S.xe)

abbrev stepped : St Ideal := step i (BitVec.ofNat 32 n.val) hw H CM G U D S

include hr in
theorem step_ranks : RankOk CM (stepped i n hw H CM G U D S) := by
  have := stepA_ranks i CM S hr
  exact ⟨this.1, this.2⟩

include he hn hr hx in
theorem step_rows : RowOk (col CM e) H (stepped i n hw H CM G U D S).xe :=
  gather_ok i e he n CM hn _ (stepA_ranks i CM S hr).2 H _ (by rw [stepA_xe]; exact hx)

include he hn hr hx in
theorem step_ye (t r : Fin 1024) (ht : 0 < col CM e t) (htr : r.val = rk (col CM e) t) (d : Fin 1024) :
    (stepped i n hw H CM G U D S).ye (ix2 r d)
      = if (i 3).val = 0 then tile (fun k => H (ix3 0 t k)) G U D d else S.ye (ix2 r d) + tile (fun k => H (ix3 0 t k)) G U D d := by
  have hX := step_rows i e he n hw H CM G U D S hn hr hx
  have hlt := rk_lt_cnt (col CM e) ht
  have hle := le_hi n.val
  have hD := (expert_rows i G U D (stepped i n hw H CM G U D S).xe (stepA i CM S).ye n hw).1 r d (by omega)
  refine Eq.trans (show _ = _ from hD) ?_
  unfold grown
  rw [show (fun k => (stepped i n hw H CM G U D S).xe (ix2 r k)) = fun k => H (ix3 0 t k) from funext fun k => hX t r ht htr k, stepA_ye]

/-- The accumulator as the point finds it. -/
def accIn (t d : Fin 1024) : EReal := if first i = 1#1 then 0 else S.acc (ix2 t d)

theorem step_acc_keep (h3 : (i 3).val ≠ 3) (t d : Fin 1024) : (stepped i n hw H CM G U D S).acc (ix2 t d) = accIn i S t d := by
  refine Eq.trans ?_ (stepA_accAt i CM S t d)
  show scatter i _ hw _ CM _ (stepA i CM S).acc (ix2 t d) = _
  unfold scatter
  rw [dif_neg (fun h => h3 ((c23 i).1 h))]

include he hr in
theorem step_acc_none (h3 : (i 3).val = 3) (t d : Fin 1024) (ht : ¬ 0 < col CM e t) : (stepped i n hw H CM G U D S).acc (ix2 t d) = accIn i S t d := by
  refine Eq.trans ?_ (stepA_accAt i CM S t d)
  show scatter i _ hw _ CM _ (stepA i CM S).acc (ix2 t d) = _
  unfold scatter
  have h23 := (c23 i).2 h3
  rw [dif_pos h23]
  refine (scatter_rows _ _ _ _ t d (fun _ => 0) (fun S' b hb => ?_) rfl i n hw h23).trans (add_zero _)
  rw [pay36_i i e he, (stepA_ranks i CM S hr).1]
  rw [show rankOf (fun t => CM (ix3 0 t (⟨e.val, by omega⟩ : Fin 128))) t = negOne from if_neg ht]
  exact back_none _ (fun x => (stepped i n hw H CM G U D S).ye (ix2 x d)) S' b hb

include he hn hr in
theorem step_acc_sel (h3 : (i 3).val = 3) (t r d : Fin 1024) (ht : 0 < col CM e t) (htr : r.val = rk (col CM e) t) :
    (stepped i n hw H CM G U D S).acc (ix2 t d) = accIn i S t d + col CM e t * (stepped i n hw H CM G U D S).ye (ix2 r d) := by
  unfold accIn
  rw [← stepA_accAt i CM S t d]
  show scatter i _ hw _ CM _ (stepA i CM S).acc (ix2 t d) = _
  unfold scatter
  have h23 := (c23 i).2 h3
  have hlt := rk_lt_cnt (col CM e) ht
  have hle := le_hi n.val
  rw [dif_pos h23]
  refine (scatter_rows _ _ _ _ t d (fun b => if r.val < b then col CM e t * (stepped i n hw H CM G U D S).ye (ix2 r d) else 0) (fun S' b hb => ?_) (if_neg (Nat.not_lt_zero _)) i n hw h23).trans ?_
  · rw [pay36_i i e he, pay37_i i e he, (stepA_ranks i CM S hr).1]
    rw [show rankOf (fun t => CM (ix3 0 t (⟨e.val, by omega⟩ : Fin 128))) t = (r.val : EReal) from (if_pos ht).trans (by rw [htr]; rfl)]
    exact back_sel r _ (fun x => (stepped i n hw H CM G U D S).ye (ix2 x d)) S' b hb
  · rw [if_pos (by omega)]

end Point

end Cert.KernelIdeal.Hand
-- ==== Proof.Inv.lean ====
/- What the scratch buffers hold before and after each grid point, over the extended reals. -/
module

public import proofs.«01_k».proof.Proof.Spec
public import proofs.«01_k».proof.Proof.Args
public import proofs.«01_k».proof.Proof.Count
public import proofs.«01_k».proof.Proof.StepVal
public import Idealize.ShloMosaic.Lib.Pipeline.ValueKit
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Cert.Layer
open Cert.KernelIdeal Cert.KernelIdeal.Gen

variable (m : (ℓ : Loc nD τ sig) → Buf (Elt Ideal) ℓ)

/-! ### The arguments at a token and an expert -/

section Names
variable (c : Dev nD)

def xrow (b : Fin 4) (T : Fin 8192) (d : Fin 1024) : EReal := m ((c : Thread nD τ).loc main_arg0) (ix3 b T d)
def hrow (b : Fin 4) (T : Fin 8192) (d : Fin 1024) : EReal := m ((c : Thread nD τ).loc main_arg1) (ix3 b T d)
def cmb (b : Fin 4) (T : Fin 8192) (l : Fin 128) : EReal := m ((c : Thread nD τ).loc main_arg2) (ix3 b T l)
def gate (b : Fin 4) (d : Fin 1024) : EReal := m ((c : Thread nD τ).loc main_arg3) (ix3 ⟨b.val, by omega⟩ 5 d)
def wgE (e : Fin 8) (k : Fin 1024) (f : Fin 7168) : EReal := m ((c : Thread nD τ).loc main_arg4) (ix4 0 e k f)
def wdE (e : Fin 8) (f : Fin 3584) (d : Fin 1024) : EReal := m ((c : Thread nD τ).loc main_arg5) (ix4 0 e f d)
def gain (d : Fin 1024) : EReal := m ((c : Thread nD τ).loc main_arg6) (ix1 d)

/-- One token's weight for an expert. -/
def wt (e : Fin 8) (b : Fin 4) (T : Fin 8192) : EReal := cmb m c b T ⟨e.val, by omega⟩
/-- One expert's result for a token. -/
def yE (e : Fin 8) (b : Fin 4) (T : Fin 8192) (d : Fin 1024) : EReal := yOf (hrow m c b T) (wgE m c e) (wdE m c e) d
/-- The first `n` experts' results, weighted. -/
def accUpto (b : Fin 4) (T : Fin 8192) (n : ℕ) (d : Fin 1024) : EReal := ∑ e : Fin 8, if e.val < n then wt m c e b T * yE m c e b T d else 0
/-- The layer's result. -/
def outE (b : Fin 4) (T : Fin 8192) (d : Fin 1024) : EReal :=
  outOf (xrow m c b T) (gate m c b) (fun d => mixOf (fun e => wt m c e b T) (fun e => yE m c e b T d)) (gain m c) d

end Names

/-! ### Sums taken piece by piece -/

/-- A quarter of an expert's units. -/
def tileOf (h : Fin 1024 → EReal) (wg : Fin 1024 → Fin 7168 → EReal) (wd : Fin 3584 → Fin 1024 → EReal) (q : Fin 4) (d : Fin 1024) : EReal :=
  ∑ f : Fin 896, unitOf (hid h wg ⟨896 * q.val + f.val, by omega⟩) (hid h wg ⟨3584 + (896 * q.val + f.val), by omega⟩) * wd ⟨896 * q.val + f.val, by omega⟩ d

/-- The first `k` quarters. -/
def partY (h : Fin 1024 → EReal) (wg : Fin 1024 → Fin 7168 → EReal) (wd : Fin 3584 → Fin 1024 → EReal) (k : ℕ) (d : Fin 1024) : EReal :=
  ∑ q : Fin 4, if q.val < k then tileOf h wg wd q d else 0

theorem upto_succ {N : ℕ} (g : Fin N → EReal) (k : Fin N) :
    (∑ q : Fin N, if q.val < k.val + 1 then g q else 0) = (∑ q : Fin N, if q.val < k.val then g q else 0) + g k := by
  have : ∀ q : Fin N, (if q.val < k.val + 1 then g q else 0) = (if q.val < k.val then g q else 0) + (if q = k then g q else 0) := by
    intro q
    by_cases h1 : q.val < k.val
    · rw [if_pos h1, if_pos (by omega), if_neg (fun h => by subst h; omega), add_zero]
    · by_cases h2 : q = k
      · subst h2; rw [if_pos (by omega), if_neg h1, if_pos rfl, zero_add]
      · rw [if_neg h1, if_neg h2, if_neg (fun h => h2 (Fin.ext (by omega))), add_zero]
  rw [Finset.sum_congr rfl fun q _ => this q, Finset.sum_add_distrib]
  congr 1
  rw [Finset.sum_ite_eq' Finset.univ k g, if_pos (Finset.mem_univ _)]

theorem upto_zero {N : ℕ} (g : Fin N → EReal) : (∑ q : Fin N, if q.val < 0 then g q else 0) = 0 :=
  Finset.sum_eq_zero fun q _ => if_neg (Nat.not_lt_zero _)

theorem upto_all {N : ℕ} (g : Fin N → EReal) : (∑ q : Fin N, if q.val < N then g q else 0) = ∑ q, g q :=
  Finset.sum_congr rfl fun q _ => if_pos q.isLt

theorem partY_all (h : Fin 1024 → EReal) (wg : Fin 1024 → Fin 7168 → EReal) (wd : Fin 3584 → Fin 1024 → EReal) (d : Fin 1024) :
    partY h wg wd 4 d = yOf h wg wd d := by
  refine (upto_all (fun q : Fin 4 => tileOf h wg wd q d)).trans ?_
  unfold yOf
  rw [Fin.sum_univ_tiles 4 896 rfl]
  refine Finset.sum_congr rfl fun q _ => ?_
  unfold tileOf
  refine Finset.sum_congr rfl fun f _ => ?_
  have e1 : (⟨896 * q.val + f.val, by omega⟩ : Fin 3584) = ⟨q.val * 896 + f.val, by omega⟩ := Fin.ext (by show 896 * q.val + f.val = q.val * 896 + f.val; omega)
  have e2 : (⟨896 * q.val + f.val, by omega⟩ : Fin 7168) = ⟨q.val * 896 + f.val, by omega⟩ := Fin.ext (by show 896 * q.val + f.val = q.val * 896 + f.val; omega)
  have e3 : (⟨3584 + (896 * q.val + f.val), by omega⟩ : Fin 7168) = ⟨3584 + (q.val * 896 + f.val), by omega⟩ := Fin.ext (by show 3584 + (896 * q.val + f.val) = 3584 + (q.val * 896 + f.val); omega)
  rw [e1, e2, e3]

/-! ### The blocks at a point -/

def bT (t : Fin grid0.N) : Fin 4 := ⟨t.val / 256, by have := lt_at t; omega⟩
def TT (t : Fin grid0.N) (r : Fin 1024) : Fin 8192 := ⟨1024 * (t.val / 32 % 8) + r.val, by omega⟩
def eT (t : Fin grid0.N) : Fin 8 := ⟨t.val / 4 % 8, by omega⟩
def fT (t : Fin grid0.N) : Fin 4 := ⟨t.val % 4, by omega⟩

section At
variable (c : Dev nD) (t : Fin grid0.N)

theorem b0 (r d : Fin 1024) : (blk m c 0 t (ix3 0 r d) : EReal) = xrow m c (bT t) (TT t r) d :=
  (blk0_raw m c t r d).trans (congrFun (V_arg m c main_arg0 (by decide)) _)
theorem b1 (r d : Fin 1024) : (blk m c 1 t (ix3 0 r d) : EReal) = hrow m c (bT t) (TT t r) d :=
  (blk1_raw m c t r d).trans (congrFun (V_arg m c main_arg1 (by decide)) _)
theorem b2 (r : Fin 1024) (l : Fin 128) : (blk m c 2 t (ix3 0 r l) : EReal) = cmb m c (bT t) (TT t r) l :=
  (blk2_raw m c t r l).trans (congrFun (V_arg m c main_arg2 (by decide)) _)
theorem b3 (d : Fin 1024) : (blk m c 3 t (ix3 0 5 d) : EReal) = gate m c (bT t) d :=
  (blk3_raw m c t 5 d).trans (congrFun (V_arg m c main_arg3 (by decide)) _)
theorem b4 (k : Fin 1024) (f : Fin 896) : (blk m c 4 t (ix3 0 k f) : EReal) = wgE m c (eT t) k ⟨896 * (fT t).val + f.val, by omega⟩ :=
  (blk4_raw m c t k f).trans (v1_at m c _ _ _)
theorem b5 (k : Fin 1024) (f : Fin 896) : (blk m c 5 t (ix3 0 k f) : EReal) = wgE m c (eT t) k ⟨3584 + (896 * (fT t).val + f.val), by omega⟩ :=
  (blk5_raw m c t k f).trans (v1_at m c _ _ _)
theorem b6 (f : Fin 896) (d : Fin 1024) : (blk m c 6 t (ix3 0 f d) : EReal) = wdE m c (eT t) ⟨896 * (fT t).val + f.val, by omega⟩ d :=
  (blk6_raw m c t f d).trans (v3_at m c _ _ _)
theorem b7 (d : Fin 1024) : (blk m c 7 t (ix2 0 d) : EReal) = gain m c d :=
  (blk7_raw m c t d).trans (v11_at m c _)

theorem tile_at (h : Fin 1024 → EReal) (d : Fin 1024) :
    tile h (blk m c 4 t) (blk m c 5 t) (blk m c 6 t) d = tileOf h (wgE m c (eT t)) (wdE m c (eT t)) (fT t) d := by
  unfold tile tileOf
  refine Finset.sum_congr rfl fun f _ => ?_
  have e4 : dotc h (blk m c 4 t) f = hid h (wgE m c (eT t)) ⟨896 * (fT t).val + f.val, by omega⟩ :=
    Finset.sum_congr rfl fun k _ => congrArg (fun z => h k * z) (b4 m c t k f)
  have e5 : dotc h (blk m c 5 t) f = hid h (wgE m c (eT t)) ⟨3584 + (896 * (fT t).val + f.val), by omega⟩ :=
    Finset.sum_congr rfl fun k _ => congrArg (fun z => h k * z) (b5 m c t k f)
  rw [e4, e5, b6 m c t f d]
  rfl

theorem cnt_le (C : Fin 1024 → EReal) : cnt C ≤ 1024 := by
  unfold cnt
  refine (Finset.sum_le_sum (g := fun _ => 1) fun x _ => ?_).trans (by simp)
  split_ifs <;> omega

theorem step_congr (i : grid0.Coords) (v v' : Elt Ideal .i32) (hv : v = v') (hw : k0_chk1 i v) (hw' : k0_chk1 i v') (H : FVec Ideal S1x1024x1024 .bf16) (CM : FVec Ideal S1x1024x128 .f32)
    (G U : FVec Ideal S1x1024x896 .bf16) (D : FVec Ideal S1x896x1024 .bf16) (S : St Ideal) : step i v hw H CM G U D S = step i v' hw' H CM G U D S := by
  subst hv; rfl

theorem next_eq (hb : Bounded m) (S : St Ideal) : ∃ (n : Fin 1025) (hw : k0_chk1 (grid0.coords t) (BitVec.ofNat 32 n.val)), n.val = cnt (col (blk m c 2 t) (eT t))
    ∧ next m hb c t S = stepped (grid0.coords t) n hw (blk m c 1 t) (blk m c 2 t) (blk m c 4 t) (blk m c 5 t) (blk m c 6 t) S := by
  obtain rfl : c = 0 := Subsingleton.elim _ _
  have hp := pt_at t
  have hw0 : wordAt (T m) (grid0.coords t) = BitVec.ofNat 32 (cnt (col (blk m 0 2 t) (eT t))) := by
    refine word_at m (grid0.coords t) (bT t) ⟨t.val / 32 % 8, by omega⟩ (eT t) hp.1 hp.2.1 hp.2.2.1 _ fun x => ?_
    have h2 : col (blk m 0 2 t) (eT t) x = cmb m 0 (bT t) (TT t x) ⟨(eT t).val, by omega⟩ := b2 m 0 t x _
    rw [h2]
    exact bits_at m (bT t) ⟨t.val / 32 % 8, by omega⟩ x (eT t)
  refine ⟨⟨cnt (col (blk m 0 2 t) (eT t)), Nat.lt_succ_of_le (cnt_le _)⟩, hw0 ▸ (ok_at m hb _).hw, rfl, ?_⟩
  exact step_congr _ _ _ hw0 _ _ _ _ _ _ _ _

end At

/-! ### Before and after a point -/

/-- What holds before point `t`. -/
def Pre (c : Dev nD) (t : Fin grid0.N) (S : St Ideal) : Prop :=
  (t.val % 32 ≠ 0 → RankOk (blk m c 2 t) S ∧ ∀ r d, (S.acc (ix2 r d) : EReal) = accUpto m c (bT t) (TT t r) (eT t).val d)
  ∧ (t.val % 4 ≠ 0 → RowOk (col (blk m c 2 t) (eT t)) (blk m c 1 t) S.xe
      ∧ ∀ a r, 0 < col (blk m c 2 t) (eT t) a → r.val = rk (col (blk m c 2 t) (eT t)) a → ∀ d,
        (S.ye (ix2 r d) : EReal) = partY (hrow m c (bT t) (TT t a)) (wgE m c (eT t)) (wdE m c (eT t)) (fT t).val d)

/-- What holds after it. -/
def Post (c : Dev nD) (t : Fin grid0.N) (S : St Ideal) : Prop :=
  RankOk (blk m c 2 t) S
  ∧ (∀ r d, (S.acc (ix2 r d) : EReal) = accUpto m c (bT t) (TT t r) (if t.val % 4 = 3 then (eT t).val + 1 else (eT t).val) d)
  ∧ RowOk (col (blk m c 2 t) (eT t)) (blk m c 1 t) S.xe
  ∧ ∀ a r, 0 < col (blk m c 2 t) (eT t) a → r.val = rk (col (blk m c 2 t) (eT t)) a → ∀ d,
        (S.ye (ix2 r d) : EReal) = partY (hrow m c (bT t) (TT t a)) (wgE m c (eT t)) (wdE m c (eT t)) ((fT t).val + 1) d

/-- No weight is negative. -/
def Routed : Prop := ∀ c e b T, 0 ≤ wt m c e b T

theorem post_of (hb : Bounded m) (hpos : Routed m) (c : Dev nD) (t : Fin grid0.N) (S : St Ideal) (h : Pre m c t S) : Post m c t (next m hb c t S) := by
  obtain ⟨n, hw, hn, hnext⟩ := next_eq m c t hb S
  rw [hnext]
  have hp := pt_at t
  have hN := lt_at t
  have he : (grid0.coords t 2).val = (eT t).val := hp.2.2.1
  have hfirst : first (grid0.coords t) = 1#1 ↔ t.val % 32 = 0 := by
    rw [isFirst, hp.2.2.1, hp.2.2.2]; omega
  have hr : first (grid0.coords t) ≠ 1#1 → RankOk (blk m c 2 t) S := fun hf => (h.1 (fun e => hf (hfirst.2 e))).1
  have hx : (grid0.coords t 3).val ≠ 0 → RowOk (col (blk m c 2 t) (eT t)) (blk m c 1 t) S.xe := fun hf => (h.2 (by rw [hp.2.2.2] at hf; exact hf)).1
  have hacc : ∀ r d, accIn (grid0.coords t) S r d = accUpto m c (bT t) (TT t r) (eT t).val d := by
    intro r d
    unfold accIn
    by_cases hf : first (grid0.coords t) = 1#1
    · rw [if_pos hf, show (eT t).val = 0 from by have := hfirst.1 hf; show t.val / 4 % 8 = 0; omega]
      exact (upto_zero (fun e : Fin 8 => wt m c e (bT t) (TT t r) * yE m c e (bT t) (TT t r) d)).symm
    · rw [if_neg hf]; exact (h.1 (fun e => hf (hfirst.2 e))).2 r d
  have hye : ∀ a r, 0 < col (blk m c 2 t) (eT t) a → r.val = rk (col (blk m c 2 t) (eT t)) a → ∀ d,
      ((stepped (grid0.coords t) n hw (blk m c 1 t) (blk m c 2 t) (blk m c 4 t) (blk m c 5 t) (blk m c 6 t) S).ye (ix2 r d) : EReal)
        = partY (hrow m c (bT t) (TT t a)) (wgE m c (eT t)) (wdE m c (eT t)) ((fT t).val + 1) d := by
    intro a r ha hra d
    rw [step_ye (grid0.coords t) (eT t) he n hw (blk m c 1 t) (blk m c 2 t) (blk m c 4 t) (blk m c 5 t) (blk m c 6 t) S hn hr hx a r ha hra d]
    rw [show (fun k => blk m c 1 t (ix3 0 a k)) = hrow m c (bT t) (TT t a) from funext fun k => b1 m c t a k]
    rw [tile_at]
    refine Eq.trans ?_ (upto_succ (fun q : Fin 4 => tileOf (hrow m c (bT t) (TT t a)) (wgE m c (eT t)) (wdE m c (eT t)) q d) (fT t)).symm
    by_cases hf : (grid0.coords t 3).val = 0
    · rw [if_pos hf]
      rw [show (fT t).val = 0 from by rw [hp.2.2.2] at hf; exact hf, upto_zero, zero_add]
    · rw [if_neg hf]
      have := (h.2 (by rw [hp.2.2.2] at hf; exact hf)).2 a r ha hra d
      rw [this]; rfl
  refine ⟨step_ranks _ n hw _ _ _ _ _ S hr, fun r d => ?_, step_rows _ (eT t) he n hw _ _ _ _ _ S hn hr hx, hye⟩
  by_cases h3 : t.val % 4 = 3
  · rw [if_pos h3]
    have h3' : (grid0.coords t 3).val = 3 := hp.2.2.2.trans h3
    refine Eq.trans ?_ (upto_succ (fun e : Fin 8 => wt m c e (bT t) (TT t r) * yE m c e (bT t) (TT t r) d) (eT t)).symm
    have hc : col (blk m c 2 t) (eT t) r = wt m c (eT t) (bT t) (TT t r) := b2 m c t r _
    by_cases hs : 0 < col (blk m c 2 t) (eT t) r
    · have hlt := rk_lt_cnt (col (blk m c 2 t) (eT t)) hs
      have hle := cnt_le (col (blk m c 2 t) (eT t))
      rw [step_acc_sel (grid0.coords t) (eT t) he n hw _ _ _ _ _ S hn hr h3' r ⟨rk (col (blk m c 2 t) (eT t)) r, by omega⟩ d hs rfl, hacc,
        hye r ⟨rk (col (blk m c 2 t) (eT t)) r, by omega⟩ hs rfl d, show (fT t).val + 1 = 4 from by show t.val % 4 + 1 = 4; omega, partY_all, hc]
      rfl
    · rw [step_acc_none (grid0.coords t) (eT t) he n hw _ _ _ _ _ S hr h3' r d hs, hacc]
      have hz : wt m c (eT t) (bT t) (TT t r) = 0 := le_antisymm (not_lt.1 (hc ▸ hs)) (hpos c _ _ _)
      simp only [hz, zero_mul, add_zero]
      rfl
  · rw [if_neg h3, step_acc_keep (grid0.coords t) n hw _ _ _ _ _ S (fun e => h3 (hp.2.2.2.symm.trans e)), hacc]

theorem pre_of (c : Dev nD) (t u : Fin grid0.N) (htu : u.val = t.val + 1) (S : St Ideal) (h : Post m c t S) : Pre m c u S := by
  obtain ⟨h1, h2, h3, h4⟩ := h
  have hN := lt_at t
  have hM := lt_at u
  refine ⟨fun hu => ?_, fun hu => ?_⟩
  · have eb : bT u = bT t := Fin.ext (by show u.val / 256 = t.val / 256; omega)
    have eT' : ∀ r, TT u r = TT t r := fun r => Fin.ext (by show 1024 * (u.val / 32 % 8) + r.val = 1024 * (t.val / 32 % 8) + r.val; omega)
    have ec : ∀ r l, blk m c 2 u (ix3 0 r l) = blk m c 2 t (ix3 0 r l) := fun r l => by
      refine (b2 m c u r l).trans (Eq.trans ?_ (b2 m c t r l).symm); rw [eb, eT']
    refine ⟨⟨fun r l => ?_, fun r l => ?_⟩, fun r d => ?_⟩
    · rw [h1.1 r l]; congr 1; funext r'; exact (ec r' l).symm
    · rw [h1.2 r l]; congr 1; funext r'; exact (ec r' l).symm
    · rw [h2 r d, eb, eT']
      congr 1
      show (if t.val % 4 = 3 then t.val / 4 % 8 + 1 else t.val / 4 % 8) = u.val / 4 % 8
      split_ifs <;> omega
  · have eb : bT u = bT t := Fin.ext (by show u.val / 256 = t.val / 256; omega)
    have eT' : ∀ r, TT u r = TT t r := fun r => Fin.ext (by show 1024 * (u.val / 32 % 8) + r.val = 1024 * (t.val / 32 % 8) + r.val; omega)
    have ee : eT u = eT t := Fin.ext (by show u.val / 4 % 8 = t.val / 4 % 8; omega)
    have ec : col (blk m c 2 u) (eT u) = col (blk m c 2 t) (eT t) := funext fun r => by
      rw [ee]
      refine (b2 m c u r _).trans (Eq.trans ?_ (b2 m c t r _).symm); rw [eb, eT']
    have ef : (fT u).val = (fT t).val + 1 := by show u.val % 4 = t.val % 4 + 1; omega
    refine ⟨fun a r ha hr d => ?_, fun a r ha hr d => ?_⟩
    · rw [ec] at ha hr
      rw [h3 a r ha hr d]
      refine (b1 m c t a d).trans (Eq.trans ?_ (b1 m c u a d).symm); rw [eb, eT']
    · rw [ec] at ha hr
      rw [h4 a r ha hr d, eb, eT', ee, ef]

end Cert.KernelIdeal.Hand
-- ==== Proof.Value.lean ====
/- The result's array after the kernel's run, over the extended reals. -/
module

public import proofs.«01_k».proof.Proof.Inv
public import Idealize.ShloMosaic.Lib.Pipeline.ValueKit
public import Idealize.ShloMosaic.Lib.Pointwise
public import Idealize.ShloMosaic.PureOps.Ideal

@[expose] public section

set_option maxRecDepth 16384
set_option maxHeartbeats 1600000

noncomputable section

namespace Cert.KernelIdeal.Hand

open Idealize.ShloMosaic Idealize.ShloMosaic.TcCoe
open Idealize.SL.Sem
open Cert.Layer
open Cert.KernelIdeal Cert.KernelIdeal.Gen

variable (m : (ℓ : Loc nD τ sig) → Buf (Elt Ideal) ℓ)

theorem gateRow_at (M : FVec Ideal S1x8x1024 .f32) (d : Fin 1024) : gateRow M (ix3 0 0 d) = M (ix3 0 5 d) :=
  window_mid (S := 1) M 5 _ (by omega) 0 d

theorem out_at (c : Dev nD) (t : Fin grid0.N) (h : t.val % 32 = 31) (A : FVec Ideal S1024x1024 .f32) (O : FVec Ideal S1x1024x1024 .f32)
    (hA : ∀ r d, (A (ix2 r d) : EReal) = accUpto m c (bT t) (TT t r) 8 d) (r d : Fin 1024) :
    (outAt m c t A O (ix3 0 r d) : EReal) = outE m c (bT t) (TT t r) d := by
  have hp := pt_at t
  unfold outAt result
  rw [if_pos ((c28 (grid0.coords t)).2 ⟨by rw [hp.2.2.1]; omega, by rw [hp.2.2.2]; omega⟩)]
  have hB0 : ∀ d, blk m c 0 t (ix3 0 r d) = xrow m c (bT t) (TT t r) d := fun d => b0 m c t r d
  have hB3 : ∀ d : Fin 1024, (gateRow (F := Ideal) (blk m c 3 t) (ix3 0 0 d) : EReal) = gate m c (bT t) d := fun d => (gateRow_at _ d).trans (b3 m c t d)
  have hB7 : ∀ d, blk m c 7 t (ix2 0 d) = gain m c d := fun d => b7 m c t d
  have hA' : ∀ d, A (ix2 r d) = mixOf (fun e => wt m c e (bT t) (TT t r)) (fun e => yE m c e (bT t) (TT t r) d) := fun d => (hA r d).trans (upto_all _)
  revert hB0 hB3 hB7
  generalize blk m c 0 t = X
  generalize gateRow (F := Ideal) (blk m c 3 t) = M
  generalize blk m c 7 t = G
  intro hB0 hB3 hB7
  show k0_pay19 (F := Ideal) X M A G (ix3 0 r d) = _
  pointwise [k0_pay19]
  simp only [hB0, hB3, hB7, hA']
  rfl

/-! ### The run -/

/-- What is known between points. -/
def Inv (c : Dev nD) (n : ℕ) (S : St Ideal) : Prop := ∀ t : Fin grid0.N, t.val = n → Pre m c t S

/-- What a block's last point leaves in the result's buffer. -/
def Rl (c : Dev nD) (t : Fin grid0.N) (X : FVec Ideal S1x1024x1024 .f32) : Prop :=
  t.val % 32 = 31 → ∀ r d, (X (ix3 0 r d) : EReal) = outE m c (bT t) (TT t r) d

theorem inv_zero (c : Dev nD) (S : St Ideal) : Inv m c 0 S := fun t ht =>
  ⟨fun h => absurd (by rw [ht]) h, fun h => absurd (by rw [ht]) h⟩

theorem inv_step (hb : Bounded m) (hpos : Routed m) (c : Dev nD) (t : Fin grid0.N) (S : St Ideal) (h : Inv m c t.val S) : Inv m c (t.val + 1) (next m hb c t S) :=
  fun u hu => pre_of m c t u hu _ (post_of m hb hpos c t S (h t rfl))

theorem rl_step (hb : Bounded m) (hpos : Routed m) (c : Dev nD) (t : Fin grid0.N) (S : St Ideal) (h : Inv m c t.val S) (O : FVec Ideal S1x1024x1024 .f32) :
    Rl m c t (outAt m c t (next m hb c t S).acc O) := by
  intro ht
  refine out_at m c t ht _ O fun r d => ?_
  rw [(post_of m hb hpos c t S (h t rfl)).2.1 r d, if_pos (by omega)]
  congr 1
  show t.val / 4 % 8 + 1 = 8
  omega

/-- The result's array. -/
def outArr (c : Dev nD) : FVec Ideal S4x8192x1024 .f32 := fun i => outE m c (i 0) (i 1) (i 2)

/-- The configuration does not depend on the table's contents. -/
def tab0 : (pcfg0 (F := Ideal)).Adm := ⟨fun k => match k with | 0 => fun _ => (0#32 : BitVec 32), trivial⟩

theorem win_eq : (cfgOf m).win 8 = win0 (F := Ideal) tab0 8 := rfl

theorem flush_at : ∀ t : Fin grid0.N, (win0 (F := Ideal) tab0 8).flush t = true → t.val % 32 = 31 := (by decide +kernel : ∀ t : Fin grid0.N, _)

theorem covers : (win0 (F := Ideal) tab0 8).Covers := by decide +kernel

set_option maxHeartbeats 200000 in
theorem emb_at (t : Fin grid0.N) (y : S1x1024x1024.Idx) :
    ((((cfgOf m).win 8).blk t).view.emb y : S4x8192x1024.Idx) = ix3 (bT t) (TT t (y 1)) (y 2) := by
  have h8 : ((cfgOf m).win 8).index t = ![t.val / 256, t.val / 32 % 8, 0] := (ix_at m 8 t).trans (tr_at t).2.2.2.2.2.2.2.2
  have l0 : (y 0).val < 1 := (y 0).isLt
  funext a
  refine Fin.ext ?_
  blk_simp [h8]
  match a with
  | ⟨0, _⟩ => show t.val / 256 * 1 + (y 0).val = t.val / 256; omega
  | ⟨1, _⟩ => show t.val / 32 % 8 * 1024 + (y 1).val = 1024 * (t.val / 32 % 8) + (y 1).val; omega
  | ⟨2, _⟩ => show 0 * 1024 + (y 2).val = (y 2).val; omega

set_option maxHeartbeats 200000 in
theorem block_at (c : Dev nD) (t : Fin grid0.N) (ht : t.val % 32 = 31) (X : FVec Ideal S1x1024x1024 .f32) (hX : Rl m c t X) (y : S1x1024x1024.Idx) :
    X y = outArr m c ((((cfgOf m).win 8).blk t).view.emb y) := by
  have l0 : (y 0).val < 1 := (y 0).isLt
  have hy : y = ix3 0 (y 1) (y 2) := by
    funext a
    match a with
    | ⟨0, _⟩ => exact Fin.ext (by show (y 0).val = 0; omega)
    | ⟨1, _⟩ => rfl
    | ⟨2, _⟩ => rfl
  refine Eq.trans ?_ (congrArg (outArr m c) (emb_at m t y)).symm
  exact (congrArg X hy).trans (hX ht (y 1) (y 2))

set_option maxHeartbeats 300000 in
set_option backward.isDefEq.respectTransparency.types false in
theorem final (c : Dev nD) (r : PUnit × MemSt nD τ sig (Elt Ideal)) (h : Pipeline.RDat.FramePost (cfgOf m) (rdat m (Inv m) (Rl m)) (V m) r) :
    r.2.mem ((c.tc : Thread nD τ).loc main_v12) = outArr m c := by
  obtain ⟨after, hL, hA⟩ := Pipeline.RDat.FramePost.exists_exact h c
  refine (hA 8).trans ?_
  refine Pipeline.Dat.arrAt_eq_of_covers _ 8 _ (by rw [win_eq]; exact covers) (fun t hf y => ?_) (Memref.isWhole_whole _)
  have ht := flush_at t (by rw [← win_eq m]; exact hf)
  obtain ⟨Y, _, hX⟩ := hL 8 t hf
  have hX' : Rl m c t (after 8 t) := hX
  blk_simp
  exact block_at m c t ht (after 8 t) hX' y

set_option maxHeartbeats 200000 in
theorem run_value (g : Dev nD → PrngReg) (hpos : Routed m) :
    θ_run defs (onTc (τ := τ) (main (F := Ideal))) (s₀ m g) (fun r => (∀ c : Dev nD,
      r.2.mem ((c.tc : Thread nD τ).loc main_v12) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun r h c => ⟨final m c r h.1, args_of m _ _ r h.1 c⟩)
    (run_main m (Inv m) (Rl m) g (bounded m) (inv_zero m) (inv_step m (bounded m) hpos) (fun c t S h O => rl_step m (bounded m) hpos c t S h O))

end Cert.KernelIdeal.Hand
-- ==== Proof.RefVal.lean ====
/- The reference's value at an index. -/
module

public import proofs.«01_k».proof.Proof.Spec
public import proofs.«01_k».proof.Proof.Gen.ReferenceIdeal.Run
public import Idealize.ShloMosaic.Lib.Pointwise
public import Idealize.ShloMosaic.PureOps.Ideal

@[expose] public section

set_option maxRecDepth 16384
set_option maxHeartbeats 1600000

noncomputable section

namespace Cert.ReferenceIdeal.Hand

open Idealize.ShloMosaic Idealize.ShloMosaic.TcCoe
open Cert.Layer
open Cert.ReferenceIdeal Cert.ReferenceIdeal.Gen Cert.ReferenceIdeal.Value

variable (V0 : Valuation τ sig (Elt Ideal))

/-- The gate's and the up projection's units of expert `e`. -/
def unitAt (e : Fin 8) (B : Fin 4) (T : Fin 8192) (f : Fin 7168) : EReal :=
  hid (fun k => V0 (Proc.devRef .tc main_arg1) (ix3 B T k)) (fun k f => V0 (Proc.devRef .tc main_arg4) (ix4 0 e k f)) f

/-- One expert's result, as the reference writes it. -/
def yAt (e : Fin 8) (B : Fin 4) (T : Fin 8192) (d : Fin 1024) : EReal :=
  yOf (fun k => V0 (Proc.devRef .tc main_arg1) (ix3 B T k)) (fun k f => V0 (Proc.devRef .tc main_arg4) (ix4 0 e k f)) (fun f d => V0 (Proc.devRef .tc main_arg5) (ix4 0 e f d)) d

theorem y_eq (e : Fin 8) (B : Fin 4) (T : Fin 8192) (d : Fin 1024) (g : Fin 3584 → EReal) (u : Fin 7168 → EReal)
    (hg : ∀ f : Fin 3584, g f = unitAt V0 e B T ⟨f.val, by omega⟩) (hu : ∀ f, u f = unitAt V0 e B T f) :
    (∑ x : Fin 3584, g x * Ideal.div 1 (1 + Ideal.exp (-g x)) * u ⟨3584 + x.val, by omega⟩ * V0 (Proc.devRef .tc main_arg5) (ix4 0 e x d)) = yAt V0 e B T d := by
  unfold yAt yOf unitOf
  refine Finset.sum_congr rfl fun x _ => ?_
  rw [hg, hu, zero_sub]
  rfl

theorem hi0 (B : Fin 4) (T : Fin 8192) (f : Fin 7168) : (res_main_v4 (F := Ideal) V0 (ix3 B T f) : EReal) = unitAt V0 0 B T f := by
  pointwise [res_main_v4, res_main_v0]
  rfl

theorem lo0 (B : Fin 4) (T : Fin 8192) (f : Fin 3584) : (res_main_v5 (F := Ideal) V0 (ix3 B T f) : EReal) = unitAt V0 0 B T ⟨f.val, by omega⟩ := by
  pointwise [res_main_v5, res_main_v4, res_main_v0]
  rfl

theorem hi1 (B : Fin 4) (T : Fin 8192) (f : Fin 7168) : (res_main_v18 (F := Ideal) V0 (ix3 B T f) : EReal) = unitAt V0 1 B T f := by
  pointwise [res_main_v18, res_main_v0]
  rfl

theorem lo1 (B : Fin 4) (T : Fin 8192) (f : Fin 3584) : (res_main_v19 (F := Ideal) V0 (ix3 B T f) : EReal) = unitAt V0 1 B T ⟨f.val, by omega⟩ := by
  pointwise [res_main_v19, res_main_v18, res_main_v0]
  rfl

theorem hi2 (B : Fin 4) (T : Fin 8192) (f : Fin 7168) : (res_main_v32 (F := Ideal) V0 (ix3 B T f) : EReal) = unitAt V0 2 B T f := by
  pointwise [res_main_v32, res_main_v0]
  rfl

theorem lo2 (B : Fin 4) (T : Fin 8192) (f : Fin 3584) : (res_main_v33 (F := Ideal) V0 (ix3 B T f) : EReal) = unitAt V0 2 B T ⟨f.val, by omega⟩ := by
  pointwise [res_main_v33, res_main_v32, res_main_v0]
  rfl

theorem hi3 (B : Fin 4) (T : Fin 8192) (f : Fin 7168) : (res_main_v46 (F := Ideal) V0 (ix3 B T f) : EReal) = unitAt V0 3 B T f := by
  pointwise [res_main_v46, res_main_v0]
  rfl

theorem lo3 (B : Fin 4) (T : Fin 8192) (f : Fin 3584) : (res_main_v47 (F := Ideal) V0 (ix3 B T f) : EReal) = unitAt V0 3 B T ⟨f.val, by omega⟩ := by
  pointwise [res_main_v47, res_main_v46, res_main_v0]
  rfl

theorem hi4 (B : Fin 4) (T : Fin 8192) (f : Fin 7168) : (res_main_v60 (F := Ideal) V0 (ix3 B T f) : EReal) = unitAt V0 4 B T f := by
  pointwise [res_main_v60, res_main_v0]
  rfl

theorem lo4 (B : Fin 4) (T : Fin 8192) (f : Fin 3584) : (res_main_v61 (F := Ideal) V0 (ix3 B T f) : EReal) = unitAt V0 4 B T ⟨f.val, by omega⟩ := by
  pointwise [res_main_v61, res_main_v60, res_main_v0]
  rfl

theorem hi5 (B : Fin 4) (T : Fin 8192) (f : Fin 7168) : (res_main_v74 (F := Ideal) V0 (ix3 B T f) : EReal) = unitAt V0 5 B T f := by
  pointwise [res_main_v74, res_main_v0]
  rfl

theorem lo5 (B : Fin 4) (T : Fin 8192) (f : Fin 3584) : (res_main_v75 (F := Ideal) V0 (ix3 B T f) : EReal) = unitAt V0 5 B T ⟨f.val, by omega⟩ := by
  pointwise [res_main_v75, res_main_v74, res_main_v0]
  rfl

theorem hi6 (B : Fin 4) (T : Fin 8192) (f : Fin 7168) : (res_main_v88 (F := Ideal) V0 (ix3 B T f) : EReal) = unitAt V0 6 B T f := by
  pointwise [res_main_v88, res_main_v0]
  rfl

theorem lo6 (B : Fin 4) (T : Fin 8192) (f : Fin 3584) : (res_main_v89 (F := Ideal) V0 (ix3 B T f) : EReal) = unitAt V0 6 B T ⟨f.val, by omega⟩ := by
  pointwise [res_main_v89, res_main_v88, res_main_v0]
  rfl

theorem hi7 (B : Fin 4) (T : Fin 8192) (f : Fin 7168) : (res_main_v102 (F := Ideal) V0 (ix3 B T f) : EReal) = unitAt V0 7 B T f := by
  pointwise [res_main_v102, res_main_v0]
  rfl

theorem lo7 (B : Fin 4) (T : Fin 8192) (f : Fin 3584) : (res_main_v103 (F := Ideal) V0 (ix3 B T f) : EReal) = unitAt V0 7 B T ⟨f.val, by omega⟩ := by
  pointwise [res_main_v103, res_main_v102, res_main_v0]
  rfl

/-- The token's weight for expert `e`. -/
def cAt (e : Fin 8) (B : Fin 4) (T : Fin 8192) : EReal := V0 (Proc.devRef .tc main_arg2) (ix3 B T ⟨e.val, by omega⟩)

theorem acc5 (B : Fin 4) (T : Fin 8192) (d : Fin 1024) : (res_main_v71 (F := Ideal) V0 (ix3 B T d) : EReal)
    = cAt V0 0 B T * yAt V0 0 B T d + cAt V0 1 B T * yAt V0 1 B T d + cAt V0 2 B T * yAt V0 2 B T d + cAt V0 3 B T * yAt V0 3 B T d + cAt V0 4 B T * yAt V0 4 B T d := by
  pointwise [res_main_v71]
  exact congrArg₂ _ (congrArg₂ _ (congrArg₂ _ (congrArg₂ _ (congrArg _ (y_eq V0 0 B T d (fun x => res_main_v5 (F := Ideal) V0 (ix3 B T x)) (fun x => res_main_v4 (F := Ideal) V0 (ix3 B T x)) (lo0 V0 B T) (hi0 V0 B T))) (congrArg _ (y_eq V0 1 B T d (fun x => res_main_v19 (F := Ideal) V0 (ix3 B T x)) (fun x => res_main_v18 (F := Ideal) V0 (ix3 B T x)) (lo1 V0 B T) (hi1 V0 B T)))) (congrArg _ (y_eq V0 2 B T d (fun x => res_main_v33 (F := Ideal) V0 (ix3 B T x)) (fun x => res_main_v32 (F := Ideal) V0 (ix3 B T x)) (lo2 V0 B T) (hi2 V0 B T)))) (congrArg _ (y_eq V0 3 B T d (fun x => res_main_v47 (F := Ideal) V0 (ix3 B T x)) (fun x => res_main_v46 (F := Ideal) V0 (ix3 B T x)) (lo3 V0 B T) (hi3 V0 B T)))) (congrArg _ (y_eq V0 4 B T d (fun x => res_main_v61 (F := Ideal) V0 (ix3 B T x)) (fun x => res_main_v60 (F := Ideal) V0 (ix3 B T x)) (lo4 V0 B T) (hi4 V0 B T)))

def accAt (B : Fin 4) (T : Fin 8192) (d : Fin 1024) : EReal := mixOf (fun e => cAt V0 e B T) (fun e => yAt V0 e B T d)

def rowRes (B : Fin 4) (T : Fin 8192) (d : Fin 1024) : EReal :=
  resOf (fun d => V0 (Proc.devRef .tc main_arg0) (ix3 B T d)) (fun d => V0 (Proc.devRef .tc main_arg3) (ix3 ⟨B.val, by omega⟩ 5 d)) (accAt V0 B T) d

theorem mixed (B : Fin 4) (T : Fin 8192) (d : Fin 1024) : (res_main_v117 (F := Ideal) V0 (ix3 B T d) : EReal) = rowRes V0 B T d := by
  pointwise [res_main_v117]
  unfold rowRes resOf accAt mixOf
  rw [Fin.sum_univ_eight]
  refine congrArg _ (congrArg _ ?_)
  exact congrArg₂ _ (congrArg₂ _ (congrArg₂ _ (acc5 V0 B T d) (congrArg _ (y_eq V0 5 B T d (fun x => res_main_v75 (F := Ideal) V0 (ix3 B T x)) (fun x => res_main_v74 (F := Ideal) V0 (ix3 B T x)) (lo5 V0 B T) (hi5 V0 B T)))) (congrArg _ (y_eq V0 6 B T d (fun x => res_main_v89 (F := Ideal) V0 (ix3 B T x)) (fun x => res_main_v88 (F := Ideal) V0 (ix3 B T x)) (lo6 V0 B T) (hi6 V0 B T)))) (congrArg _ (y_eq V0 7 B T d (fun x => res_main_v103 (F := Ideal) V0 (ix3 B T x)) (fun x => res_main_v102 (F := Ideal) V0 (ix3 B T x)) (lo7 V0 B T) (hi7 V0 B T)))

/-- The reference's result. -/
def refAt (B : Fin 4) (T : Fin 8192) (d : Fin 1024) : EReal :=
  outOf (fun d => V0 (Proc.devRef .tc main_arg0) (ix3 B T d)) (fun d => V0 (Proc.devRef .tc main_arg3) (ix3 ⟨B.val, by omega⟩ 5 d)) (accAt V0 B T)
    (fun d => V0 (Proc.devRef .tc main_arg6) (ix1 d)) d

theorem ref_at (B : Fin 4) (T : Fin 8192) (d : Fin 1024) :
    ((mulf (mulf (res_main_v117 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v117 V0) (res_main_v117 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V0 (Proc.devRef .tc main_arg6)))) : FVec Ideal S4x8192x1024 .f32) (ix3 B T d) : EReal) = refAt V0 B T d := by
  pointwise
  simp only [mixed]
  rfl

end Cert.ReferenceIdeal.Hand
-- ==== Proof.Routed.lean ====
/- What the precondition says of the array of routing weights. -/
module

public import proofs.«01_k».proof.Pre_routed
public import Idealize.ShloMosaic.Lib.ReduceAll
public import Idealize.ShloMosaic.Lib.Affine
public import Idealize.ShloMosaic.Lib.Pointwise
public import Idealize.ShloMosaic.PureOps.Ideal
public import Idealize.ShloMosaic.PureOps.Ideal.Laws

@[expose] public section

noncomputable section

namespace Cert.Pre_routed.Hand

open Idealize.ShloMosaic
open Cert.Pre_routed

/-- The predicate's side conditions. -/
instance facts : Cert.Pre_routed.Facts where
  slices_S4x8192x128_S4x8192x8_0_0_0 := by decide
  bcast_S_S4x8192x8 := by decide
  reducesTo_S4x8192x8_S_d0_1_2 := by decide
  h_S_ := by decide

/-- Where the predicate holds, no expert's routing weight is negative. -/
theorem nonneg (x : FVec Ideal S4x8192x1024 .f32) (h : FVec Ideal S4x8192x1024 .bf16) (w : FVec Ideal S4x8192x128 .f32)
    (a : FVec Ideal S8x8x1024 .f32) (g : FVec Ideal S1x8x1024x7168 .f32) (d : FVec Ideal S1x8x3584x1024 .f32) (n : FVec Ideal S1024 .f32)
    (hp : fn (F := Ideal) x h w a g d n = fun _ => 1#1) (b : Fin 4) (T : Fin 8192) (e : Fin 8) :
    (0 : EReal) ≤ w (ix3 b T ⟨e.val, by omega⟩) := by
  have : Subsingleton S_.Idx := ⟨fun a b => funext fun k => k.elim0⟩
  have bit := Host.reduce_andi_all _ _ _ _ (fun k => k.elim0) (congrFun hp _) (ix3 b T e)
  have at0 : (extractStridedSlice S4x8192x8 ![0, 0, 0] w Facts.slices_S4x8192x128_S4x8192x8_0_0_0 : FVec Ideal S4x8192x8 .f32) (ix3 b T e)
      = w (ix3 b T ⟨e.val, by omega⟩) := by
    pointwise
  have bit' : BitVec.ofBool (decide (Ideal.ofBits .f32 0x00000000#32 ≤
      ((extractStridedSlice S4x8192x8 ![0, 0, 0] w Facts.slices_S4x8192x128_S4x8192x8_0_0_0 : FVec Ideal S4x8192x8 .f32) (ix3 b T e) : EReal))) = 1#1 := bit
  rw [at0, Idealize.ShloMosaic.Ideal.ofBits_zero_f32] at bit'
  by_contra hn
  rw [decide_eq_false hn] at bit'
  exact absurd bit' (by decide)

end Cert.Pre_routed.Hand

end
-- ==== Proof.Algebra.lean ====
/- The kernel and the reference end with the same array, over the extended reals. -/
module

public import proofs.«01_k».proof.Defs
public import proofs.«01_k».proof.Proof.Value
public import proofs.«01_k».proof.Proof.RefVal
public import proofs.«01_k».proof.Proof.Routed
public import Idealize.ShloMosaic.Lib.Claim

@[expose] public section

set_option maxRecDepth 16384
set_option maxHeartbeats 1600000

noncomputable section

namespace Cert.Proof

open Idealize.ShloMosaic Idealize.ShloMosaic.TcCoe Idealize.SL.Sem
open Cert.Layer

/-- From arguments that agree, the reference's value at an index is the kernel's. -/
theorem same_at (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (b : Fin 4) (T : Fin 8192) (d : Fin 1024) :
    Cert.ReferenceIdeal.Hand.refAt V0 b T d = Cert.KernelIdeal.Hand.outE m c b T d := by
  unfold Cert.ReferenceIdeal.Hand.refAt Cert.ReferenceIdeal.Hand.accAt Cert.ReferenceIdeal.Hand.cAt Cert.ReferenceIdeal.Hand.yAt
  rw [h0, h1, h2, h3, h4, h5, h6]
  rfl

/-- The precondition, as the kernel's value uses it. -/
theorem routed_of (m : (ℓ : Loc Cert.KernelIdeal.nD Cert.KernelIdeal.τ Cert.KernelIdeal.sig) → Buf (Elt Ideal) ℓ)
    (h : Cert.Pre_KernelIdeal_routed m) : Cert.KernelIdeal.Hand.Routed m :=
  fun c e b T => Cert.Pre_routed.Hand.nonneg _ _ _ _ _ _ _ (h c) b T e

/-- The kernel's result is the reference's. -/
theorem algebraic : Cert.algebraic_KernelIdeal_ReferenceIdeal_pre_routed := by
  intro m g m' g' hpre hagree
  refine ⟨fun c => Cert.KernelIdeal.Hand.outArr m c, Cert.KernelIdeal.Hand.run_value m g (routed_of m hpre),
    (θ_run _ _ _).mono (fun r hr c => ⟨(hr c).1.trans ?_, (hr c).2⟩) (Cert.ReferenceIdeal.Value.run m' g')⟩
  obtain ⟨h0, h1, h2, h3, h4, h5, h6⟩ := hagree c
  funext i
  have hi : i = ix3 (i 0) (i 1) (i 2) := by
    funext k; fin_cases k <;> rfl
  rw [hi]
  exact (Cert.ReferenceIdeal.Hand.ref_at _ (i 0) (i 1) (i 2)).trans (same_at m _ c h0 h1 h2 h3 h4 h5 h6 (i 0) (i 1) (i 2))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Frames
public import proofs.«01_k».proof.Proof.Ref
public import proofs.«01_k».proof.Proof.Twin
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem frame_kernelIdeal : Cert.quiescent_KernelIdeal := fun m g _ => Cert.KernelIdeal.Hand.run_frame (F := Ideal) m g

theorem claim : Cert.Claim := ⟨Cert.Kernel.Gen.facts, Cert.KernelIdeal.Gen.facts, Cert.ReferenceIdeal.Gen.facts, Cert.Pre_routed.Hand.facts,
  frame_kernel, frame_kernelIdeal, fun m g _ => frame_kernelIdeal m g trivial,
  Cert.ReferenceIdeal.Hand.frame, fun m g _ => Cert.ReferenceIdeal.Hand.frame m g trivial, trivial, algebraic⟩

end Cert.Proof

end
